-- ==== Defs.lean ====
def Pre_Swiglu (m : (ℓ : Loc Cert.Swiglu.nD Cert.Swiglu.τ Cert.Swiglu.sig) → Buf (Elt Bits) ℓ) : Prop :=
  True

def Pre_SwigluIdeal (m : (ℓ : Loc Cert.SwigluIdeal.nD Cert.SwigluIdeal.τ Cert.SwigluIdeal.sig) → Buf (Elt Ideal) ℓ) : Prop :=
  True

def Pre_SwigluRefIdeal (m : (ℓ : Loc Cert.SwigluRefIdeal.nD Cert.SwigluRefIdeal.τ Cert.SwigluRefIdeal.sig) → Buf (Elt Ideal) ℓ) : Prop :=
  True

def Pre_FfnOut (m : (ℓ : Loc Cert.FfnOut.nD Cert.FfnOut.τ Cert.FfnOut.sig) → Buf (Elt Bits) ℓ) : Prop :=
  True

def Pre_FfnOutIdeal (m : (ℓ : Loc Cert.FfnOutIdeal.nD Cert.FfnOutIdeal.τ Cert.FfnOutIdeal.sig) → Buf (Elt Ideal) ℓ) : Prop :=
  True

def Pre_FfnOutRefIdeal (m : (ℓ : Loc Cert.FfnOutRefIdeal.nD Cert.FfnOutRefIdeal.τ Cert.FfnOutRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_InQ (m : (ℓ : Loc Cert.InQ.nD Cert.InQ.τ Cert.InQ.sig) → Buf (Elt Bits) ℓ) : Prop :=
  True

def Pre_InQIdeal (m : (ℓ : Loc Cert.InQIdeal.nD Cert.InQIdeal.τ Cert.InQIdeal.sig) → Buf (Elt Ideal) ℓ) : Prop :=
  True

def Pre_InQRefIdeal (m : (ℓ : Loc Cert.InQRefIdeal.nD Cert.InQRefIdeal.τ Cert.InQRefIdeal.sig) → Buf (Elt Ideal) ℓ) : Prop :=
  True

def Pre_InF (m : (ℓ : Loc Cert.InF.nD Cert.InF.τ Cert.InF.sig) → Buf (Elt Bits) ℓ) : Prop :=
  True

def Pre_InFIdeal (m : (ℓ : Loc Cert.InFIdeal.nD Cert.InFIdeal.τ Cert.InFIdeal.sig) → Buf (Elt Ideal) ℓ) : Prop :=
  True

def Pre_InFRefIdeal (m : (ℓ : Loc Cert.InFRefIdeal.nD Cert.InFRefIdeal.τ Cert.InFRefIdeal.sig) → Buf (Elt Ideal) ℓ) : Prop :=
  True

def Pre_InMain (m : (ℓ : Loc Cert.InMain.nD Cert.InMain.τ Cert.InMain.sig) → Buf (Elt Bits) ℓ) : Prop :=
  True

def Pre_InMainIdeal (m : (ℓ : Loc Cert.InMainIdeal.nD Cert.InMainIdeal.τ Cert.InMainIdeal.sig) → Buf (Elt Ideal) ℓ) : Prop :=
  True

def Pre_InMainRefIdeal (m : (ℓ : Loc Cert.InMainRefIdeal.nD Cert.InMainRefIdeal.τ Cert.InMainRefIdeal.sig) → Buf (Elt Ideal) ℓ) : Prop :=
  True

def Pre_InGates (m : (ℓ : Loc Cert.InGates.nD Cert.InGates.τ Cert.InGates.sig) → Buf (Elt Bits) ℓ) : Prop :=
  True

def Pre_InGatesIdeal (m : (ℓ : Loc Cert.InGatesIdeal.nD Cert.InGatesIdeal.τ Cert.InGatesIdeal.sig) → Buf (Elt Ideal) ℓ) : Prop :=
  True

def Pre_InGatesRefIdeal (m : (ℓ : Loc Cert.InGatesRefIdeal.nD Cert.InGatesRefIdeal.τ Cert.InGatesRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_NormFfn (m : (ℓ : Loc Cert.NormFfn.nD Cert.NormFfn.τ Cert.NormFfn.sig) → Buf (Elt Bits) ℓ) : Prop :=
  True

def Pre_NormFfnIdeal (m : (ℓ : Loc Cert.NormFfnIdeal.nD Cert.NormFfnIdeal.τ Cert.NormFfnIdeal.sig) → Buf (Elt Ideal) ℓ) : Prop :=
  True

def Pre_NormFfnRefIdeal (m : (ℓ : Loc Cert.NormFfnRefIdeal.nD Cert.NormFfnRefIdeal.τ Cert.NormFfnRefIdeal.sig) → Buf (Elt Ideal) ℓ) : Prop :=
  True

def Pre_NormMix (m : (ℓ : Loc Cert.NormMix.nD Cert.NormMix.τ Cert.NormMix.sig) → Buf (Elt Bits) ℓ) : Prop :=
  True

def Pre_NormMixIdeal (m : (ℓ : Loc Cert.NormMixIdeal.nD Cert.NormMixIdeal.τ Cert.NormMixIdeal.sig) → Buf (Elt Ideal) ℓ) : Prop :=
  True

def Pre_NormMixRefIdeal (m : (ℓ : Loc Cert.NormMixRefIdeal.nD Cert.NormMixRefIdeal.τ Cert.NormMixRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_Fox (m : (ℓ : Loc Cert.Fox.nD Cert.Fox.τ Cert.Fox.sig) → Buf (Elt Bits) ℓ) : Prop :=
  True

def Pre_FoxIdeal (m : (ℓ : Loc Cert.FoxIdeal.nD Cert.FoxIdeal.τ Cert.FoxIdeal.sig) → Buf (Elt Ideal) ℓ) : Prop :=
  True

def Pre_FoxIdeal_scores_finite [hPre_scores_finite : Cert.Pre_scores_finite.Facts] (m : (ℓ : Loc Cert.FoxIdeal.nD Cert.FoxIdeal.τ Cert.FoxIdeal.sig) → Buf (Elt Ideal) ℓ) : Prop :=
  ∀ c : Dev Cert.FoxIdeal.nD,
    (Cert.Pre_scores_finite.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3))).1 = (fun _ => 1#1)
    ∧ (Cert.Pre_scores_finite.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3))).2.1 = (fun _ => 1#1)
    ∧ (Cert.Pre_scores_finite.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3))).2.2 = (fun _ => 1#1)

def Pre_FoxRefIdeal (m : (ℓ : Loc Cert.FoxRefIdeal.nD Cert.FoxRefIdeal.τ Cert.FoxRefIdeal.sig) → Buf (Elt Ideal) ℓ) : Prop :=
  True

def Pre_FoxRefIdeal_scores_finite [hPre_scores_finite : Cert.Pre_scores_finite.Facts] (m : (ℓ : Loc Cert.FoxRefIdeal.nD Cert.FoxRefIdeal.τ Cert.FoxRefIdeal.sig) → Buf (Elt Ideal) ℓ) : Prop :=
  ∀ c : Dev Cert.FoxRefIdeal.nD,
    (Cert.Pre_scores_finite.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3))).1 = (fun _ => 1#1)
    ∧ (Cert.Pre_scores_finite.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3))).2.1 = (fun _ => 1#1)
    ∧ (Cert.Pre_scores_finite.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3))).2.2 = (fun _ => 1#1)

def quiescent_Swiglu [hSwiglu : Cert.Swiglu.Facts] : Prop :=
  ∀ (m : (ℓ : Loc Cert.Swiglu.nD Cert.Swiglu.τ Cert.Swiglu.sig) → Buf (Elt Bits) ℓ) (g : Dev Cert.Swiglu.nD → PrngReg), Pre_Swiglu m →
    θ_run (Cert.Swiglu.defs (F := Bits)) (onTc (τ := Cert.Swiglu.τ) (Cert.Swiglu.main (F := Bits))) ⟨m, fun _ => 0, g⟩ (fun r => (∀ c : Dev Cert.Swiglu.nD,
      r.2.mem ((c.tc : Thread Cert.Swiglu.nD Cert.Swiglu.τ).loc Cert.Swiglu.main_arg0) = m ((c.tc : Thread Cert.Swiglu.nD Cert.Swiglu.τ).loc Cert.Swiglu.main_arg0)
      ∧ r.2.mem ((c.tc : Thread Cert.Swiglu.nD Cert.Swiglu.τ).loc Cert.Swiglu.main_arg1) = m ((c.tc : Thread Cert.Swiglu.nD Cert.Swiglu.τ).loc Cert.Swiglu.main_arg1))
      ∧ r.2.sem = fun _ => 0)

def quiescent_SwigluIdeal [hSwigluIdeal : Cert.SwigluIdeal.Facts] : Prop :=
  ∀ (m : (ℓ : Loc Cert.SwigluIdeal.nD Cert.SwigluIdeal.τ Cert.SwigluIdeal.sig) → Buf (Elt Ideal) ℓ) (g : Dev Cert.SwigluIdeal.nD → PrngReg), Pre_SwigluIdeal m →
    θ_run (Cert.SwigluIdeal.defs (F := Ideal)) (onTc (τ := Cert.SwigluIdeal.τ) (Cert.SwigluIdeal.main (F := Ideal))) ⟨m, fun _ => 0, g⟩ (fun r => (∀ c : Dev Cert.SwigluIdeal.nD,
      r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
      ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1))
      ∧ r.2.sem = fun _ => 0)

def quiescent_SwigluRefIdeal [hSwigluRefIdeal : Cert.SwigluRefIdeal.Facts] : Prop :=
  ∀ (m : (ℓ : Loc Cert.SwigluRefIdeal.nD Cert.SwigluRefIdeal.τ Cert.SwigluRefIdeal.sig) → Buf (Elt Ideal) ℓ) (g : Dev Cert.SwigluRefIdeal.nD → PrngReg), Pre_SwigluRefIdeal m →
    θ_run (Cert.SwigluRefIdeal.defs (F := Ideal)) (onTc (τ := Cert.SwigluRefIdeal.τ) (Cert.SwigluRefIdeal.main (F := Ideal))) ⟨m, fun _ => 0, g⟩ (fun r => (∀ c : Dev Cert.SwigluRefIdeal.nD,
      r.2.mem ((c.tc : Thread Cert.SwigluRefIdeal.nD Cert.SwigluRefIdeal.τ).loc Cert.SwigluRefIdeal.main_arg0) = m ((c.tc : Thread Cert.SwigluRefIdeal.nD Cert.SwigluRefIdeal.τ).loc Cert.SwigluRefIdeal.main_arg0)
      ∧ r.2.mem ((c.tc : Thread Cert.SwigluRefIdeal.nD Cert.SwigluRefIdeal.τ).loc Cert.SwigluRefIdeal.main_arg1) = m ((c.tc : Thread Cert.SwigluRefIdeal.nD Cert.SwigluRefIdeal.τ).loc Cert.SwigluRefIdeal.main_arg1))
      ∧ r.2.sem = fun _ => 0)

def quiescent_FfnOut [hFfnOut : Cert.FfnOut.Facts] : Prop :=
  ∀ (m : (ℓ : Loc Cert.FfnOut.nD Cert.FfnOut.τ Cert.FfnOut.sig) → Buf (Elt Bits) ℓ) (g : Dev Cert.FfnOut.nD → PrngReg), Pre_FfnOut m →
    θ_run (Cert.FfnOut.defs (F := Bits)) (onTc (τ := Cert.FfnOut.τ) (Cert.FfnOut.main (F := Bits))) ⟨m, fun _ => 0, g⟩ (fun r => (∀ c : Dev Cert.FfnOut.nD,
      r.2.mem ((c.tc : Thread Cert.FfnOut.nD Cert.FfnOut.τ).loc Cert.FfnOut.main_arg0) = m ((c.tc : Thread Cert.FfnOut.nD Cert.FfnOut.τ).loc Cert.FfnOut.main_arg0)
      ∧ r.2.mem ((c.tc : Thread Cert.FfnOut.nD Cert.FfnOut.τ).loc Cert.FfnOut.main_arg1) = m ((c.tc : Thread Cert.FfnOut.nD Cert.FfnOut.τ).loc Cert.FfnOut.main_arg1)
      ∧ r.2.mem ((c.tc : Thread Cert.FfnOut.nD Cert.FfnOut.τ).loc Cert.FfnOut.main_arg2) = m ((c.tc : Thread Cert.FfnOut.nD Cert.FfnOut.τ).loc Cert.FfnOut.main_arg2)
      ∧ r.2.mem ((c.tc : Thread Cert.FfnOut.nD Cert.FfnOut.τ).loc Cert.FfnOut.main_arg3) = m ((c.tc : Thread Cert.FfnOut.nD Cert.FfnOut.τ).loc Cert.FfnOut.main_arg3))
      ∧ r.2.sem = fun _ => 0)

def quiescent_FfnOutIdeal [hFfnOutIdeal : Cert.FfnOutIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg), Pre_FfnOutIdeal m →
    θ_run (Cert.FfnOutIdeal.defs (F := Ideal)) (onTc (τ := Cert.FfnOutIdeal.τ) (Cert.FfnOutIdeal.main (F := Ideal))) ⟨m, fun _ => 0, g⟩ (fun r => (∀ c : Dev Cert.FfnOutIdeal.nD,
      r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
      ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
      ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2)
      ∧ r.2.mem ((c.tc : Thread Cert.FfnOutIdeal.nD Cert.FfnOutIdeal.τ).loc Cert.FfnOutIdeal.main_arg3) = m ((c.tc : Thread Cert.FfnOutIdeal.nD Cert.FfnOutIdeal.τ).loc Cert.FfnOutIdeal.main_arg3))
      ∧ r.2.sem = fun _ => 0)

def quiescent_FfnOutRefIdeal [hFfnOutRefIdeal : Cert.FfnOutRefIdeal.Facts] : Prop :=
  ∀ (m : (ℓ : Loc Cert.FfnOutRefIdeal.nD Cert.FfnOutRefIdeal.τ Cert.FfnOutRefIdeal.sig) → Buf (Elt Ideal) ℓ) (g : Dev Cert.FfnOutRefIdeal.nD → PrngReg), Pre_FfnOutRefIdeal m →
    θ_run (Cert.FfnOutRefIdeal.defs (F := Ideal)) (onTc (τ := Cert.FfnOutRefIdeal.τ) (Cert.FfnOutRefIdeal.main (F := Ideal))) ⟨m, fun _ => 0, g⟩ (fun r => (∀ c : Dev Cert.FfnOutRefIdeal.nD,
      r.2.mem ((c.tc : Thread Cert.FfnOutRefIdeal.nD Cert.FfnOutRefIdeal.τ).loc Cert.FfnOutRefIdeal.main_arg0) = m ((c.tc : Thread Cert.FfnOutRefIdeal.nD Cert.FfnOutRefIdeal.τ).loc Cert.FfnOutRefIdeal.main_arg0)
      ∧ r.2.mem ((c.tc : Thread Cert.FfnOutRefIdeal.nD Cert.FfnOutRefIdeal.τ).loc Cert.FfnOutRefIdeal.main_arg1) = m ((c.tc : Thread Cert.FfnOutRefIdeal.nD Cert.FfnOutRefIdeal.τ).loc Cert.FfnOutRefIdeal.main_arg1)
      ∧ r.2.mem ((c.tc : Thread Cert.FfnOutRefIdeal.nD Cert.FfnOutRefIdeal.τ).loc Cert.FfnOutRefIdeal.main_arg2) = m ((c.tc : Thread Cert.FfnOutRefIdeal.nD Cert.FfnOutRefIdeal.τ).loc Cert.FfnOutRefIdeal.main_arg2)
      ∧ r.2.mem ((c.tc : Thread Cert.FfnOutRefIdeal.nD Cert.FfnOutRefIdeal.τ).loc Cert.FfnOutRefIdeal.main_arg3) = m ((c.tc : Thread Cert.FfnOutRefIdeal.nD Cert.FfnOutRefIdeal.τ).loc Cert.FfnOutRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_InQ [hInQ : Cert.InQ.Facts] : Prop :=
  ∀ (m : (ℓ : Loc Cert.InQ.nD Cert.InQ.τ Cert.InQ.sig) → Buf (Elt Bits) ℓ) (g : Dev Cert.InQ.nD → PrngReg), Pre_InQ m →
    θ_run (Cert.InQ.defs (F := Bits)) (onTc (τ := Cert.InQ.τ) (Cert.InQ.main (F := Bits))) ⟨m, fun _ => 0, g⟩ (fun r => (∀ c : Dev Cert.InQ.nD,
      r.2.mem ((c.tc : Thread Cert.InQ.nD Cert.InQ.τ).loc Cert.InQ.main_arg0) = m ((c.tc : Thread Cert.InQ.nD Cert.InQ.τ).loc Cert.InQ.main_arg0)
      ∧ r.2.mem ((c.tc : Thread Cert.InQ.nD Cert.InQ.τ).loc Cert.InQ.main_arg1) = m ((c.tc : Thread Cert.InQ.nD Cert.InQ.τ).loc Cert.InQ.main_arg1)
      ∧ r.2.mem ((c.tc : Thread Cert.InQ.nD Cert.InQ.τ).loc Cert.InQ.main_arg2) = m ((c.tc : Thread Cert.InQ.nD Cert.InQ.τ).loc Cert.InQ.main_arg2))
      ∧ r.2.sem = fun _ => 0)

def quiescent_InQIdeal [hInQIdeal : Cert.InQIdeal.Facts] : Prop :=
  ∀ (m : (ℓ : Loc Cert.InQIdeal.nD Cert.InQIdeal.τ Cert.InQIdeal.sig) → Buf (Elt Ideal) ℓ) (g : Dev Cert.InQIdeal.nD → PrngReg), Pre_InQIdeal m →
    θ_run (Cert.InQIdeal.defs (F := Ideal)) (onTc (τ := Cert.InQIdeal.τ) (Cert.InQIdeal.main (F := Ideal))) ⟨m, fun _ => 0, g⟩ (fun r => (∀ c : Dev Cert.InQIdeal.nD,
      r.2.mem ((c.tc : Thread Cert.InQIdeal.nD Cert.InQIdeal.τ).loc Cert.InQIdeal.main_arg0) = m ((c.tc : Thread Cert.InQIdeal.nD Cert.InQIdeal.τ).loc Cert.InQIdeal.main_arg0)
      ∧ r.2.mem ((c.tc : Thread Cert.InQIdeal.nD Cert.InQIdeal.τ).loc Cert.InQIdeal.main_arg1) = m ((c.tc : Thread Cert.InQIdeal.nD Cert.InQIdeal.τ).loc Cert.InQIdeal.main_arg1)
      ∧ r.2.mem ((c.tc : Thread Cert.InQIdeal.nD Cert.InQIdeal.τ).loc Cert.InQIdeal.main_arg2) = m ((c.tc : Thread Cert.InQIdeal.nD Cert.InQIdeal.τ).loc Cert.InQIdeal.main_arg2))
      ∧ r.2.sem = fun _ => 0)

def quiescent_InQRefIdeal [hInQRefIdeal : Cert.InQRefIdeal.Facts] : Prop :=
  ∀ (m : (ℓ : Loc Cert.InQRefIdeal.nD Cert.InQRefIdeal.τ Cert.InQRefIdeal.sig) → Buf (Elt Ideal) ℓ) (g : Dev Cert.InQRefIdeal.nD → PrngReg), Pre_InQRefIdeal m →
    θ_run (Cert.InQRefIdeal.defs (F := Ideal)) (onTc (τ := Cert.InQRefIdeal.τ) (Cert.InQRefIdeal.main (F := Ideal))) ⟨m, fun _ => 0, g⟩ (fun r => (∀ c : Dev Cert.InQRefIdeal.nD,
      r.2.mem ((c.tc : Thread Cert.InQRefIdeal.nD Cert.InQRefIdeal.τ).loc Cert.InQRefIdeal.main_arg0) = m ((c.tc : Thread Cert.InQRefIdeal.nD Cert.InQRefIdeal.τ).loc Cert.InQRefIdeal.main_arg0)
      ∧ r.2.mem ((c.tc : Thread Cert.InQRefIdeal.nD Cert.InQRefIdeal.τ).loc Cert.InQRefIdeal.main_arg1) = m ((c.tc : Thread Cert.InQRefIdeal.nD Cert.InQRefIdeal.τ).loc Cert.InQRefIdeal.main_arg1)
      ∧ r.2.mem ((c.tc : Thread Cert.InQRefIdeal.nD Cert.InQRefIdeal.τ).loc Cert.InQRefIdeal.main_arg2) = m ((c.tc : Thread Cert.InQRefIdeal.nD Cert.InQRefIdeal.τ).loc Cert.InQRefIdeal.main_arg2))
      ∧ r.2.sem = fun _ => 0)

def quiescent_InF [hInF : Cert.InF.Facts] : Prop :=
  ∀ (m : (ℓ : Loc Cert.InF.nD Cert.InF.τ Cert.InF.sig) → Buf (Elt Bits) ℓ) (g : Dev Cert.InF.nD → PrngReg), Pre_InF m →
    θ_run (Cert.InF.defs (F := Bits)) (onTc (τ := Cert.InF.τ) (Cert.InF.main (F := Bits))) ⟨m, fun _ => 0, g⟩ (fun r => (∀ c : Dev Cert.InF.nD,
      r.2.mem ((c.tc : Thread Cert.InF.nD Cert.InF.τ).loc Cert.InF.main_arg0) = m ((c.tc : Thread Cert.InF.nD Cert.InF.τ).loc Cert.InF.main_arg0)
      ∧ r.2.mem ((c.tc : Thread Cert.InF.nD Cert.InF.τ).loc Cert.InF.main_arg1) = m ((c.tc : Thread Cert.InF.nD Cert.InF.τ).loc Cert.InF.main_arg1)
      ∧ r.2.mem ((c.tc : Thread Cert.InF.nD Cert.InF.τ).loc Cert.InF.main_arg2) = m ((c.tc : Thread Cert.InF.nD Cert.InF.τ).loc Cert.InF.main_arg2))
      ∧ r.2.sem = fun _ => 0)

def quiescent_InFIdeal [hInFIdeal : Cert.InFIdeal.Facts] : Prop :=
  ∀ (m : (ℓ : Loc Cert.InFIdeal.nD Cert.InFIdeal.τ Cert.InFIdeal.sig) → Buf (Elt Ideal) ℓ) (g : Dev Cert.InFIdeal.nD → PrngReg), Pre_InFIdeal m →
    θ_run (Cert.InFIdeal.defs (F := Ideal)) (onTc (τ := Cert.InFIdeal.τ) (Cert.InFIdeal.main (F := Ideal))) ⟨m, fun _ => 0, g⟩ (fun r => (∀ c : Dev Cert.InFIdeal.nD,
      r.2.mem ((c.tc : Thread Cert.InFIdeal.nD Cert.InFIdeal.τ).loc Cert.InFIdeal.main_arg0) = m ((c.tc : Thread Cert.InFIdeal.nD Cert.InFIdeal.τ).loc Cert.InFIdeal.main_arg0)
      ∧ r.2.mem ((c.tc : Thread Cert.InFIdeal.nD Cert.InFIdeal.τ).loc Cert.InFIdeal.main_arg1) = m ((c.tc : Thread Cert.InFIdeal.nD Cert.InFIdeal.τ).loc Cert.InFIdeal.main_arg1)
      ∧ r.2.mem ((c.tc : Thread Cert.InFIdeal.nD Cert.InFIdeal.τ).loc Cert.InFIdeal.main_arg2) = m ((c.tc : Thread Cert.InFIdeal.nD Cert.InFIdeal.τ).loc Cert.InFIdeal.main_arg2))
      ∧ r.2.sem = fun _ => 0)

def quiescent_InFRefIdeal [hInFRefIdeal : Cert.InFRefIdeal.Facts] : Prop :=
  ∀ (m : (ℓ : Loc Cert.InFRefIdeal.nD Cert.InFRefIdeal.τ Cert.InFRefIdeal.sig) → Buf (Elt Ideal) ℓ) (g : Dev Cert.InFRefIdeal.nD → PrngReg), Pre_InFRefIdeal m →
    θ_run (Cert.InFRefIdeal.defs (F := Ideal)) (onTc (τ := Cert.InFRefIdeal.τ) (Cert.InFRefIdeal.main (F := Ideal))) ⟨m, fun _ => 0, g⟩ (fun r => (∀ c : Dev Cert.InFRefIdeal.nD,
      r.2.mem ((c.tc : Thread Cert.InFRefIdeal.nD Cert.InFRefIdeal.τ).loc Cert.InFRefIdeal.main_arg0) = m ((c.tc : Thread Cert.InFRefIdeal.nD Cert.InFRefIdeal.τ).loc Cert.InFRefIdeal.main_arg0)
      ∧ r.2.mem ((c.tc : Thread Cert.InFRefIdeal.nD Cert.InFRefIdeal.τ).loc Cert.InFRefIdeal.main_arg1) = m ((c.tc : Thread Cert.InFRefIdeal.nD Cert.InFRefIdeal.τ).loc Cert.InFRefIdeal.main_arg1)
      ∧ r.2.mem ((c.tc : Thread Cert.InFRefIdeal.nD Cert.InFRefIdeal.τ).loc Cert.InFRefIdeal.main_arg2) = m ((c.tc : Thread Cert.InFRefIdeal.nD Cert.InFRefIdeal.τ).loc Cert.InFRefIdeal.main_arg2))
      ∧ r.2.sem = fun _ => 0)

def quiescent_InMain [hInMain : Cert.InMain.Facts] : Prop :=
  ∀ (m : (ℓ : Loc Cert.InMain.nD Cert.InMain.τ Cert.InMain.sig) → Buf (Elt Bits) ℓ) (g : Dev Cert.InMain.nD → PrngReg), Pre_InMain m →
    θ_run (Cert.InMain.defs (F := Bits)) (onTc (τ := Cert.InMain.τ) (Cert.InMain.main (F := Bits))) ⟨m, fun _ => 0, g⟩ (fun r => (∀ c : Dev Cert.InMain.nD,
      r.2.mem ((c.tc : Thread Cert.InMain.nD Cert.InMain.τ).loc Cert.InMain.main_arg0) = m ((c.tc : Thread Cert.InMain.nD Cert.InMain.τ).loc Cert.InMain.main_arg0)
      ∧ r.2.mem ((c.tc : Thread Cert.InMain.nD Cert.InMain.τ).loc Cert.InMain.main_arg1) = m ((c.tc : Thread Cert.InMain.nD Cert.InMain.τ).loc Cert.InMain.main_arg1)
      ∧ r.2.mem ((c.tc : Thread Cert.InMain.nD Cert.InMain.τ).loc Cert.InMain.main_arg2) = m ((c.tc : Thread Cert.InMain.nD Cert.InMain.τ).loc Cert.InMain.main_arg2)
      ∧ r.2.mem ((c.tc : Thread Cert.InMain.nD Cert.InMain.τ).loc Cert.InMain.main_arg3) = m ((c.tc : Thread Cert.InMain.nD Cert.InMain.τ).loc Cert.InMain.main_arg3)
      ∧ r.2.mem ((c.tc : Thread Cert.InMain.nD Cert.InMain.τ).loc Cert.InMain.main_arg4) = m ((c.tc : Thread Cert.InMain.nD Cert.InMain.τ).loc Cert.InMain.main_arg4)
      ∧ r.2.mem ((c.tc : Thread Cert.InMain.nD Cert.InMain.τ).loc Cert.InMain.main_arg5) = m ((c.tc : Thread Cert.InMain.nD Cert.InMain.τ).loc Cert.InMain.main_arg5)
      ∧ r.2.mem ((c.tc : Thread Cert.InMain.nD Cert.InMain.τ).loc Cert.InMain.main_arg6) = m ((c.tc : Thread Cert.InMain.nD Cert.InMain.τ).loc Cert.InMain.main_arg6)
      ∧ r.2.mem ((c.tc : Thread Cert.InMain.nD Cert.InMain.τ).loc Cert.InMain.main_arg7) = m ((c.tc : Thread Cert.InMain.nD Cert.InMain.τ).loc Cert.InMain.main_arg7))
      ∧ r.2.sem = fun _ => 0)

def quiescent_InMainIdeal [hInMainIdeal : Cert.InMainIdeal.Facts] : Prop :=
  ∀ (m : (ℓ : Loc Cert.InMainIdeal.nD Cert.InMainIdeal.τ Cert.InMainIdeal.sig) → Buf (Elt Ideal) ℓ) (g : Dev Cert.InMainIdeal.nD → PrngReg), Pre_InMainIdeal m →
    θ_run (Cert.InMainIdeal.defs (F := Ideal)) (onTc (τ := Cert.InMainIdeal.τ) (Cert.InMainIdeal.main (F := Ideal))) ⟨m, fun _ => 0, g⟩ (fun r => (∀ c : Dev Cert.InMainIdeal.nD,
      r.2.mem ((c.tc : Thread Cert.InMainIdeal.nD Cert.InMainIdeal.τ).loc Cert.InMainIdeal.main_arg0) = m ((c.tc : Thread Cert.InMainIdeal.nD Cert.InMainIdeal.τ).loc Cert.InMainIdeal.main_arg0)
      ∧ r.2.mem ((c.tc : Thread Cert.InMainIdeal.nD Cert.InMainIdeal.τ).loc Cert.InMainIdeal.main_arg1) = m ((c.tc : Thread Cert.InMainIdeal.nD Cert.InMainIdeal.τ).loc Cert.InMainIdeal.main_arg1)
      ∧ r.2.mem ((c.tc : Thread Cert.InMainIdeal.nD Cert.InMainIdeal.τ).loc Cert.InMainIdeal.main_arg2) = m ((c.tc : Thread Cert.InMainIdeal.nD Cert.InMainIdeal.τ).loc Cert.InMainIdeal.main_arg2)
      ∧ r.2.mem ((c.tc : Thread Cert.InMainIdeal.nD Cert.InMainIdeal.τ).loc Cert.InMainIdeal.main_arg3) = m ((c.tc : Thread Cert.InMainIdeal.nD Cert.InMainIdeal.τ).loc Cert.InMainIdeal.main_arg3)
      ∧ r.2.mem ((c.tc : Thread Cert.InMainIdeal.nD Cert.InMainIdeal.τ).loc Cert.InMainIdeal.main_arg4) = m ((c.tc : Thread Cert.InMainIdeal.nD Cert.InMainIdeal.τ).loc Cert.InMainIdeal.main_arg4)
      ∧ r.2.mem ((c.tc : Thread Cert.InMainIdeal.nD Cert.InMainIdeal.τ).loc Cert.InMainIdeal.main_arg5) = m ((c.tc : Thread Cert.InMainIdeal.nD Cert.InMainIdeal.τ).loc Cert.InMainIdeal.main_arg5)
      ∧ r.2.mem ((c.tc : Thread Cert.InMainIdeal.nD Cert.InMainIdeal.τ).loc Cert.InMainIdeal.main_arg6) = m ((c.tc : Thread Cert.InMainIdeal.nD Cert.InMainIdeal.τ).loc Cert.InMainIdeal.main_arg6)
      ∧ r.2.mem ((c.tc : Thread Cert.InMainIdeal.nD Cert.InMainIdeal.τ).loc Cert.InMainIdeal.main_arg7) = m ((c.tc : Thread Cert.InMainIdeal.nD Cert.InMainIdeal.τ).loc Cert.InMainIdeal.main_arg7))
      ∧ r.2.sem = fun _ => 0)

def quiescent_InMainRefIdeal [hInMainRefIdeal : Cert.InMainRefIdeal.Facts] : Prop :=
  ∀ (m : (ℓ : Loc Cert.InMainRefIdeal.nD Cert.InMainRefIdeal.τ Cert.InMainRefIdeal.sig) → Buf (Elt Ideal) ℓ) (g : Dev Cert.InMainRefIdeal.nD → PrngReg), Pre_InMainRefIdeal m →
    θ_run (Cert.InMainRefIdeal.defs (F := Ideal)) (onTc (τ := Cert.InMainRefIdeal.τ) (Cert.InMainRefIdeal.main (F := Ideal))) ⟨m, fun _ => 0, g⟩ (fun r => (∀ c : Dev Cert.InMainRefIdeal.nD,
      r.2.mem ((c.tc : Thread Cert.InMainRefIdeal.nD Cert.InMainRefIdeal.τ).loc Cert.InMainRefIdeal.main_arg0) = m ((c.tc : Thread Cert.InMainRefIdeal.nD Cert.InMainRefIdeal.τ).loc Cert.InMainRefIdeal.main_arg0)
      ∧ r.2.mem ((c.tc : Thread Cert.InMainRefIdeal.nD Cert.InMainRefIdeal.τ).loc Cert.InMainRefIdeal.main_arg1) = m ((c.tc : Thread Cert.InMainRefIdeal.nD Cert.InMainRefIdeal.τ).loc Cert.InMainRefIdeal.main_arg1)
      ∧ r.2.mem ((c.tc : Thread Cert.InMainRefIdeal.nD Cert.InMainRefIdeal.τ).loc Cert.InMainRefIdeal.main_arg2) = m ((c.tc : Thread Cert.InMainRefIdeal.nD Cert.InMainRefIdeal.τ).loc Cert.InMainRefIdeal.main_arg2)
      ∧ r.2.mem ((c.tc : Thread Cert.InMainRefIdeal.nD Cert.InMainRefIdeal.τ).loc Cert.InMainRefIdeal.main_arg3) = m ((c.tc : Thread Cert.InMainRefIdeal.nD Cert.InMainRefIdeal.τ).loc Cert.InMainRefIdeal.main_arg3)
      ∧ r.2.mem ((c.tc : Thread Cert.InMainRefIdeal.nD Cert.InMainRefIdeal.τ).loc Cert.InMainRefIdeal.main_arg4) = m ((c.tc : Thread Cert.InMainRefIdeal.nD Cert.InMainRefIdeal.τ).loc Cert.InMainRefIdeal.main_arg4)
      ∧ r.2.mem ((c.tc : Thread Cert.InMainRefIdeal.nD Cert.InMainRefIdeal.τ).loc Cert.InMainRefIdeal.main_arg5) = m ((c.tc : Thread Cert.InMainRefIdeal.nD Cert.InMainRefIdeal.τ).loc Cert.InMainRefIdeal.main_arg5)
      ∧ r.2.mem ((c.tc : Thread Cert.InMainRefIdeal.nD Cert.InMainRefIdeal.τ).loc Cert.InMainRefIdeal.main_arg6) = m ((c.tc : Thread Cert.InMainRefIdeal.nD Cert.InMainRefIdeal.τ).loc Cert.InMainRefIdeal.main_arg6)
      ∧ r.2.mem ((c.tc : Thread Cert.InMainRefIdeal.nD Cert.InMainRefIdeal.τ).loc Cert.InMainRefIdeal.main_arg7) = m ((c.tc : Thread Cert.InMainRefIdeal.nD Cert.InMainRefIdeal.τ).loc Cert.InMainRefIdeal.main_arg7))
      ∧ r.2.sem = fun _ => 0)

def quiescent_InGates [hInGates : Cert.InGates.Facts] : Prop :=
  ∀ (m : (ℓ : Loc Cert.InGates.nD Cert.InGates.τ Cert.InGates.sig) → Buf (Elt Bits) ℓ) (g : Dev Cert.InGates.nD → PrngReg), Pre_InGates m →
    θ_run (Cert.InGates.defs (F := Bits)) (onTc (τ := Cert.InGates.τ) (Cert.InGates.main (F := Bits))) ⟨m, fun _ => 0, g⟩ (fun r => (∀ c : Dev Cert.InGates.nD,
      r.2.mem ((c.tc : Thread Cert.InGates.nD Cert.InGates.τ).loc Cert.InGates.main_arg0) = m ((c.tc : Thread Cert.InGates.nD Cert.InGates.τ).loc Cert.InGates.main_arg0)
      ∧ r.2.mem ((c.tc : Thread Cert.InGates.nD Cert.InGates.τ).loc Cert.InGates.main_arg1) = m ((c.tc : Thread Cert.InGates.nD Cert.InGates.τ).loc Cert.InGates.main_arg1)
      ∧ r.2.mem ((c.tc : Thread Cert.InGates.nD Cert.InGates.τ).loc Cert.InGates.main_arg2) = m ((c.tc : Thread Cert.InGates.nD Cert.InGates.τ).loc Cert.InGates.main_arg2))
      ∧ r.2.sem = fun _ => 0)

def quiescent_InGatesIdeal [hInGatesIdeal : Cert.InGatesIdeal.Facts] : Prop :=
  ∀ (m : (ℓ : Loc Cert.InGatesIdeal.nD Cert.InGatesIdeal.τ Cert.InGatesIdeal.sig) → Buf (Elt Ideal) ℓ) (g : Dev Cert.InGatesIdeal.nD → PrngReg), Pre_InGatesIdeal m →
    θ_run (Cert.InGatesIdeal.defs (F := Ideal)) (onTc (τ := Cert.InGatesIdeal.τ) (Cert.InGatesIdeal.main (F := Ideal))) ⟨m, fun _ => 0, g⟩ (fun r => (∀ c : Dev Cert.InGatesIdeal.nD,
      r.2.mem ((c.tc : Thread Cert.InGatesIdeal.nD Cert.InGatesIdeal.τ).loc Cert.InGatesIdeal.main_arg0) = m ((c.tc : Thread Cert.InGatesIdeal.nD Cert.InGatesIdeal.τ).loc Cert.InGatesIdeal.main_arg0)
      ∧ r.2.mem ((c.tc : Thread Cert.InGatesIdeal.nD Cert.InGatesIdeal.τ).loc Cert.InGatesIdeal.main_arg1) = m ((c.tc : Thread Cert.InGatesIdeal.nD Cert.InGatesIdeal.τ).loc Cert.InGatesIdeal.main_arg1)
      ∧ r.2.mem ((c.tc : Thread Cert.InGatesIdeal.nD Cert.InGatesIdeal.τ).loc Cert.InGatesIdeal.main_arg2) = m ((c.tc : Thread Cert.InGatesIdeal.nD Cert.InGatesIdeal.τ).loc Cert.InGatesIdeal.main_arg2))
      ∧ r.2.sem = fun _ => 0)

def quiescent_InGatesRefIdeal [hInGatesRefIdeal : Cert.InGatesRefIdeal.Facts] : Prop :=
  ∀ (m : (ℓ : Loc Cert.InGatesRefIdeal.nD Cert.InGatesRefIdeal.τ Cert.InGatesRefIdeal.sig) → Buf (Elt Ideal) ℓ) (g : Dev Cert.InGatesRefIdeal.nD → PrngReg), Pre_InGatesRefIdeal m →
    θ_run (Cert.InGatesRefIdeal.defs (F := Ideal)) (onTc (τ := Cert.InGatesRefIdeal.τ) (Cert.InGatesRefIdeal.main (F := Ideal))) ⟨m, fun _ => 0, g⟩ (fun r => (∀ c : Dev Cert.InGatesRefIdeal.nD,
      r.2.mem ((c.tc : Thread Cert.InGatesRefIdeal.nD Cert.InGatesRefIdeal.τ).loc Cert.InGatesRefIdeal.main_arg0) = m ((c.tc : Thread Cert.InGatesRefIdeal.nD Cert.InGatesRefIdeal.τ).loc Cert.InGatesRefIdeal.main_arg0)
      ∧ r.2.mem ((c.tc : Thread Cert.InGatesRefIdeal.nD Cert.InGatesRefIdeal.τ).loc Cert.InGatesRefIdeal.main_arg1) = m ((c.tc : Thread Cert.InGatesRefIdeal.nD Cert.InGatesRefIdeal.τ).loc Cert.InGatesRefIdeal.main_arg1)
      ∧ r.2.mem ((c.tc : Thread Cert.InGatesRefIdeal.nD Cert.InGatesRefIdeal.τ).loc Cert.InGatesRefIdeal.main_arg2) = m ((c.tc : Thread Cert.InGatesRefIdeal.nD Cert.InGatesRefIdeal.τ).loc Cert.InGatesRefIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4))
      ∧ r.2.sem = fun _ => 0)

def quiescent_NormFfn [hNormFfn : Cert.NormFfn.Facts] : Prop :=
  ∀ (m : (ℓ : Loc Cert.NormFfn.nD Cert.NormFfn.τ Cert.NormFfn.sig) → Buf (Elt Bits) ℓ) (g : Dev Cert.NormFfn.nD → PrngReg), Pre_NormFfn m →
    θ_run (Cert.NormFfn.defs (F := Bits)) (onTc (τ := Cert.NormFfn.τ) (Cert.NormFfn.main (F := Bits))) ⟨m, fun _ => 0, g⟩ (fun r => (∀ c : Dev Cert.NormFfn.nD,
      r.2.mem ((c.tc : Thread Cert.NormFfn.nD Cert.NormFfn.τ).loc Cert.NormFfn.main_arg0) = m ((c.tc : Thread Cert.NormFfn.nD Cert.NormFfn.τ).loc Cert.NormFfn.main_arg0)
      ∧ r.2.mem ((c.tc : Thread Cert.NormFfn.nD Cert.NormFfn.τ).loc Cert.NormFfn.main_arg1) = m ((c.tc : Thread Cert.NormFfn.nD Cert.NormFfn.τ).loc Cert.NormFfn.main_arg1)
      ∧ r.2.mem ((c.tc : Thread Cert.NormFfn.nD Cert.NormFfn.τ).loc Cert.NormFfn.main_arg2) = m ((c.tc : Thread Cert.NormFfn.nD Cert.NormFfn.τ).loc Cert.NormFfn.main_arg2))
      ∧ r.2.sem = fun _ => 0)

def quiescent_NormFfnIdeal [hNormFfnIdeal : Cert.NormFfnIdeal.Facts] : Prop :=
  ∀ (m : (ℓ : Loc Cert.NormFfnIdeal.nD Cert.NormFfnIdeal.τ Cert.NormFfnIdeal.sig) → Buf (Elt Ideal) ℓ) (g : Dev Cert.NormFfnIdeal.nD → PrngReg), Pre_NormFfnIdeal m →
    θ_run (Cert.NormFfnIdeal.defs (F := Ideal)) (onTc (τ := Cert.NormFfnIdeal.τ) (Cert.NormFfnIdeal.main (F := Ideal))) ⟨m, fun _ => 0, g⟩ (fun r => (∀ c : Dev Cert.NormFfnIdeal.nD,
      r.2.mem ((c.tc : Thread Cert.NormFfnIdeal.nD Cert.NormFfnIdeal.τ).loc Cert.NormFfnIdeal.main_arg0) = m ((c.tc : Thread Cert.NormFfnIdeal.nD Cert.NormFfnIdeal.τ).loc Cert.NormFfnIdeal.main_arg0)
      ∧ r.2.mem ((c.tc : Thread Cert.NormFfnIdeal.nD Cert.NormFfnIdeal.τ).loc Cert.NormFfnIdeal.main_arg1) = m ((c.tc : Thread Cert.NormFfnIdeal.nD Cert.NormFfnIdeal.τ).loc Cert.NormFfnIdeal.main_arg1)
      ∧ r.2.mem ((c.tc : Thread Cert.NormFfnIdeal.nD Cert.NormFfnIdeal.τ).loc Cert.NormFfnIdeal.main_arg2) = m ((c.tc : Thread Cert.NormFfnIdeal.nD Cert.NormFfnIdeal.τ).loc Cert.NormFfnIdeal.main_arg2))
      ∧ r.2.sem = fun _ => 0)

def quiescent_NormFfnRefIdeal [hNormFfnRefIdeal : Cert.NormFfnRefIdeal.Facts] : Prop :=
  ∀ (m : (ℓ : Loc Cert.NormFfnRefIdeal.nD Cert.NormFfnRefIdeal.τ Cert.NormFfnRefIdeal.sig) → Buf (Elt Ideal) ℓ) (g : Dev Cert.NormFfnRefIdeal.nD → PrngReg), Pre_NormFfnRefIdeal m →
    θ_run (Cert.NormFfnRefIdeal.defs (F := Ideal)) (onTc (τ := Cert.NormFfnRefIdeal.τ) (Cert.NormFfnRefIdeal.main (F := Ideal))) ⟨m, fun _ => 0, g⟩ (fun r => (∀ c : Dev Cert.NormFfnRefIdeal.nD,
      r.2.mem ((c.tc : Thread Cert.NormFfnRefIdeal.nD Cert.NormFfnRefIdeal.τ).loc Cert.NormFfnRefIdeal.main_arg0) = m ((c.tc : Thread Cert.NormFfnRefIdeal.nD Cert.NormFfnRefIdeal.τ).loc Cert.NormFfnRefIdeal.main_arg0)
      ∧ r.2.mem ((c.tc : Thread Cert.NormFfnRefIdeal.nD Cert.NormFfnRefIdeal.τ).loc Cert.NormFfnRefIdeal.main_arg1) = m ((c.tc : Thread Cert.NormFfnRefIdeal.nD Cert.NormFfnRefIdeal.τ).loc Cert.NormFfnRefIdeal.main_arg1)
      ∧ r.2.mem ((c.tc : Thread Cert.NormFfnRefIdeal.nD Cert.NormFfnRefIdeal.τ).loc Cert.NormFfnRefIdeal.main_arg2) = m ((c.tc : Thread Cert.NormFfnRefIdeal.nD Cert.NormFfnRefIdeal.τ).loc Cert.NormFfnRefIdeal.main_arg2))
      ∧ r.2.sem = fun _ => 0)

def quiescent_NormMix [hNormMix : Cert.NormMix.Facts] : Prop :=
  ∀ (m : (ℓ : Loc Cert.NormMix.nD Cert.NormMix.τ Cert.NormMix.sig) → Buf (Elt Bits) ℓ) (g : Dev Cert.NormMix.nD → PrngReg), Pre_NormMix m →
    θ_run (Cert.NormMix.defs (F := Bits)) (onTc (τ := Cert.NormMix.τ) (Cert.NormMix.main (F := Bits))) ⟨m, fun _ => 0, g⟩ (fun r => (∀ c : Dev Cert.NormMix.nD,
      r.2.mem ((c.tc : Thread Cert.NormMix.nD Cert.NormMix.τ).loc Cert.NormMix.main_arg0) = m ((c.tc : Thread Cert.NormMix.nD Cert.NormMix.τ).loc Cert.NormMix.main_arg0)
      ∧ r.2.mem ((c.tc : Thread Cert.NormMix.nD Cert.NormMix.τ).loc Cert.NormMix.main_arg1) = m ((c.tc : Thread Cert.NormMix.nD Cert.NormMix.τ).loc Cert.NormMix.main_arg1)
      ∧ r.2.mem ((c.tc : Thread Cert.NormMix.nD Cert.NormMix.τ).loc Cert.NormMix.main_arg2) = m ((c.tc : Thread Cert.NormMix.nD Cert.NormMix.τ).loc Cert.NormMix.main_arg2)
      ∧ r.2.mem ((c.tc : Thread Cert.NormMix.nD Cert.NormMix.τ).loc Cert.NormMix.main_arg3) = m ((c.tc : Thread Cert.NormMix.nD Cert.NormMix.τ).loc Cert.NormMix.main_arg3))
      ∧ r.2.sem = fun _ => 0)

def quiescent_NormMixIdeal [hNormMixIdeal : Cert.NormMixIdeal.Facts] : Prop :=
  ∀ (m : (ℓ : Loc Cert.NormMixIdeal.nD Cert.NormMixIdeal.τ Cert.NormMixIdeal.sig) → Buf (Elt Ideal) ℓ) (g : Dev Cert.NormMixIdeal.nD → PrngReg), Pre_NormMixIdeal m →
    θ_run (Cert.NormMixIdeal.defs (F := Ideal)) (onTc (τ := Cert.NormMixIdeal.τ) (Cert.NormMixIdeal.main (F := Ideal))) ⟨m, fun _ => 0, g⟩ (fun r => (∀ c : Dev Cert.NormMixIdeal.nD,
      r.2.mem ((c.tc : Thread Cert.NormMixIdeal.nD Cert.NormMixIdeal.τ).loc Cert.NormMixIdeal.main_arg0) = m ((c.tc : Thread Cert.NormMixIdeal.nD Cert.NormMixIdeal.τ).loc Cert.NormMixIdeal.main_arg0)
      ∧ r.2.mem ((c.tc : Thread Cert.NormMixIdeal.nD Cert.NormMixIdeal.τ).loc Cert.NormMixIdeal.main_arg1) = m ((c.tc : Thread Cert.NormMixIdeal.nD Cert.NormMixIdeal.τ).loc Cert.NormMixIdeal.main_arg1)
      ∧ r.2.mem ((c.tc : Thread Cert.NormMixIdeal.nD Cert.NormMixIdeal.τ).loc Cert.NormMixIdeal.main_arg2) = m ((c.tc : Thread Cert.NormMixIdeal.nD Cert.NormMixIdeal.τ).loc Cert.NormMixIdeal.main_arg2)
      ∧ r.2.mem ((c.tc : Thread Cert.NormMixIdeal.nD Cert.NormMixIdeal.τ).loc Cert.NormMixIdeal.main_arg3) = m ((c.tc : Thread Cert.NormMixIdeal.nD Cert.NormMixIdeal.τ).loc Cert.NormMixIdeal.main_arg3))
      ∧ r.2.sem = fun _ => 0)

def quiescent_NormMixRefIdeal [hNormMixRefIdeal : Cert.NormMixRefIdeal.Facts] : Prop :=
  ∀ (m : (ℓ : Loc Cert.NormMixRefIdeal.nD Cert.NormMixRefIdeal.τ Cert.NormMixRefIdeal.sig) → Buf (Elt Ideal) ℓ) (g : Dev Cert.NormMixRefIdeal.nD → PrngReg), Pre_NormMixRefIdeal m →
    θ_run (Cert.NormMixRefIdeal.defs (F := Ideal)) (onTc (τ := Cert.NormMixRefIdeal.τ) (Cert.NormMixRefIdeal.main (F := Ideal))) ⟨m, fun _ => 0, g⟩ (fun r => (∀ c : Dev Cert.NormMixRefIdeal.nD,
      r.2.mem ((c.tc : Thread Cert.NormMixRefIdeal.nD Cert.NormMixRefIdeal.τ).loc Cert.NormMixRefIdeal.main_arg0) = m ((c.tc : Thread Cert.NormMixRefIdeal.nD Cert.NormMixRefIdeal.τ).loc Cert.NormMixRefIdeal.main_arg0)
      ∧ r.2.mem ((c.tc : Thread Cert.NormMixRefIdeal.nD Cert.NormMixRefIdeal.τ).loc Cert.NormMixRefIdeal.main_arg1) = m ((c.tc : Thread Cert.NormMixRefIdeal.nD Cert.NormMixRefIdeal.τ).loc Cert.NormMixRefIdeal.main_arg1)
      ∧ r.2.mem ((c.tc : Thread Cert.NormMixRefIdeal.nD Cert.NormMixRefIdeal.τ).loc Cert.NormMixRefIdeal.main_arg2) = m ((c.tc : Thread Cert.NormMixRefIdeal.nD Cert.NormMixRefIdeal.τ).loc Cert.NormMixRefIdeal.main_arg2)
      ∧ r.2.mem ((c.tc : Thread Cert.NormMixRefIdeal.nD Cert.NormMixRefIdeal.τ).loc Cert.NormMixRefIdeal.main_arg3) = m ((c.tc : Thread Cert.NormMixRefIdeal.nD Cert.NormMixRefIdeal.τ).loc Cert.NormMixRefIdeal.main_arg3))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def quiescent_Fox [hFox : Cert.Fox.Facts] : Prop :=
  ∀ (m : (ℓ : Loc Cert.Fox.nD Cert.Fox.τ Cert.Fox.sig) → Buf (Elt Bits) ℓ) (g : Dev Cert.Fox.nD → PrngReg), Pre_Fox m →
    θ_run (Cert.Fox.defs (F := Bits)) (onTc (τ := Cert.Fox.τ) (Cert.Fox.main (F := Bits))) ⟨m, fun _ => 0, g⟩ (fun r => (∀ c : Dev Cert.Fox.nD,
      r.2.mem ((c.tc : Thread Cert.Fox.nD Cert.Fox.τ).loc Cert.Fox.main_arg0) = m ((c.tc : Thread Cert.Fox.nD Cert.Fox.τ).loc Cert.Fox.main_arg0)
      ∧ r.2.mem ((c.tc : Thread Cert.Fox.nD Cert.Fox.τ).loc Cert.Fox.main_arg1) = m ((c.tc : Thread Cert.Fox.nD Cert.Fox.τ).loc Cert.Fox.main_arg1)
      ∧ r.2.mem ((c.tc : Thread Cert.Fox.nD Cert.Fox.τ).loc Cert.Fox.main_arg2) = m ((c.tc : Thread Cert.Fox.nD Cert.Fox.τ).loc Cert.Fox.main_arg2)
      ∧ r.2.mem ((c.tc : Thread Cert.Fox.nD Cert.Fox.τ).loc Cert.Fox.main_arg3) = m ((c.tc : Thread Cert.Fox.nD Cert.Fox.τ).loc Cert.Fox.main_arg3))
      ∧ r.2.sem = fun _ => 0)

def quiescent_FoxIdeal [hFoxIdeal : Cert.FoxIdeal.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3))
      ∧ r.2.sem = fun _ => 0)

def quiescent_FoxIdeal_pre_scores_finite [hFoxIdeal : Cert.FoxIdeal.Facts] [hPre_scores_finite : Cert.Pre_scores_finite.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal_scores_finite m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3))
      ∧ r.2.sem = fun _ => 0)

def quiescent_FoxRefIdeal [hFoxRefIdeal : Cert.FoxRefIdeal.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2)
      ∧ r.2.mem ((c.tc : Thread Cert.FoxRefIdeal.nD Cert.FoxRefIdeal.τ).loc Cert.FoxRefIdeal.main_arg3) = m ((c.tc : Thread Cert.FoxRefIdeal.nD Cert.FoxRefIdeal.τ).loc Cert.FoxRefIdeal.main_arg3))
      ∧ r.2.sem = fun _ => 0)

def quiescent_FoxRefIdeal_pre_scores_finite [hFoxRefIdeal : Cert.FoxRefIdeal.Facts] [hPre_scores_finite : Cert.Pre_scores_finite.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal_scores_finite m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2)
      ∧ r.2.mem ((c.tc : Thread Cert.FoxRefIdeal.nD Cert.FoxRefIdeal.τ).loc Cert.FoxRefIdeal.main_arg3) = m ((c.tc : Thread Cert.FoxRefIdeal.nD Cert.FoxRefIdeal.τ).loc Cert.FoxRefIdeal.main_arg3))
      ∧ r.2.sem = fun _ => 0)

def preserves_Swiglu_SwigluIdeal : Prop :=
  True

def algebraic_SwigluIdeal_SwigluRefIdeal [hSwigluIdeal : Cert.SwigluIdeal.Facts] [hSwigluRefIdeal : Cert.SwigluRefIdeal.Facts] : Prop :=
  ∀ (m : (ℓ : Loc Cert.SwigluIdeal.nD Cert.SwigluIdeal.τ Cert.SwigluIdeal.sig) → Buf (Elt Ideal) ℓ) (g : Dev Cert.SwigluIdeal.nD → PrngReg)
    (m' : (ℓ : Loc Cert.SwigluRefIdeal.nD Cert.SwigluRefIdeal.τ Cert.SwigluRefIdeal.sig) → Buf (Elt Ideal) ℓ) (g' : Dev Cert.SwigluRefIdeal.nD → PrngReg), Pre_SwigluIdeal m →
    (∀ c : Dev Cert.SwigluIdeal.nD,
      m' ((c.tc : Thread Cert.SwigluRefIdeal.nD Cert.SwigluRefIdeal.τ).loc Cert.SwigluRefIdeal.main_arg0) = m ((c.tc : Thread Cert.SwigluIdeal.nD Cert.SwigluIdeal.τ).loc Cert.SwigluIdeal.main_arg0)
      ∧ m' ((c.tc : Thread Cert.SwigluRefIdeal.nD Cert.SwigluRefIdeal.τ).loc Cert.SwigluRefIdeal.main_arg1) = m ((c.tc : Thread Cert.SwigluIdeal.nD Cert.SwigluIdeal.τ).loc Cert.SwigluIdeal.main_arg1)) →
    ∃ (v0 : (c : Dev Cert.SwigluIdeal.nD) → Buf (Elt Ideal) ((c.tc : Thread Cert.SwigluIdeal.nD Cert.SwigluIdeal.τ).loc Cert.SwigluIdeal.main_v0)),
      θ_run (Cert.SwigluIdeal.defs (F := Ideal)) (onTc (τ := Cert.SwigluIdeal.τ) (Cert.SwigluIdeal.main (F := Ideal))) ⟨m, fun _ => 0, g⟩ (fun r => ∀ c : Dev Cert.SwigluIdeal.nD,
          r.2.mem ((c.tc : Thread Cert.SwigluIdeal.nD Cert.SwigluIdeal.τ).loc Cert.SwigluIdeal.main_v0) = v0 c
          ∧ r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
          ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1))
      ∧ θ_run (Cert.SwigluRefIdeal.defs (F := Ideal)) (onTc (τ := Cert.SwigluRefIdeal.τ) (Cert.SwigluRefIdeal.main (F := Ideal))) ⟨m', fun _ => 0, g'⟩ (fun r => ∀ c : Dev Cert.SwigluRefIdeal.nD,
          r.2.mem ((c.tc : Thread Cert.SwigluRefIdeal.nD Cert.SwigluRefIdeal.τ).loc Cert.SwigluRefIdeal.main_v7) = v0 c
          ∧ r.2.mem ((c.tc : Thread Cert.SwigluRefIdeal.nD Cert.SwigluRefIdeal.τ).loc Cert.SwigluRefIdeal.main_arg0) = m' ((c.tc : Thread Cert.SwigluRefIdeal.nD Cert.SwigluRefIdeal.τ).loc Cert.SwigluRefIdeal.main_arg0)
          ∧ r.2.mem ((c.tc : Thread Cert.SwigluRefIdeal.nD Cert.SwigluRefIdeal.τ).loc Cert.SwigluRefIdeal.main_arg1) = m' ((c.tc : Thread Cert.SwigluRefIdeal.nD Cert.SwigluRefIdeal.τ).loc Cert.SwigluRefIdeal.main_arg1))

def preserves_FfnOut_FfnOutIdeal : Prop :=
  True

def algebraic_FfnOutIdeal_FfnOutRefIdeal [hFfnOutIdeal : Cert.FfnOutIdeal.Facts] [hFfnOutRefIdeal : Cert.FfnOutRefIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg)
    (m' : (ℓ : Loc Cert.FfnOutRefIdeal.nD Cert.FfnOutRefIdeal.τ Cert.FfnOutRefIdeal.sig) → Buf (Elt Ideal) ℓ) (g' : Dev Cert.FfnOutRefIdeal.nD → PrngReg), Pre_FfnOutIdeal m →
    (∀ c : Dev Cert.FfnOutIdeal.nD,
      m' ((c.tc : Thread Cert.FfnOutRefIdeal.nD Cert.FfnOutRefIdeal.τ).loc Cert.FfnOutRefIdeal.main_arg0) = m ((c.tc : Thread Cert.FfnOutIdeal.nD Cert.FfnOutIdeal.τ).loc Cert.FfnOutIdeal.main_arg0)
      ∧ m' ((c.tc : Thread Cert.FfnOutRefIdeal.nD Cert.FfnOutRefIdeal.τ).loc Cert.FfnOutRefIdeal.main_arg1) = m ((c.tc : Thread Cert.FfnOutIdeal.nD Cert.FfnOutIdeal.τ).loc Cert.FfnOutIdeal.main_arg1)
      ∧ m' ((c.tc : Thread Cert.FfnOutRefIdeal.nD Cert.FfnOutRefIdeal.τ).loc Cert.FfnOutRefIdeal.main_arg2) = m ((c.tc : Thread Cert.FfnOutIdeal.nD Cert.FfnOutIdeal.τ).loc Cert.FfnOutIdeal.main_arg2)
      ∧ m' ((c.tc : Thread Cert.FfnOutRefIdeal.nD Cert.FfnOutRefIdeal.τ).loc Cert.FfnOutRefIdeal.main_arg3) = m ((c.tc : Thread Cert.FfnOutIdeal.nD Cert.FfnOutIdeal.τ).loc Cert.FfnOutIdeal.main_arg3)) →
    ∃ (v0 : (c : Dev Cert.FfnOutIdeal.nD) → Buf (Elt Ideal) ((c.tc : Thread Cert.FfnOutIdeal.nD Cert.FfnOutIdeal.τ).loc Cert.FfnOutIdeal.main_v0)),
      θ_run (Cert.FfnOutIdeal.defs (F := Ideal)) (onTc (τ := Cert.FfnOutIdeal.τ) (Cert.FfnOutIdeal.main (F := Ideal))) ⟨m, fun _ => 0, g⟩ (fun r => ∀ c : Dev Cert.FfnOutIdeal.nD,
          r.2.mem ((c.tc : Thread Cert.FfnOutIdeal.nD Cert.FfnOutIdeal.τ).loc Cert.FfnOutIdeal.main_v0) = v0 c
          ∧ r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
          ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
          ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2)
          ∧ r.2.mem ((c.tc : Thread Cert.FfnOutIdeal.nD Cert.FfnOutIdeal.τ).loc Cert.FfnOutIdeal.main_arg3) = m ((c.tc : Thread Cert.FfnOutIdeal.nD Cert.FfnOutIdeal.τ).loc Cert.FfnOutIdeal.main_arg3))
      ∧ θ_run (Cert.FfnOutRefIdeal.defs (F := Ideal)) (onTc (τ := Cert.FfnOutRefIdeal.τ) (Cert.FfnOutRefIdeal.main (F := Ideal))) ⟨m', fun _ => 0, g'⟩ (fun r => ∀ c : Dev Cert.FfnOutRefIdeal.nD,
          r.2.mem ((c.tc : Thread Cert.FfnOutRefIdeal.nD Cert.FfnOutRefIdeal.τ).loc Cert.FfnOutRefIdeal.main_v6) = v0 c
          ∧ r.2.mem ((c.tc : Thread Cert.FfnOutRefIdeal.nD Cert.FfnOutRefIdeal.τ).loc Cert.FfnOutRefIdeal.main_arg0) = m' ((c.tc : Thread Cert.FfnOutRefIdeal.nD Cert.FfnOutRefIdeal.τ).loc Cert.FfnOutRefIdeal.main_arg0)
          ∧ r.2.mem ((c.tc : Thread Cert.FfnOutRefIdeal.nD Cert.FfnOutRefIdeal.τ).loc Cert.FfnOutRefIdeal.main_arg1) = m' ((c.tc : Thread Cert.FfnOutRefIdeal.nD Cert.FfnOutRefIdeal.τ).loc Cert.FfnOutRefIdeal.main_arg1)
          ∧ r.2.mem ((c.tc : Thread Cert.FfnOutRefIdeal.nD Cert.FfnOutRefIdeal.τ).loc Cert.FfnOutRefIdeal.main_arg2) = m' ((c.tc : Thread Cert.FfnOutRefIdeal.nD Cert.FfnOutRefIdeal.τ).loc Cert.FfnOutRefIdeal.main_arg2)
          ∧ r.2.mem ((c.tc : Thread Cert.FfnOutRefIdeal.nD Cert.FfnOutRefIdeal.τ).loc Cert.FfnOutRefIdeal.main_arg3) = m' ((c.tc : Thread Cert.FfnOutRefIdeal.nD Cert.FfnOutRefIdeal.τ).loc Cert.FfnOutRefIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v24) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_InQ_InQIdeal : Prop :=
  True

def algebraic_InQIdeal_InQRefIdeal [hInQIdeal : Cert.InQIdeal.Facts] [hInQRefIdeal : Cert.InQRefIdeal.Facts] : Prop :=
  ∀ (m : (ℓ : Loc Cert.InQIdeal.nD Cert.InQIdeal.τ Cert.InQIdeal.sig) → Buf (Elt Ideal) ℓ) (g : Dev Cert.InQIdeal.nD → PrngReg)
    (m' : (ℓ : Loc Cert.InQRefIdeal.nD Cert.InQRefIdeal.τ Cert.InQRefIdeal.sig) → Buf (Elt Ideal) ℓ) (g' : Dev Cert.InQRefIdeal.nD → PrngReg), Pre_InQIdeal m →
    (∀ c : Dev Cert.InQIdeal.nD,
      m' ((c.tc : Thread Cert.InQRefIdeal.nD Cert.InQRefIdeal.τ).loc Cert.InQRefIdeal.main_arg0) = m ((c.tc : Thread Cert.InQIdeal.nD Cert.InQIdeal.τ).loc Cert.InQIdeal.main_arg0)
      ∧ m' ((c.tc : Thread Cert.InQRefIdeal.nD Cert.InQRefIdeal.τ).loc Cert.InQRefIdeal.main_arg1) = m ((c.tc : Thread Cert.InQIdeal.nD Cert.InQIdeal.τ).loc Cert.InQIdeal.main_arg1)
      ∧ m' ((c.tc : Thread Cert.InQRefIdeal.nD Cert.InQRefIdeal.τ).loc Cert.InQRefIdeal.main_arg2) = m ((c.tc : Thread Cert.InQIdeal.nD Cert.InQIdeal.τ).loc Cert.InQIdeal.main_arg2)) →
    ∃ (v0 : (c : Dev Cert.InQIdeal.nD) → Buf (Elt Ideal) ((c.tc : Thread Cert.InQIdeal.nD Cert.InQIdeal.τ).loc Cert.InQIdeal.main_v2_0)) (v1 : (c : Dev Cert.InQIdeal.nD) → Buf (Elt Ideal) ((c.tc : Thread Cert.InQIdeal.nD Cert.InQIdeal.τ).loc Cert.InQIdeal.main_v2_1)),
      θ_run (Cert.InQIdeal.defs (F := Ideal)) (onTc (τ := Cert.InQIdeal.τ) (Cert.InQIdeal.main (F := Ideal))) ⟨m, fun _ => 0, g⟩ (fun r => ∀ c : Dev Cert.InQIdeal.nD,
          r.2.mem ((c.tc : Thread Cert.InQIdeal.nD Cert.InQIdeal.τ).loc Cert.InQIdeal.main_v2_0) = v0 c
          ∧ r.2.mem ((c.tc : Thread Cert.InQIdeal.nD Cert.InQIdeal.τ).loc Cert.InQIdeal.main_v2_1) = v1 c
          ∧ r.2.mem ((c.tc : Thread Cert.InQIdeal.nD Cert.InQIdeal.τ).loc Cert.InQIdeal.main_arg0) = m ((c.tc : Thread Cert.InQIdeal.nD Cert.InQIdeal.τ).loc Cert.InQIdeal.main_arg0)
          ∧ r.2.mem ((c.tc : Thread Cert.InQIdeal.nD Cert.InQIdeal.τ).loc Cert.InQIdeal.main_arg1) = m ((c.tc : Thread Cert.InQIdeal.nD Cert.InQIdeal.τ).loc Cert.InQIdeal.main_arg1)
          ∧ r.2.mem ((c.tc : Thread Cert.InQIdeal.nD Cert.InQIdeal.τ).loc Cert.InQIdeal.main_arg2) = m ((c.tc : Thread Cert.InQIdeal.nD Cert.InQIdeal.τ).loc Cert.InQIdeal.main_arg2))
      ∧ θ_run (Cert.InQRefIdeal.defs (F := Ideal)) (onTc (τ := Cert.InQRefIdeal.τ) (Cert.InQRefIdeal.main (F := Ideal))) ⟨m', fun _ => 0, g'⟩ (fun r => ∀ c : Dev Cert.InQRefIdeal.nD,
          r.2.mem ((c.tc : Thread Cert.InQRefIdeal.nD Cert.InQRefIdeal.τ).loc Cert.InQRefIdeal.main_v5) = v0 c
          ∧ r.2.mem ((c.tc : Thread Cert.InQRefIdeal.nD Cert.InQRefIdeal.τ).loc Cert.InQRefIdeal.main_v9) = v1 c
          ∧ r.2.mem ((c.tc : Thread Cert.InQRefIdeal.nD Cert.InQRefIdeal.τ).loc Cert.InQRefIdeal.main_arg0) = m' ((c.tc : Thread Cert.InQRefIdeal.nD Cert.InQRefIdeal.τ).loc Cert.InQRefIdeal.main_arg0)
          ∧ r.2.mem ((c.tc : Thread Cert.InQRefIdeal.nD Cert.InQRefIdeal.τ).loc Cert.InQRefIdeal.main_arg1) = m' ((c.tc : Thread Cert.InQRefIdeal.nD Cert.InQRefIdeal.τ).loc Cert.InQRefIdeal.main_arg1)
          ∧ r.2.mem ((c.tc : Thread Cert.InQRefIdeal.nD Cert.InQRefIdeal.τ).loc Cert.InQRefIdeal.main_arg2) = m' ((c.tc : Thread Cert.InQRefIdeal.nD Cert.InQRefIdeal.τ).loc Cert.InQRefIdeal.main_arg2))

def preserves_InF_InFIdeal : Prop :=
  True

def algebraic_InFIdeal_InFRefIdeal [hInFIdeal : Cert.InFIdeal.Facts] [hInFRefIdeal : Cert.InFRefIdeal.Facts] : Prop :=
  ∀ (m : (ℓ : Loc Cert.InFIdeal.nD Cert.InFIdeal.τ Cert.InFIdeal.sig) → Buf (Elt Ideal) ℓ) (g : Dev Cert.InFIdeal.nD → PrngReg)
    (m' : (ℓ : Loc Cert.InFRefIdeal.nD Cert.InFRefIdeal.τ Cert.InFRefIdeal.sig) → Buf (Elt Ideal) ℓ) (g' : Dev Cert.InFRefIdeal.nD → PrngReg), Pre_InFIdeal m →
    (∀ c : Dev Cert.InFIdeal.nD,
      m' ((c.tc : Thread Cert.InFRefIdeal.nD Cert.InFRefIdeal.τ).loc Cert.InFRefIdeal.main_arg0) = m ((c.tc : Thread Cert.InFIdeal.nD Cert.InFIdeal.τ).loc Cert.InFIdeal.main_arg0)
      ∧ m' ((c.tc : Thread Cert.InFRefIdeal.nD Cert.InFRefIdeal.τ).loc Cert.InFRefIdeal.main_arg1) = m ((c.tc : Thread Cert.InFIdeal.nD Cert.InFIdeal.τ).loc Cert.InFIdeal.main_arg1)
      ∧ m' ((c.tc : Thread Cert.InFRefIdeal.nD Cert.InFRefIdeal.τ).loc Cert.InFRefIdeal.main_arg2) = m ((c.tc : Thread Cert.InFIdeal.nD Cert.InFIdeal.τ).loc Cert.InFIdeal.main_arg2)) →
    ∃ (v0 : (c : Dev Cert.InFIdeal.nD) → Buf (Elt Ideal) ((c.tc : Thread Cert.InFIdeal.nD Cert.InFIdeal.τ).loc Cert.InFIdeal.main_v2_0)) (v1 : (c : Dev Cert.InFIdeal.nD) → Buf (Elt Ideal) ((c.tc : Thread Cert.InFIdeal.nD Cert.InFIdeal.τ).loc Cert.InFIdeal.main_v2_1)),
      θ_run (Cert.InFIdeal.defs (F := Ideal)) (onTc (τ := Cert.InFIdeal.τ) (Cert.InFIdeal.main (F := Ideal))) ⟨m, fun _ => 0, g⟩ (fun r => ∀ c : Dev Cert.InFIdeal.nD,
          r.2.mem ((c.tc : Thread Cert.InFIdeal.nD Cert.InFIdeal.τ).loc Cert.InFIdeal.main_v2_0) = v0 c
          ∧ r.2.mem ((c.tc : Thread Cert.InFIdeal.nD Cert.InFIdeal.τ).loc Cert.InFIdeal.main_v2_1) = v1 c
          ∧ r.2.mem ((c.tc : Thread Cert.InFIdeal.nD Cert.InFIdeal.τ).loc Cert.InFIdeal.main_arg0) = m ((c.tc : Thread Cert.InFIdeal.nD Cert.InFIdeal.τ).loc Cert.InFIdeal.main_arg0)
          ∧ r.2.mem ((c.tc : Thread Cert.InFIdeal.nD Cert.InFIdeal.τ).loc Cert.InFIdeal.main_arg1) = m ((c.tc : Thread Cert.InFIdeal.nD Cert.InFIdeal.τ).loc Cert.InFIdeal.main_arg1)
          ∧ r.2.mem ((c.tc : Thread Cert.InFIdeal.nD Cert.InFIdeal.τ).loc Cert.InFIdeal.main_arg2) = m ((c.tc : Thread Cert.InFIdeal.nD Cert.InFIdeal.τ).loc Cert.InFIdeal.main_arg2))
      ∧ θ_run (Cert.InFRefIdeal.defs (F := Ideal)) (onTc (τ := Cert.InFRefIdeal.τ) (Cert.InFRefIdeal.main (F := Ideal))) ⟨m', fun _ => 0, g'⟩ (fun r => ∀ c : Dev Cert.InFRefIdeal.nD,
          r.2.mem ((c.tc : Thread Cert.InFRefIdeal.nD Cert.InFRefIdeal.τ).loc Cert.InFRefIdeal.main_v4) = v0 c
          ∧ r.2.mem ((c.tc : Thread Cert.InFRefIdeal.nD Cert.InFRefIdeal.τ).loc Cert.InFRefIdeal.main_v8) = v1 c
          ∧ r.2.mem ((c.tc : Thread Cert.InFRefIdeal.nD Cert.InFRefIdeal.τ).loc Cert.InFRefIdeal.main_arg0) = m' ((c.tc : Thread Cert.InFRefIdeal.nD Cert.InFRefIdeal.τ).loc Cert.InFRefIdeal.main_arg0)
          ∧ r.2.mem ((c.tc : Thread Cert.InFRefIdeal.nD Cert.InFRefIdeal.τ).loc Cert.InFRefIdeal.main_arg1) = m' ((c.tc : Thread Cert.InFRefIdeal.nD Cert.InFRefIdeal.τ).loc Cert.InFRefIdeal.main_arg1)
          ∧ r.2.mem ((c.tc : Thread Cert.InFRefIdeal.nD Cert.InFRefIdeal.τ).loc Cert.InFRefIdeal.main_arg2) = m' ((c.tc : Thread Cert.InFRefIdeal.nD Cert.InFRefIdeal.τ).loc Cert.InFRefIdeal.main_arg2))

def preserves_InMain_InMainIdeal : Prop :=
  True

def algebraic_InMainIdeal_InMainRefIdeal [hInMainIdeal : Cert.InMainIdeal.Facts] [hInMainRefIdeal : Cert.InMainRefIdeal.Facts] : Prop :=
  ∀ (m : (ℓ : Loc Cert.InMainIdeal.nD Cert.InMainIdeal.τ Cert.InMainIdeal.sig) → Buf (Elt Ideal) ℓ) (g : Dev Cert.InMainIdeal.nD → PrngReg)
    (m' : (ℓ : Loc Cert.InMainRefIdeal.nD Cert.InMainRefIdeal.τ Cert.InMainRefIdeal.sig) → Buf (Elt Ideal) ℓ) (g' : Dev Cert.InMainRefIdeal.nD → PrngReg), Pre_InMainIdeal m →
    (∀ c : Dev Cert.InMainIdeal.nD,
      m' ((c.tc : Thread Cert.InMainRefIdeal.nD Cert.InMainRefIdeal.τ).loc Cert.InMainRefIdeal.main_arg0) = m ((c.tc : Thread Cert.InMainIdeal.nD Cert.InMainIdeal.τ).loc Cert.InMainIdeal.main_arg0)
      ∧ m' ((c.tc : Thread Cert.InMainRefIdeal.nD Cert.InMainRefIdeal.τ).loc Cert.InMainRefIdeal.main_arg1) = m ((c.tc : Thread Cert.InMainIdeal.nD Cert.InMainIdeal.τ).loc Cert.InMainIdeal.main_arg1)
      ∧ m' ((c.tc : Thread Cert.InMainRefIdeal.nD Cert.InMainRefIdeal.τ).loc Cert.InMainRefIdeal.main_arg2) = m ((c.tc : Thread Cert.InMainIdeal.nD Cert.InMainIdeal.τ).loc Cert.InMainIdeal.main_arg2)
      ∧ m' ((c.tc : Thread Cert.InMainRefIdeal.nD Cert.InMainRefIdeal.τ).loc Cert.InMainRefIdeal.main_arg3) = m ((c.tc : Thread Cert.InMainIdeal.nD Cert.InMainIdeal.τ).loc Cert.InMainIdeal.main_arg3)
      ∧ m' ((c.tc : Thread Cert.InMainRefIdeal.nD Cert.InMainRefIdeal.τ).loc Cert.InMainRefIdeal.main_arg4) = m ((c.tc : Thread Cert.InMainIdeal.nD Cert.InMainIdeal.τ).loc Cert.InMainIdeal.main_arg4)
      ∧ m' ((c.tc : Thread Cert.InMainRefIdeal.nD Cert.InMainRefIdeal.τ).loc Cert.InMainRefIdeal.main_arg5) = m ((c.tc : Thread Cert.InMainIdeal.nD Cert.InMainIdeal.τ).loc Cert.InMainIdeal.main_arg5)
      ∧ m' ((c.tc : Thread Cert.InMainRefIdeal.nD Cert.InMainRefIdeal.τ).loc Cert.InMainRefIdeal.main_arg6) = m ((c.tc : Thread Cert.InMainIdeal.nD Cert.InMainIdeal.τ).loc Cert.InMainIdeal.main_arg6)
      ∧ m' ((c.tc : Thread Cert.InMainRefIdeal.nD Cert.InMainRefIdeal.τ).loc Cert.InMainRefIdeal.main_arg7) = m ((c.tc : Thread Cert.InMainIdeal.nD Cert.InMainIdeal.τ).loc Cert.InMainIdeal.main_arg7)) →
    ∃ (v0 : (c : Dev Cert.InMainIdeal.nD) → Buf (Elt Ideal) ((c.tc : Thread Cert.InMainIdeal.nD Cert.InMainIdeal.τ).loc Cert.InMainIdeal.main_v5_0)) (v1 : (c : Dev Cert.InMainIdeal.nD) → Buf (Elt Ideal) ((c.tc : Thread Cert.InMainIdeal.nD Cert.InMainIdeal.τ).loc Cert.InMainIdeal.main_v5_1)) (v2 : (c : Dev Cert.InMainIdeal.nD) → Buf (Elt Ideal) ((c.tc : Thread Cert.InMainIdeal.nD Cert.InMainIdeal.τ).loc Cert.InMainIdeal.main_v5_2)) (v3 : (c : Dev Cert.InMainIdeal.nD) → Buf (Elt Ideal) ((c.tc : Thread Cert.InMainIdeal.nD Cert.InMainIdeal.τ).loc Cert.InMainIdeal.main_v5_3)) (v4 : (c : Dev Cert.InMainIdeal.nD) → Buf (Elt Ideal) ((c.tc : Thread Cert.InMainIdeal.nD Cert.InMainIdeal.τ).loc Cert.InMainIdeal.main_v5_4)),
      θ_run (Cert.InMainIdeal.defs (F := Ideal)) (onTc (τ := Cert.InMainIdeal.τ) (Cert.InMainIdeal.main (F := Ideal))) ⟨m, fun _ => 0, g⟩ (fun r => ∀ c : Dev Cert.InMainIdeal.nD,
          r.2.mem ((c.tc : Thread Cert.InMainIdeal.nD Cert.InMainIdeal.τ).loc Cert.InMainIdeal.main_v5_0) = v0 c
          ∧ r.2.mem ((c.tc : Thread Cert.InMainIdeal.nD Cert.InMainIdeal.τ).loc Cert.InMainIdeal.main_v5_1) = v1 c
          ∧ r.2.mem ((c.tc : Thread Cert.InMainIdeal.nD Cert.InMainIdeal.τ).loc Cert.InMainIdeal.main_v5_2) = v2 c
          ∧ r.2.mem ((c.tc : Thread Cert.InMainIdeal.nD Cert.InMainIdeal.τ).loc Cert.InMainIdeal.main_v5_3) = v3 c
          ∧ r.2.mem ((c.tc : Thread Cert.InMainIdeal.nD Cert.InMainIdeal.τ).loc Cert.InMainIdeal.main_v5_4) = v4 c
          ∧ r.2.mem ((c.tc : Thread Cert.InMainIdeal.nD Cert.InMainIdeal.τ).loc Cert.InMainIdeal.main_arg0) = m ((c.tc : Thread Cert.InMainIdeal.nD Cert.InMainIdeal.τ).loc Cert.InMainIdeal.main_arg0)
          ∧ r.2.mem ((c.tc : Thread Cert.InMainIdeal.nD Cert.InMainIdeal.τ).loc Cert.InMainIdeal.main_arg1) = m ((c.tc : Thread Cert.InMainIdeal.nD Cert.InMainIdeal.τ).loc Cert.InMainIdeal.main_arg1)
          ∧ r.2.mem ((c.tc : Thread Cert.InMainIdeal.nD Cert.InMainIdeal.τ).loc Cert.InMainIdeal.main_arg2) = m ((c.tc : Thread Cert.InMainIdeal.nD Cert.InMainIdeal.τ).loc Cert.InMainIdeal.main_arg2)
          ∧ r.2.mem ((c.tc : Thread Cert.InMainIdeal.nD Cert.InMainIdeal.τ).loc Cert.InMainIdeal.main_arg3) = m ((c.tc : Thread Cert.InMainIdeal.nD Cert.InMainIdeal.τ).loc Cert.InMainIdeal.main_arg3)
          ∧ r.2.mem ((c.tc : Thread Cert.InMainIdeal.nD Cert.InMainIdeal.τ).loc Cert.InMainIdeal.main_arg4) = m ((c.tc : Thread Cert.InMainIdeal.nD Cert.InMainIdeal.τ).loc Cert.InMainIdeal.main_arg4)
          ∧ r.2.mem ((c.tc : Thread Cert.InMainIdeal.nD Cert.InMainIdeal.τ).loc Cert.InMainIdeal.main_arg5) = m ((c.tc : Thread Cert.InMainIdeal.nD Cert.InMainIdeal.τ).loc Cert.InMainIdeal.main_arg5)
          ∧ r.2.mem ((c.tc : Thread Cert.InMainIdeal.nD Cert.InMainIdeal.τ).loc Cert.InMainIdeal.main_arg6) = m ((c.tc : Thread Cert.InMainIdeal.nD Cert.InMainIdeal.τ).loc Cert.InMainIdeal.main_arg6)
          ∧ r.2.mem ((c.tc : Thread Cert.InMainIdeal.nD Cert.InMainIdeal.τ).loc Cert.InMainIdeal.main_arg7) = m ((c.tc : Thread Cert.InMainIdeal.nD Cert.InMainIdeal.τ).loc Cert.InMainIdeal.main_arg7))
      ∧ θ_run (Cert.InMainRefIdeal.defs (F := Ideal)) (onTc (τ := Cert.InMainRefIdeal.τ) (Cert.InMainRefIdeal.main (F := Ideal))) ⟨m', fun _ => 0, g'⟩ (fun r => ∀ c : Dev Cert.InMainRefIdeal.nD,
          r.2.mem ((c.tc : Thread Cert.InMainRefIdeal.nD Cert.InMainRefIdeal.τ).loc Cert.InMainRefIdeal.main_v10) = v0 c
          ∧ r.2.mem ((c.tc : Thread Cert.InMainRefIdeal.nD Cert.InMainRefIdeal.τ).loc Cert.InMainRefIdeal.main_v11) = v1 c
          ∧ r.2.mem ((c.tc : Thread Cert.InMainRefIdeal.nD Cert.InMainRefIdeal.τ).loc Cert.InMainRefIdeal.main_v13) = v2 c
          ∧ r.2.mem ((c.tc : Thread Cert.InMainRefIdeal.nD Cert.InMainRefIdeal.τ).loc Cert.InMainRefIdeal.main_v15) = v3 c
          ∧ r.2.mem ((c.tc : Thread Cert.InMainRefIdeal.nD Cert.InMainRefIdeal.τ).loc Cert.InMainRefIdeal.main_v17) = v4 c
          ∧ r.2.mem ((c.tc : Thread Cert.InMainRefIdeal.nD Cert.InMainRefIdeal.τ).loc Cert.InMainRefIdeal.main_arg0) = m' ((c.tc : Thread Cert.InMainRefIdeal.nD Cert.InMainRefIdeal.τ).loc Cert.InMainRefIdeal.main_arg0)
          ∧ r.2.mem ((c.tc : Thread Cert.InMainRefIdeal.nD Cert.InMainRefIdeal.τ).loc Cert.InMainRefIdeal.main_arg1) = m' ((c.tc : Thread Cert.InMainRefIdeal.nD Cert.InMainRefIdeal.τ).loc Cert.InMainRefIdeal.main_arg1)
          ∧ r.2.mem ((c.tc : Thread Cert.InMainRefIdeal.nD Cert.InMainRefIdeal.τ).loc Cert.InMainRefIdeal.main_arg2) = m' ((c.tc : Thread Cert.InMainRefIdeal.nD Cert.InMainRefIdeal.τ).loc Cert.InMainRefIdeal.main_arg2)
          ∧ r.2.mem ((c.tc : Thread Cert.InMainRefIdeal.nD Cert.InMainRefIdeal.τ).loc Cert.InMainRefIdeal.main_arg3) = m' ((c.tc : Thread Cert.InMainRefIdeal.nD Cert.InMainRefIdeal.τ).loc Cert.InMainRefIdeal.main_arg3)
          ∧ r.2.mem ((c.tc : Thread Cert.InMainRefIdeal.nD Cert.InMainRefIdeal.τ).loc Cert.InMainRefIdeal.main_arg4) = m' ((c.tc : Thread Cert.InMainRefIdeal.nD Cert.InMainRefIdeal.τ).loc Cert.InMainRefIdeal.main_arg4)
          ∧ r.2.mem ((c.tc : Thread Cert.InMainRefIdeal.nD Cert.InMainRefIdeal.τ).loc Cert.InMainRefIdeal.main_arg5) = m' ((c.tc : Thread Cert.InMainRefIdeal.nD Cert.InMainRefIdeal.τ).loc Cert.InMainRefIdeal.main_arg5)
          ∧ r.2.mem ((c.tc : Thread Cert.InMainRefIdeal.nD Cert.InMainRefIdeal.τ).loc Cert.InMainRefIdeal.main_arg6) = m' ((c.tc : Thread Cert.InMainRefIdeal.nD Cert.InMainRefIdeal.τ).loc Cert.InMainRefIdeal.main_arg6)
          ∧ r.2.mem ((c.tc : Thread Cert.InMainRefIdeal.nD Cert.InMainRefIdeal.τ).loc Cert.InMainRefIdeal.main_arg7) = m' ((c.tc : Thread Cert.InMainRefIdeal.nD Cert.InMainRefIdeal.τ).loc Cert.InMainRefIdeal.main_arg7))

def preserves_InGates_InGatesIdeal : Prop :=
  True

def algebraic_InGatesIdeal_InGatesRefIdeal [hInGatesIdeal : Cert.InGatesIdeal.Facts] [hInGatesRefIdeal : Cert.InGatesRefIdeal.Facts] : Prop :=
  ∀ (m : (ℓ : Loc Cert.InGatesIdeal.nD Cert.InGatesIdeal.τ Cert.InGatesIdeal.sig) → Buf (Elt Ideal) ℓ) (g : Dev Cert.InGatesIdeal.nD → PrngReg)
    (m' : (ℓ : Loc Cert.InGatesRefIdeal.nD Cert.InGatesRefIdeal.τ Cert.InGatesRefIdeal.sig) → Buf (Elt Ideal) ℓ) (g' : Dev Cert.InGatesRefIdeal.nD → PrngReg), Pre_InGatesIdeal m →
    (∀ c : Dev Cert.InGatesIdeal.nD,
      m' ((c.tc : Thread Cert.InGatesRefIdeal.nD Cert.InGatesRefIdeal.τ).loc Cert.InGatesRefIdeal.main_arg0) = m ((c.tc : Thread Cert.InGatesIdeal.nD Cert.InGatesIdeal.τ).loc Cert.InGatesIdeal.main_arg0)
      ∧ m' ((c.tc : Thread Cert.InGatesRefIdeal.nD Cert.InGatesRefIdeal.τ).loc Cert.InGatesRefIdeal.main_arg1) = m ((c.tc : Thread Cert.InGatesIdeal.nD Cert.InGatesIdeal.τ).loc Cert.InGatesIdeal.main_arg1)
      ∧ m' ((c.tc : Thread Cert.InGatesRefIdeal.nD Cert.InGatesRefIdeal.τ).loc Cert.InGatesRefIdeal.main_arg2) = m ((c.tc : Thread Cert.InGatesIdeal.nD Cert.InGatesIdeal.τ).loc Cert.InGatesIdeal.main_arg2)) →
    ∃ (v0 : (c : Dev Cert.InGatesIdeal.nD) → Buf (Elt Ideal) ((c.tc : Thread Cert.InGatesIdeal.nD Cert.InGatesIdeal.τ).loc Cert.InGatesIdeal.main_v1_0)) (v1 : (c : Dev Cert.InGatesIdeal.nD) → Buf (Elt Ideal) ((c.tc : Thread Cert.InGatesIdeal.nD Cert.InGatesIdeal.τ).loc Cert.InGatesIdeal.main_v1_1)),
      θ_run (Cert.InGatesIdeal.defs (F := Ideal)) (onTc (τ := Cert.InGatesIdeal.τ) (Cert.InGatesIdeal.main (F := Ideal))) ⟨m, fun _ => 0, g⟩ (fun r => ∀ c : Dev Cert.InGatesIdeal.nD,
          r.2.mem ((c.tc : Thread Cert.InGatesIdeal.nD Cert.InGatesIdeal.τ).loc Cert.InGatesIdeal.main_v1_0) = v0 c
          ∧ r.2.mem ((c.tc : Thread Cert.InGatesIdeal.nD Cert.InGatesIdeal.τ).loc Cert.InGatesIdeal.main_v1_1) = v1 c
          ∧ r.2.mem ((c.tc : Thread Cert.InGatesIdeal.nD Cert.InGatesIdeal.τ).loc Cert.InGatesIdeal.main_arg0) = m ((c.tc : Thread Cert.InGatesIdeal.nD Cert.InGatesIdeal.τ).loc Cert.InGatesIdeal.main_arg0)
          ∧ r.2.mem ((c.tc : Thread Cert.InGatesIdeal.nD Cert.InGatesIdeal.τ).loc Cert.InGatesIdeal.main_arg1) = m ((c.tc : Thread Cert.InGatesIdeal.nD Cert.InGatesIdeal.τ).loc Cert.InGatesIdeal.main_arg1)
          ∧ r.2.mem ((c.tc : Thread Cert.InGatesIdeal.nD Cert.InGatesIdeal.τ).loc Cert.InGatesIdeal.main_arg2) = m ((c.tc : Thread Cert.InGatesIdeal.nD Cert.InGatesIdeal.τ).loc Cert.InGatesIdeal.main_arg2))
      ∧ θ_run (Cert.InGatesRefIdeal.defs (F := Ideal)) (onTc (τ := Cert.InGatesRefIdeal.τ) (Cert.InGatesRefIdeal.main (F := Ideal))) ⟨m', fun _ => 0, g'⟩ (fun r => ∀ c : Dev Cert.InGatesRefIdeal.nD,
          r.2.mem ((c.tc : Thread Cert.InGatesRefIdeal.nD Cert.InGatesRefIdeal.τ).loc Cert.InGatesRefIdeal.main_v5) = v0 c
          ∧ r.2.mem ((c.tc : Thread Cert.InGatesRefIdeal.nD Cert.InGatesRefIdeal.τ).loc Cert.InGatesRefIdeal.main_v7) = v1 c
          ∧ r.2.mem ((c.tc : Thread Cert.InGatesRefIdeal.nD Cert.InGatesRefIdeal.τ).loc Cert.InGatesRefIdeal.main_arg0) = m' ((c.tc : Thread Cert.InGatesRefIdeal.nD Cert.InGatesRefIdeal.τ).loc Cert.InGatesRefIdeal.main_arg0)
          ∧ r.2.mem ((c.tc : Thread Cert.InGatesRefIdeal.nD Cert.InGatesRefIdeal.τ).loc Cert.InGatesRefIdeal.main_arg1) = m' ((c.tc : Thread Cert.InGatesRefIdeal.nD Cert.InGatesRefIdeal.τ).loc Cert.InGatesRefIdeal.main_arg1)
          ∧ r.2.mem ((c.tc : Thread Cert.InGatesRefIdeal.nD Cert.InGatesRefIdeal.τ).loc Cert.InGatesRefIdeal.main_arg2) = m' ((c.tc : Thread Cert.InGatesRefIdeal.nD Cert.InGatesRefIdeal.τ).loc Cert.InGatesRefIdeal.main_arg2))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)) →
    ∃ (v0 : (c : Dev Cert.OutProjIdeal.nD) → Buf (Elt Ideal) ((c.tc : Thread Cert.OutProjIdeal.nD Cert.OutProjIdeal.τ).loc Cert.OutProjIdeal.main_v2_0)) (v1 : (c : Dev Cert.OutProjIdeal.nD) → Buf (Elt Ideal) ((c.tc : Thread Cert.OutProjIdeal.nD Cert.OutProjIdeal.τ).loc Cert.OutProjIdeal.main_v2_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v2_0) = v0 c
          ∧ r.2.mem ((c.tc : Thread Cert.OutProjIdeal.nD Cert.OutProjIdeal.τ).loc Cert.OutProjIdeal.main_v2_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v7) = v0 c
          ∧ r.2.mem ((c.tc : Thread Cert.OutProjRefIdeal.nD Cert.OutProjRefIdeal.τ).loc Cert.OutProjRefIdeal.main_v9) = v1 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4))

def preserves_NormFfn_NormFfnIdeal : Prop :=
  True

def algebraic_NormFfnIdeal_NormFfnRefIdeal [hNormFfnIdeal : Cert.NormFfnIdeal.Facts] [hNormFfnRefIdeal : Cert.NormFfnRefIdeal.Facts] : Prop :=
  ∀ (m : (ℓ : Loc Cert.NormFfnIdeal.nD Cert.NormFfnIdeal.τ Cert.NormFfnIdeal.sig) → Buf (Elt Ideal) ℓ) (g : Dev Cert.NormFfnIdeal.nD → PrngReg)
    (m' : (ℓ : Loc Cert.NormFfnRefIdeal.nD Cert.NormFfnRefIdeal.τ Cert.NormFfnRefIdeal.sig) → Buf (Elt Ideal) ℓ) (g' : Dev Cert.NormFfnRefIdeal.nD → PrngReg), Pre_NormFfnIdeal m →
    (∀ c : Dev Cert.NormFfnIdeal.nD,
      m' ((c.tc : Thread Cert.NormFfnRefIdeal.nD Cert.NormFfnRefIdeal.τ).loc Cert.NormFfnRefIdeal.main_arg0) = m ((c.tc : Thread Cert.NormFfnIdeal.nD Cert.NormFfnIdeal.τ).loc Cert.NormFfnIdeal.main_arg0)
      ∧ m' ((c.tc : Thread Cert.NormFfnRefIdeal.nD Cert.NormFfnRefIdeal.τ).loc Cert.NormFfnRefIdeal.main_arg1) = m ((c.tc : Thread Cert.NormFfnIdeal.nD Cert.NormFfnIdeal.τ).loc Cert.NormFfnIdeal.main_arg1)
      ∧ m' ((c.tc : Thread Cert.NormFfnRefIdeal.nD Cert.NormFfnRefIdeal.τ).loc Cert.NormFfnRefIdeal.main_arg2) = m ((c.tc : Thread Cert.NormFfnIdeal.nD Cert.NormFfnIdeal.τ).loc Cert.NormFfnIdeal.main_arg2)) →
    ∃ (v0 : (c : Dev Cert.NormFfnIdeal.nD) → Buf (Elt Ideal) ((c.tc : Thread Cert.NormFfnIdeal.nD Cert.NormFfnIdeal.τ).loc Cert.NormFfnIdeal.main_v2)),
      θ_run (Cert.NormFfnIdeal.defs (F := Ideal)) (onTc (τ := Cert.NormFfnIdeal.τ) (Cert.NormFfnIdeal.main (F := Ideal))) ⟨m, fun _ => 0, g⟩ (fun r => ∀ c : Dev Cert.NormFfnIdeal.nD,
          r.2.mem ((c.tc : Thread Cert.NormFfnIdeal.nD Cert.NormFfnIdeal.τ).loc Cert.NormFfnIdeal.main_v2) = v0 c
          ∧ r.2.mem ((c.tc : Thread Cert.NormFfnIdeal.nD Cert.NormFfnIdeal.τ).loc Cert.NormFfnIdeal.main_arg0) = m ((c.tc : Thread Cert.NormFfnIdeal.nD Cert.NormFfnIdeal.τ).loc Cert.NormFfnIdeal.main_arg0)
          ∧ r.2.mem ((c.tc : Thread Cert.NormFfnIdeal.nD Cert.NormFfnIdeal.τ).loc Cert.NormFfnIdeal.main_arg1) = m ((c.tc : Thread Cert.NormFfnIdeal.nD Cert.NormFfnIdeal.τ).loc Cert.NormFfnIdeal.main_arg1)
          ∧ r.2.mem ((c.tc : Thread Cert.NormFfnIdeal.nD Cert.NormFfnIdeal.τ).loc Cert.NormFfnIdeal.main_arg2) = m ((c.tc : Thread Cert.NormFfnIdeal.nD Cert.NormFfnIdeal.τ).loc Cert.NormFfnIdeal.main_arg2))
      ∧ θ_run (Cert.NormFfnRefIdeal.defs (F := Ideal)) (onTc (τ := Cert.NormFfnRefIdeal.τ) (Cert.NormFfnRefIdeal.main (F := Ideal))) ⟨m', fun _ => 0, g'⟩ (fun r => ∀ c : Dev Cert.NormFfnRefIdeal.nD,
          r.2.mem ((c.tc : Thread Cert.NormFfnRefIdeal.nD Cert.NormFfnRefIdeal.τ).loc Cert.NormFfnRefIdeal.main_v22) = v0 c
          ∧ r.2.mem ((c.tc : Thread Cert.NormFfnRefIdeal.nD Cert.NormFfnRefIdeal.τ).loc Cert.NormFfnRefIdeal.main_arg0) = m' ((c.tc : Thread Cert.NormFfnRefIdeal.nD Cert.NormFfnRefIdeal.τ).loc Cert.NormFfnRefIdeal.main_arg0)
          ∧ r.2.mem ((c.tc : Thread Cert.NormFfnRefIdeal.nD Cert.NormFfnRefIdeal.τ).loc Cert.NormFfnRefIdeal.main_arg1) = m' ((c.tc : Thread Cert.NormFfnRefIdeal.nD Cert.NormFfnRefIdeal.τ).loc Cert.NormFfnRefIdeal.main_arg1)
          ∧ r.2.mem ((c.tc : Thread Cert.NormFfnRefIdeal.nD Cert.NormFfnRefIdeal.τ).loc Cert.NormFfnRefIdeal.main_arg2) = m' ((c.tc : Thread Cert.NormFfnRefIdeal.nD Cert.NormFfnRefIdeal.τ).loc Cert.NormFfnRefIdeal.main_arg2))

def preserves_NormMix_NormMixIdeal : Prop :=
  True

def algebraic_NormMixIdeal_NormMixRefIdeal [hNormMixIdeal : Cert.NormMixIdeal.Facts] [hNormMixRefIdeal : Cert.NormMixRefIdeal.Facts] : Prop :=
  ∀ (m : (ℓ : Loc Cert.NormMixIdeal.nD Cert.NormMixIdeal.τ Cert.NormMixIdeal.sig) → Buf (Elt Ideal) ℓ) (g : Dev Cert.NormMixIdeal.nD → PrngReg)
    (m' : (ℓ : Loc Cert.NormMixRefIdeal.nD Cert.NormMixRefIdeal.τ Cert.NormMixRefIdeal.sig) → Buf (Elt Ideal) ℓ) (g' : Dev Cert.NormMixRefIdeal.nD → PrngReg), Pre_NormMixIdeal m →
    (∀ c : Dev Cert.NormMixIdeal.nD,
      m' ((c.tc : Thread Cert.NormMixRefIdeal.nD Cert.NormMixRefIdeal.τ).loc Cert.NormMixRefIdeal.main_arg0) = m ((c.tc : Thread Cert.NormMixIdeal.nD Cert.NormMixIdeal.τ).loc Cert.NormMixIdeal.main_arg0)
      ∧ m' ((c.tc : Thread Cert.NormMixRefIdeal.nD Cert.NormMixRefIdeal.τ).loc Cert.NormMixRefIdeal.main_arg1) = m ((c.tc : Thread Cert.NormMixIdeal.nD Cert.NormMixIdeal.τ).loc Cert.NormMixIdeal.main_arg1)
      ∧ m' ((c.tc : Thread Cert.NormMixRefIdeal.nD Cert.NormMixRefIdeal.τ).loc Cert.NormMixRefIdeal.main_arg2) = m ((c.tc : Thread Cert.NormMixIdeal.nD Cert.NormMixIdeal.τ).loc Cert.NormMixIdeal.main_arg2)
      ∧ m' ((c.tc : Thread Cert.NormMixRefIdeal.nD Cert.NormMixRefIdeal.τ).loc Cert.NormMixRefIdeal.main_arg3) = m ((c.tc : Thread Cert.NormMixIdeal.nD Cert.NormMixIdeal.τ).loc Cert.NormMixIdeal.main_arg3)) →
    ∃ (v0 : (c : Dev Cert.NormMixIdeal.nD) → Buf (Elt Ideal) ((c.tc : Thread Cert.NormMixIdeal.nD Cert.NormMixIdeal.τ).loc Cert.NormMixIdeal.main_v5_0)) (v1 : (c : Dev Cert.NormMixIdeal.nD) → Buf (Elt Ideal) ((c.tc : Thread Cert.NormMixIdeal.nD Cert.NormMixIdeal.τ).loc Cert.NormMixIdeal.main_v5_1)) (v2 : (c : Dev Cert.NormMixIdeal.nD) → Buf (Elt Ideal) ((c.tc : Thread Cert.NormMixIdeal.nD Cert.NormMixIdeal.τ).loc Cert.NormMixIdeal.main_v5_2)),
      θ_run (Cert.NormMixIdeal.defs (F := Ideal)) (onTc (τ := Cert.NormMixIdeal.τ) (Cert.NormMixIdeal.main (F := Ideal))) ⟨m, fun _ => 0, g⟩ (fun r => ∀ c : Dev Cert.NormMixIdeal.nD,
          r.2.mem ((c.tc : Thread Cert.NormMixIdeal.nD Cert.NormMixIdeal.τ).loc Cert.NormMixIdeal.main_v5_0) = v0 c
          ∧ r.2.mem ((c.tc : Thread Cert.NormMixIdeal.nD Cert.NormMixIdeal.τ).loc Cert.NormMixIdeal.main_v5_1) = v1 c
          ∧ r.2.mem ((c.tc : Thread Cert.NormMixIdeal.nD Cert.NormMixIdeal.τ).loc Cert.NormMixIdeal.main_v5_2) = v2 c
          ∧ r.2.mem ((c.tc : Thread Cert.NormMixIdeal.nD Cert.NormMixIdeal.τ).loc Cert.NormMixIdeal.main_arg0) = m ((c.tc : Thread Cert.NormMixIdeal.nD Cert.NormMixIdeal.τ).loc Cert.NormMixIdeal.main_arg0)
          ∧ r.2.mem ((c.tc : Thread Cert.NormMixIdeal.nD Cert.NormMixIdeal.τ).loc Cert.NormMixIdeal.main_arg1) = m ((c.tc : Thread Cert.NormMixIdeal.nD Cert.NormMixIdeal.τ).loc Cert.NormMixIdeal.main_arg1)
          ∧ r.2.mem ((c.tc : Thread Cert.NormMixIdeal.nD Cert.NormMixIdeal.τ).loc Cert.NormMixIdeal.main_arg2) = m ((c.tc : Thread Cert.NormMixIdeal.nD Cert.NormMixIdeal.τ).loc Cert.NormMixIdeal.main_arg2)
          ∧ r.2.mem ((c.tc : Thread Cert.NormMixIdeal.nD Cert.NormMixIdeal.τ).loc Cert.NormMixIdeal.main_arg3) = m ((c.tc : Thread Cert.NormMixIdeal.nD Cert.NormMixIdeal.τ).loc Cert.NormMixIdeal.main_arg3))
      ∧ θ_run (Cert.NormMixRefIdeal.defs (F := Ideal)) (onTc (τ := Cert.NormMixRefIdeal.τ) (Cert.NormMixRefIdeal.main (F := Ideal))) ⟨m', fun _ => 0, g'⟩ (fun r => ∀ c : Dev Cert.NormMixRefIdeal.nD,
          r.2.mem ((c.tc : Thread Cert.NormMixRefIdeal.nD Cert.NormMixRefIdeal.τ).loc Cert.NormMixRefIdeal.main_v23) = v0 c
          ∧ r.2.mem ((c.tc : Thread Cert.NormMixRefIdeal.nD Cert.NormMixRefIdeal.τ).loc Cert.NormMixRefIdeal.main_v29) = v1 c
          ∧ r.2.mem ((c.tc : Thread Cert.NormMixRefIdeal.nD Cert.NormMixRefIdeal.τ).loc Cert.NormMixRefIdeal.main_v33) = v2 c
          ∧ r.2.mem ((c.tc : Thread Cert.NormMixRefIdeal.nD Cert.NormMixRefIdeal.τ).loc Cert.NormMixRefIdeal.main_arg0) = m' ((c.tc : Thread Cert.NormMixRefIdeal.nD Cert.NormMixRefIdeal.τ).loc Cert.NormMixRefIdeal.main_arg0)
          ∧ r.2.mem ((c.tc : Thread Cert.NormMixRefIdeal.nD Cert.NormMixRefIdeal.τ).loc Cert.NormMixRefIdeal.main_arg1) = m' ((c.tc : Thread Cert.NormMixRefIdeal.nD Cert.NormMixRefIdeal.τ).loc Cert.NormMixRefIdeal.main_arg1)
          ∧ r.2.mem ((c.tc : Thread Cert.NormMixRefIdeal.nD Cert.NormMixRefIdeal.τ).loc Cert.NormMixRefIdeal.main_arg2) = m' ((c.tc : Thread Cert.NormMixRefIdeal.nD Cert.NormMixRefIdeal.τ).loc Cert.NormMixRefIdeal.main_arg2)
          ∧ r.2.mem ((c.tc : Thread Cert.NormMixRefIdeal.nD Cert.NormMixRefIdeal.τ).loc Cert.NormMixRefIdeal.main_arg3) = m' ((c.tc : Thread Cert.NormMixRefIdeal.nD Cert.NormMixRefIdeal.τ).loc Cert.NormMixRefIdeal.main_arg3))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v2)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v2) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v6) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def preserves_Fox_FoxIdeal : Prop :=
  True

def algebraic_FoxIdeal_FoxRefIdeal_pre_scores_finite [hFoxIdeal : Cert.FoxIdeal.Facts] [hFoxRefIdeal : Cert.FoxRefIdeal.Facts] [hPre_scores_finite : Cert.Pre_scores_finite.Facts] : Prop :=
  ∀ (m : (ℓ : Loc Cert.FoxIdeal.nD Cert.FoxIdeal.τ Cert.FoxIdeal.sig) → Buf (Elt Ideal) ℓ) (g : Dev Cert.FoxIdeal.nD → PrngReg)
    (m' : (ℓ : Loc Cert.FoxRefIdeal.nD Cert.FoxRefIdeal.τ Cert.FoxRefIdeal.sig) → Buf (Elt Ideal) ℓ) (g' : Dev Cert.FoxRefIdeal.nD → PrngReg), Pre_FoxIdeal_scores_finite m →
    (∀ c : Dev Cert.FoxIdeal.nD,
      m' ((c.tc : Thread Cert.FoxRefIdeal.nD Cert.FoxRefIdeal.τ).loc Cert.FoxRefIdeal.main_arg0) = m ((c.tc : Thread Cert.FoxIdeal.nD Cert.FoxIdeal.τ).loc Cert.FoxIdeal.main_arg0)
      ∧ m' ((c.tc : Thread Cert.FoxRefIdeal.nD Cert.FoxRefIdeal.τ).loc Cert.FoxRefIdeal.main_arg1) = m ((c.tc : Thread Cert.FoxIdeal.nD Cert.FoxIdeal.τ).loc Cert.FoxIdeal.main_arg1)
      ∧ m' ((c.tc : Thread Cert.FoxRefIdeal.nD Cert.FoxRefIdeal.τ).loc Cert.FoxRefIdeal.main_arg2) = m ((c.tc : Thread Cert.FoxIdeal.nD Cert.FoxIdeal.τ).loc Cert.FoxIdeal.main_arg2)
      ∧ m' ((c.tc : Thread Cert.FoxRefIdeal.nD Cert.FoxRefIdeal.τ).loc Cert.FoxRefIdeal.main_arg3) = m ((c.tc : Thread Cert.FoxIdeal.nD Cert.FoxIdeal.τ).loc Cert.FoxIdeal.main_arg3)) →
    ∃ (v0 : (c : Dev Cert.FoxIdeal.nD) → Buf (Elt Ideal) ((c.tc : Thread Cert.FoxIdeal.nD Cert.FoxIdeal.τ).loc Cert.FoxIdeal.main_v0)),
      θ_run (Cert.FoxIdeal.defs (F := Ideal)) (onTc (τ := Cert.FoxIdeal.τ) (Cert.FoxIdeal.main (F := Ideal))) ⟨m, fun _ => 0, g⟩ (fun r => ∀ c : Dev Cert.FoxIdeal.nD,
          r.2.mem ((c.tc : Thread Cert.FoxIdeal.nD Cert.FoxIdeal.τ).loc Cert.FoxIdeal.main_v0) = v0 c
          ∧ r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
          ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
          ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
          ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3))
      ∧ θ_run (Cert.FoxRefIdeal.defs (F := Ideal)) (onTc (τ := Cert.FoxRefIdeal.τ) (Cert.FoxRefIdeal.main (F := Ideal))) ⟨m', fun _ => 0, g'⟩ (fun r => ∀ c : Dev Cert.FoxRefIdeal.nD,
          r.2.mem ((c.tc : Thread Cert.FoxRefIdeal.nD Cert.FoxRefIdeal.τ).loc Cert.FoxRefIdeal.main_v39) = v0 c
          ∧ r.2.mem ((c.tc : Thread Cert.FoxRefIdeal.nD Cert.FoxRefIdeal.τ).loc Cert.FoxRefIdeal.main_arg0) = m' ((c.tc : Thread Cert.FoxRefIdeal.nD Cert.FoxRefIdeal.τ).loc Cert.FoxRefIdeal.main_arg0)
          ∧ r.2.mem ((c.tc : Thread Cert.FoxRefIdeal.nD Cert.FoxRefIdeal.τ).loc Cert.FoxRefIdeal.main_arg1) = m' ((c.tc : Thread Cert.FoxRefIdeal.nD Cert.FoxRefIdeal.τ).loc Cert.FoxRefIdeal.main_arg1)
          ∧ r.2.mem ((c.tc : Thread Cert.FoxRefIdeal.nD Cert.FoxRefIdeal.τ).loc Cert.FoxRefIdeal.main_arg2) = m' ((c.tc : Thread Cert.FoxRefIdeal.nD Cert.FoxRefIdeal.τ).loc Cert.FoxRefIdeal.main_arg2)
          ∧ r.2.mem ((c.tc : Thread Cert.FoxRefIdeal.nD Cert.FoxRefIdeal.τ).loc Cert.FoxRefIdeal.main_arg3) = m' ((c.tc : Thread Cert.FoxRefIdeal.nD Cert.FoxRefIdeal.τ).loc Cert.FoxRefIdeal.main_arg3))

def Claim : Prop :=
  ∃ (hSwiglu : Cert.Swiglu.Facts) (hSwigluIdeal : Cert.SwigluIdeal.Facts) (hSwigluRefIdeal : Cert.SwigluRefIdeal.Facts) (hFfnOut : Cert.FfnOut.Facts) (hFfnOutIdeal : Cert.FfnOutIdeal.Facts) (hFfnOutRefIdeal : Cert.FfnOutRefIdeal.Facts) (hMerge : Cert.Merge.Facts) (hMergeIdeal : Cert.MergeIdeal.Facts) (hMergeRefIdeal : Cert.MergeRefIdeal.Facts) (hInQ : Cert.InQ.Facts) (hInQIdeal : Cert.InQIdeal.Facts) (hInQRefIdeal : Cert.InQRefIdeal.Facts) (hInF : Cert.InF.Facts) (hInFIdeal : Cert.InFIdeal.Facts) (hInFRefIdeal : Cert.InFRefIdeal.Facts) (hInMain : Cert.InMain.Facts) (hInMainIdeal : Cert.InMainIdeal.Facts) (hInMainRefIdeal : Cert.InMainRefIdeal.Facts) (hInGates : Cert.InGates.Facts) (hInGatesIdeal : Cert.InGatesIdeal.Facts) (hInGatesRefIdeal : Cert.InGatesRefIdeal.Facts) (hOutProj : Cert.OutProj.Facts) (hOutProjIdeal : Cert.OutProjIdeal.Facts) (hOutProjRefIdeal : Cert.OutProjRefIdeal.Facts) (hNormFfn : Cert.NormFfn.Facts) (hNormFfnIdeal : Cert.NormFfnIdeal.Facts) (hNormFfnRefIdeal : Cert.NormFfnRefIdeal.Facts) (hNormMix : Cert.NormMix.Facts) (hNormMixIdeal : Cert.NormMixIdeal.Facts) (hNormMixRefIdeal : Cert.NormMixRefIdeal.Facts) (hAda : Cert.Ada.Facts) (hAdaIdeal : Cert.AdaIdeal.Facts) (hAdaRefIdeal : Cert.AdaRefIdeal.Facts) (hFox : Cert.Fox.Facts) (hFoxIdeal : Cert.FoxIdeal.Facts) (hFoxRefIdeal : Cert.FoxRefIdeal.Facts) (hPre_scores_finite : Cert.Pre_scores_finite.Facts),
    quiescent_Swiglu (hSwiglu := hSwiglu)
    ∧ quiescent_SwigluIdeal (hSwigluIdeal := hSwigluIdeal)
    ∧ quiescent_SwigluRefIdeal (hSwigluRefIdeal := hSwigluRefIdeal)
    ∧ quiescent_FfnOut (hFfnOut := hFfnOut)
    ∧ quiescent_FfnOutIdeal (hFfnOutIdeal := hFfnOutIdeal)
    ∧ quiescent_FfnOutRefIdeal (hFfnOutRefIdeal := hFfnOutRefIdeal)
    ∧ quiescent_Merge (hMerge := hMerge)
    ∧ quiescent_MergeIdeal (hMergeIdeal := hMergeIdeal)
    ∧ quiescent_MergeRefIdeal (hMergeRefIdeal := hMergeRefIdeal)
    ∧ quiescent_InQ (hInQ := hInQ)
    ∧ quiescent_InQIdeal (hInQIdeal := hInQIdeal)
    ∧ quiescent_InQRefIdeal (hInQRefIdeal := hInQRefIdeal)
    ∧ quiescent_InF (hInF := hInF)
    ∧ quiescent_InFIdeal (hInFIdeal := hInFIdeal)
    ∧ quiescent_InFRefIdeal (hInFRefIdeal := hInFRefIdeal)
    ∧ quiescent_InMain (hInMain := hInMain)
    ∧ quiescent_InMainIdeal (hInMainIdeal := hInMainIdeal)
    ∧ quiescent_InMainRefIdeal (hInMainRefIdeal := hInMainRefIdeal)
    ∧ quiescent_InGates (hInGates := hInGates)
    ∧ quiescent_InGatesIdeal (hInGatesIdeal := hInGatesIdeal)
    ∧ quiescent_InGatesRefIdeal (hInGatesRefIdeal := hInGatesRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_NormFfn (hNormFfn := hNormFfn)
    ∧ quiescent_NormFfnIdeal (hNormFfnIdeal := hNormFfnIdeal)
    ∧ quiescent_NormFfnRefIdeal (hNormFfnRefIdeal := hNormFfnRefIdeal)
    ∧ quiescent_NormMix (hNormMix := hNormMix)
    ∧ quiescent_NormMixIdeal (hNormMixIdeal := hNormMixIdeal)
    ∧ quiescent_NormMixRefIdeal (hNormMixRefIdeal := hNormMixRefIdeal)
    ∧ quiescent_Ada (hAda := hAda)
    ∧ quiescent_AdaIdeal (hAdaIdeal := hAdaIdeal)
    ∧ quiescent_AdaRefIdeal (hAdaRefIdeal := hAdaRefIdeal)
    ∧ quiescent_Fox (hFox := hFox)
    ∧ quiescent_FoxIdeal (hFoxIdeal := hFoxIdeal)
    ∧ quiescent_FoxIdeal_pre_scores_finite (hFoxIdeal := hFoxIdeal) (hPre_scores_finite := hPre_scores_finite)
    ∧ quiescent_FoxRefIdeal (hFoxRefIdeal := hFoxRefIdeal)
    ∧ quiescent_FoxRefIdeal_pre_scores_finite (hFoxRefIdeal := hFoxRefIdeal) (hPre_scores_finite := hPre_scores_finite)
    ∧ preserves_Swiglu_SwigluIdeal
    ∧ algebraic_SwigluIdeal_SwigluRefIdeal (hSwigluIdeal := hSwigluIdeal) (hSwigluRefIdeal := hSwigluRefIdeal)
    ∧ preserves_FfnOut_FfnOutIdeal
    ∧ algebraic_FfnOutIdeal_FfnOutRefIdeal (hFfnOutIdeal := hFfnOutIdeal) (hFfnOutRefIdeal := hFfnOutRefIdeal)
    ∧ preserves_Merge_MergeIdeal
    ∧ algebraic_MergeIdeal_MergeRefIdeal (hMergeIdeal := hMergeIdeal) (hMergeRefIdeal := hMergeRefIdeal)
    ∧ preserves_InQ_InQIdeal
    ∧ algebraic_InQIdeal_InQRefIdeal (hInQIdeal := hInQIdeal) (hInQRefIdeal := hInQRefIdeal)
    ∧ preserves_InF_InFIdeal
    ∧ algebraic_InFIdeal_InFRefIdeal (hInFIdeal := hInFIdeal) (hInFRefIdeal := hInFRefIdeal)
    ∧ preserves_InMain_InMainIdeal
    ∧ algebraic_InMainIdeal_InMainRefIdeal (hInMainIdeal := hInMainIdeal) (hInMainRefIdeal := hInMainRefIdeal)
    ∧ preserves_InGates_InGatesIdeal
    ∧ algebraic_InGatesIdeal_InGatesRefIdeal (hInGatesIdeal := hInGatesIdeal) (hInGatesRefIdeal := hInGatesRefIdeal)
    ∧ preserves_OutProj_OutProjIdeal
    ∧ algebraic_OutProjIdeal_OutProjRefIdeal (hOutProjIdeal := hOutProjIdeal) (hOutProjRefIdeal := hOutProjRefIdeal)
    ∧ preserves_NormFfn_NormFfnIdeal
    ∧ algebraic_NormFfnIdeal_NormFfnRefIdeal (hNormFfnIdeal := hNormFfnIdeal) (hNormFfnRefIdeal := hNormFfnRefIdeal)
    ∧ preserves_NormMix_NormMixIdeal
    ∧ algebraic_NormMixIdeal_NormMixRefIdeal (hNormMixIdeal := hNormMixIdeal) (hNormMixRefIdeal := hNormMixRefIdeal)
    ∧ preserves_Ada_AdaIdeal
    ∧ algebraic_AdaIdeal_AdaRefIdeal (hAdaIdeal := hAdaIdeal) (hAdaRefIdeal := hAdaRefIdeal)
    ∧ preserves_Fox_FoxIdeal
    ∧ algebraic_FoxIdeal_FoxRefIdeal_pre_scores_finite (hFoxIdeal := hFoxIdeal) (hFoxRefIdeal := hFoxRefIdeal) (hPre_scores_finite := hPre_scores_finite)
-- ==== Pre_scores_finite.lean ====
abbrev S16384x4096 : Shape := ⟨2, ![16384, 4096]⟩
abbrev S32x4096x512 : Shape := ⟨3, ![32, 4096, 512]⟩
abbrev S32x128 : Shape := ⟨2, ![32, 128]⟩
abbrev S16384x10240 : Shape := ⟨2, ![16384, 10240]⟩
abbrev S_ : Shape := ⟨0, ![]⟩

class Facts : Prop where
  bitsLt_bf16_f32 : FTy.bits .bf16 < FTy.bits .f32
  bcast_S_S16384x4096 : S_.BroadcastsInDim S16384x4096 (![] : Fin 0 → Fin S16384x4096.rank)
  bcast_S_S32x4096x512 : S_.BroadcastsInDim S32x4096x512 (![] : Fin 0 → Fin S32x4096x512.rank)
  bcast_S_S32x128 : S_.BroadcastsInDim S32x128 (![] : Fin 0 → Fin S32x128.rank)

variable [Facts]

def fn {F : FTy → Type} [FloatOps F] (main_arg0 : FVec F S16384x4096 .bf16) (main_arg1 : FVec F S32x4096x512 .bf16) (main_arg2 : FVec F S32x128 .f32) (main_arg3 : FVec F S16384x10240 .bf16) : IVec S16384x4096 1 × IVec S32x4096x512 1 × IVec S32x128 1 :=
  let main_v0 : FVec F S16384x4096 .f32 := (extf .f32 · bitsLt_bf16_f32) main_arg0
  let main_v1 : FVec F S16384x4096 .f32 := Host.absf main_v0
  let main_cst : FVec F S_ .f32 := constant S_ .f32 0x7F800000#32
  let main_v2 : FVec F S16384x4096 .f32 := broadcastInDim S16384x4096 ![] bcast_S_S16384x4096 main_cst
  let main_v3 : IVec S16384x4096 1 := cmpf .olt main_v1 main_v2
  let main_v4 : FVec F S32x4096x512 .f32 := (extf .f32 · bitsLt_bf16_f32) main_arg1
  let main_v5 : FVec F S32x4096x512 .f32 := Host.absf main_v4
  let main_cst_0 : FVec F S_ .f32 := constant S_ .f32 0x7F800000#32
  let main_v6 : FVec F S32x4096x512 .f32 := broadcastInDim S32x4096x512 ![] bcast_S_S32x4096x512 main_cst_0
  let main_v7 : IVec S32x4096x512 1 := cmpf .olt main_v5 main_v6
  let main_v8 : FVec F S32x128 .f32 := Host.absf main_arg2
  let main_cst_1 : FVec F S_ .f32 := constant S_ .f32 0x7F800000#32
  let main_v9 : FVec F S32x128 .f32 := broadcastInDim S32x128 ![] bcast_S_S32x128 main_cst_1
  let main_v10 : IVec S32x128 1 := cmpf .olt main_v8 main_v9
  (main_v3, main_v7, main_v10)
-- ==== Swiglu.lean ====
abbrev S16384x4096 : Shape := ⟨2, ![16384, 4096]⟩
abbrev S4096x22016 : Shape := ⟨2, ![4096, 22016]⟩
abbrev S16384x11008 : Shape := ⟨2, ![16384, 11008]⟩
abbrev S4096x4096 : Shape := ⟨2, ![4096, 4096]⟩
abbrev S4096x256 : Shape := ⟨2, ![4096, 256]⟩

abbrev nBuf : Space → Nat
  | .hbm => 3
  | .vmem => 7
  | .smem => 0
  | _ => 0

abbrev bufTy : (tb : Table) → Fin (tcTables nBuf tb) → BufTy
  | .hbm, ⟨0, _⟩ => ⟨S16384x4096, .bf16⟩
  | .hbm, ⟨1, _⟩ => ⟨S4096x22016, .bf16⟩
  | .hbm, ⟨2, _⟩ => ⟨S16384x11008, .bf16⟩
  | .local _ .vmem, ⟨0, _⟩ => ⟨S4096x4096, .bf16⟩
  | .local _ .vmem, ⟨1, _⟩ => ⟨S4096x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S4096x256, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.addi c43_i32 arg1
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SwigluRefIdeal.lean ====
abbrev S16384x4096 : Shape := ⟨2, ![16384, 4096]⟩
abbrev S4096x22016 : Shape := ⟨2, ![4096, 22016]⟩
abbrev S16384x22016 : Shape := ⟨2, ![16384, 22016]⟩
abbrev S16384x11008 : Shape := ⟨2, ![16384, 11008]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x22016, .bf16⟩
  | .hbm, ⟨2, _⟩ => ⟨S16384x4096, .f32⟩
  | .hbm, ⟨3, _⟩ => ⟨S4096x22016, .f32⟩
  | .hbm, ⟨4, _⟩ => ⟨S16384x22016, .f32⟩
  | .hbm, ⟨5, _⟩ => ⟨S16384x11008, .f32⟩
  | .hbm, ⟨6, _⟩ => ⟨S16384x11008, .f32⟩
  | .hbm, ⟨7, _⟩ => ⟨S16384x11008, .f32⟩
  | .hbm, ⟨8, _⟩ => ⟨S16384x11008, .f32⟩
  | .hbm, ⟨9, _⟩ => ⟨S_, .f32⟩
  | .hbm, ⟨10, _⟩ => ⟨S16384x11008, .f32⟩
  | .hbm, ⟨11, _⟩ => ⟨S16384x11008, .f32⟩
  | .hbm, ⟨12, _⟩ => ⟨S_, .f32⟩
  | .hbm, ⟨13, _⟩ => ⟨S16384x11008, .f32⟩
  | .hbm, ⟨14, _⟩ => ⟨S16384x11008, .f32⟩
  | .hbm, ⟨15, _⟩ => ⟨S16384x11008, .f32⟩
  | .hbm, ⟨16, _⟩ => ⟨S16384x11008, .f32⟩
  | .hbm, ⟨17, _⟩ => ⟨S16384x11008, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩

abbrev nD : Nat := 1
abbrev τ : Topo := Topo.v7x

variable {F : FTy → Type} [FloatOps F]
-- ==== FfnOut.lean ====
abbrev S16384x11008 : Shape := ⟨2, ![16384, 11008]⟩
abbrev S11008x4096 : Shape := ⟨2, ![11008, 4096]⟩
abbrev S16384x4096 : Shape := ⟨2, ![16384, 4096]⟩
abbrev S1x16384 : Shape := ⟨2, ![1, 16384]⟩
abbrev S512x11008 : Shape := ⟨2, ![512, 11008]⟩
abbrev S11008x512 : Shape := ⟨2, ![11008, 512]⟩
abbrev S512x512 : Shape := ⟨2, ![512, 512]⟩
abbrev S1x512 : Shape := ⟨2, ![1, 512]⟩

abbrev nBuf : Space → Nat
  | .hbm => 5
  | .vmem => 10
  | .smem => 0
  | _ => 0

abbrev bufTy : (tb : Table) → Fin (tcTables nBuf tb) → BufTy
  | .hbm, ⟨0, _⟩ => ⟨S16384x11008, .bf16⟩
  | .hbm, ⟨1, _⟩ => ⟨S11008x4096, .bf16⟩
  | .hbm, ⟨2, _⟩ => ⟨S16384x4096, .f32⟩
  | .hbm, ⟨3, _⟩ => ⟨S1x16384, .f32⟩
  | .hbm, ⟨4, _⟩ => ⟨S16384x4096, .f32⟩
  | .local _ .vmem, ⟨0, _⟩ => ⟨S512x11008, .bf16⟩
  | .local _ .vmem, ⟨1, _⟩ => ⟨S512x11008, .bf16⟩
  | .local _ .vmem, ⟨2, _⟩ => ⟨S11008x512, .bf16⟩
  | .local _ .vmem, ⟨3, _⟩ => ⟨S11008x512, .bf16⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S1x512, .f32⟩
  | .local _ .vmem, ⟨8, _⟩ => ⟨S512x512, .f32⟩
  | .local _ .vmem, ⟨9, _⟩ => ⟨S512x512, .f32⟩
  | _, _ => ⟨S16384x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S11008x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FfnOutRefIdeal.lean ====
abbrev S16384x11008 : Shape := ⟨2, ![16384, 11008]⟩
abbrev S11008x4096 : Shape := ⟨2, ![11008, 4096]⟩
abbrev S16384x4096 : Shape := ⟨2, ![16384, 4096]⟩
abbrev S1x16384 : Shape := ⟨2, ![1, 16384]⟩
abbrev S1x4096 : Shape := ⟨2, ![1, 4096]⟩

abbrev nBuf : Space → Nat
  | .hbm => 11
  | .vmem => 0
  | .smem => 0
  | _ => 0

abbrev bufTy : (tb : Table) → Fin (tcTables nBuf tb) → BufTy
  | .hbm, ⟨0, _⟩ => ⟨S16384x11008, .bf16⟩
  | .hbm, ⟨1, _⟩ => ⟨S11008x4096, .bf16⟩
  | .hbm, ⟨2, _⟩ => ⟨S16384x4096, .f32⟩
  | .hbm, ⟨3, _⟩ => ⟨S1x16384, .f32⟩
  | .hbm, ⟨4, _⟩ => ⟨S1x4096, .f32⟩
  | .hbm, ⟨5, _⟩ => ⟨S16384x11008, .f32⟩
  | .hbm, ⟨6, _⟩ => ⟨S11008x4096, .f32⟩
  | .hbm, ⟨7, _⟩ => ⟨S16384x4096, .f32⟩
  | .hbm, ⟨8, _⟩ => ⟨S16384x4096, .f32⟩
  | .hbm, ⟨9, _⟩ => ⟨S16384x4096, .f32⟩
  | .hbm, ⟨10, _⟩ => ⟨S16384x4096, .f32⟩
  | _, _ => ⟨S16384x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Merge.lean ====
abbrev S16384x2048 : Shape := ⟨2, ![16384, 2048]⟩
abbrev S2048x4096 : Shape := ⟨2, ![2048, 4096]⟩
abbrev S16384x8192 : Shape := ⟨2, ![16384, 8192]⟩
abbrev S16384x4096 : Shape := ⟨2, ![16384, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 6
  | .vmem => 14
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S2048x4096, .bf16⟩
  | .hbm, ⟨3, _⟩ => ⟨S2048x4096, .bf16⟩
  | .hbm, ⟨4, _⟩ => ⟨S16384x8192, .bf16⟩
  | .hbm, ⟨5, _⟩ => ⟨S16384x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MergeRefIdeal.lean ====
abbrev S16384x2048 : Shape := ⟨2, ![16384, 2048]⟩
abbrev S2048x4096 : Shape := ⟨2, ![2048, 4096]⟩
abbrev S16384x8192 : Shape := ⟨2, ![16384, 8192]⟩
abbrev S16384x4096 : Shape := ⟨2, ![16384, 4096]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S2048x4096, .bf16⟩
  | .hbm, ⟨3, _⟩ => ⟨S2048x4096, .bf16⟩
  | .hbm, ⟨4, _⟩ => ⟨S16384x8192, .bf16⟩
  | .hbm, ⟨5, _⟩ => ⟨S16384x8192, .f32⟩
  | .hbm, ⟨6, _⟩ => ⟨S16384x4096, .f32⟩
  | .hbm, ⟨7, _⟩ => ⟨S16384x4096, .f32⟩
  | .hbm, ⟨8, _⟩ => ⟨S16384x4096, .f32⟩
  | .hbm, ⟨9, _⟩ => ⟨S16384x4096, .f32⟩
  | .hbm, ⟨10, _⟩ => ⟨S_, .f32⟩
  | .hbm, ⟨11, _⟩ => ⟨S16384x4096, .f32⟩
  | .hbm, ⟨12, _⟩ => ⟨S16384x4096, .f32⟩
  | .hbm, ⟨13, _⟩ => ⟨S_, .f32⟩
  | .hbm, ⟨14, _⟩ => ⟨S16384x4096, .f32⟩
  | .hbm, ⟨15, _⟩ => ⟨S16384x4096, .f32⟩
  | .hbm, ⟨16, _⟩ => ⟨S16384x2048, .f32⟩
  | .hbm, ⟨17, _⟩ => ⟨S2048x4096, .f32⟩
  | .hbm, ⟨18, _⟩ => ⟨S16384x4096, .f32⟩
  | .hbm, ⟨19, _⟩ => ⟨S16384x4096, .f32⟩
  | .hbm, ⟨20, _⟩ => ⟨S16384x4096, .f32⟩
  | .hbm, ⟨21, _⟩ => ⟨S16384x4096, .f32⟩
  | .hbm, ⟨22, _⟩ => ⟨S_, .f32⟩
  | .hbm, ⟨23, _⟩ => ⟨S16384x4096, .f32⟩
  | .hbm, ⟨24, _⟩ => ⟨S16384x4096, .f32⟩
  | .hbm, ⟨25, _⟩ => ⟨S_, .f32⟩
  | .hbm, ⟨26, _⟩ => ⟨S16384x4096, .f32⟩
  | .hbm, ⟨27, _⟩ => ⟨S16384x4096, .f32⟩
  | .hbm, ⟨28, _⟩ => ⟨S16384x2048, .f32⟩
  | .hbm, ⟨29, _⟩ => ⟨S2048x4096, .f32⟩
  | .hbm, ⟨30, _⟩ => ⟨S16384x4096, .f32⟩
  | .hbm, ⟨31, _⟩ => ⟨S16384x4096, .f32⟩
  | .hbm, ⟨32, _⟩ => ⟨S16384x4096, .f32⟩
  | .hbm, ⟨33, _⟩ => ⟨S16384x4096, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== InQ.lean ====
abbrev S16384x4096 : Shape := ⟨2, ![16384, 4096]⟩
abbrev S4096x4096 : Shape := ⟨2, ![4096, 4096]⟩
abbrev S1x4096x22544 : Shape := ⟨3, ![1, 4096, 22544]⟩
abbrev S1x22544x4096 : Shape := ⟨3, ![1, 22544, 4096]⟩
abbrev S22544x4096 : Shape := ⟨2, ![22544, 4096]⟩
abbrev S16384x2048 : Shape := ⟨2, ![16384, 2048]⟩
abbrev S10240x4096 : Shape := ⟨2, ![10240, 4096]⟩
abbrev S1024x4096 : Shape := ⟨2, ![1024, 4096]⟩
abbrev S512x4096 : Shape := ⟨2, ![512, 4096]⟩
abbrev S160x4096 : Shape := ⟨2, ![160, 4096]⟩
abbrev S1024x512 : Shape := ⟨2, ![1024, 512]⟩

abbrev nBuf : Space → Nat
  | .hbm => 7
  | .vmem => 10
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .bf16⟩
  | .hbm, ⟨2, _⟩ => ⟨S1x4096x22544, .f32⟩
  | .hbm, ⟨3, _⟩ => ⟨S1x22544x4096, .f32⟩
  | .hbm, ⟨4, _⟩ => ⟨S22544x4096, .f32⟩
  | .hbm, ⟨5, _⟩ => ⟨S16384x2048, .bf16⟩
  | .hbm, ⟨6, _⟩ => ⟨S10240x4096, .bf16⟩
  | .local _ .vmem, ⟨0, _⟩ => ⟨S1024x4096, .bf16⟩
  | .local _ .vmem, ⟨1, _⟩ => ⟨S1024x4096, .bf16⟩
  | .local _ .vmem, ⟨2, _⟩ => ⟨S512x4096, .bf16⟩
  | .local _ .vmem, ⟨3, _⟩ => ⟨S512x4096, .bf16⟩
  | .local _ .vmem, ⟨4, _⟩ => ⟨S160x4096, .f32⟩
  | .local _ .vmem, ⟨5, _⟩ => ⟨S160x4096, .f32⟩
  | .local _ .vmem, ⟨6, _⟩ => ⟨S1024x512, .bf16⟩
  | .local _ .vmem, ⟨7, _⟩ => ⟨S1024x512, .bf16⟩
  | .local _ .vmem, ⟨8, _⟩ => ⟨S160x4096, .bf16⟩
  | .local _ .vmem, ⟨9, _⟩ => ⟨S160x4096, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def k0_mult1 (i : grid0.Coords) : BitVec 32 :=
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  v1
def k0_mult2 (i : grid0.Coords) : BitVec 32 :=
  let c4096_i32 : BitVec 32 := 4096#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c63_i32 : BitVec 32 := 63#32
  let v2 : BitVec 32 := Scalar.minsi v1 c63_i32
  let c160_i32 : BitVec 32 := 160#32
  let v3 : BitVec 32 := Scalar.muli v2 c160_i32
  let v4 : BitVec 32 := Scalar.addi c4096_i32 v3
  v4
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c0_i32 : BitVec 32 := 0#32
  let v1 : BitVec 32 := Scalar.addi c0_i32 v0
  let v2 : BitVec 32 := v1
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c63_i32 : BitVec 32 := 63#32
  let v2 : BitVec 32 := Scalar.minsi v1 c63_i32
  let c160_i32 : BitVec 32 := 160#32
  let v3 : BitVec 32 := Scalar.muli v2 c160_i32
  let c4096_i32 : BitVec 32 := 4096#32
  let v4 : BitVec 32 := Scalar.addi c4096_i32 v3
  let v5 : BitVec 32 := v4
  let c0_i32 : BitVec 32 := 0#32
  let c0_i32_0 : BitVec 32 := 0#32
  ![v5.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S160x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S160x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== InQRefIdeal.lean ====
abbrev S16384x4096 : Shape := ⟨2, ![16384, 4096]⟩
abbrev S4096x4096 : Shape := ⟨2, ![4096, 4096]⟩
abbrev S1x4096x22544 : Shape := ⟨3, ![1, 4096, 22544]⟩
abbrev S2048x4096 : Shape := ⟨2, ![2048, 4096]⟩
abbrev S4096x2048 : Shape := ⟨2, ![4096, 2048]⟩
abbrev S16384x2048 : Shape := ⟨2, ![16384, 2048]⟩
abbrev S1x4096x10240 : Shape := ⟨3, ![1, 4096, 10240]⟩
abbrev S4096x10240 : Shape := ⟨2, ![4096, 10240]⟩
abbrev S10240x4096 : Shape := ⟨2, ![10240, 4096]⟩

abbrev nBuf : Space → Nat
  | .hbm => 13
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .bf16⟩
  | .hbm, ⟨2, _⟩ => ⟨S1x4096x22544, .f32⟩
  | .hbm, ⟨3, _⟩ => ⟨S16384x4096, .f32⟩
  | .hbm, ⟨4, _⟩ => ⟨S2048x4096, .bf16⟩
  | .hbm, ⟨5, _⟩ => ⟨S2048x4096, .f32⟩
  | .hbm, ⟨6, _⟩ => ⟨S4096x2048, .f32⟩
  | .hbm, ⟨7, _⟩ => ⟨S16384x2048, .f32⟩
  | .hbm, ⟨8, _⟩ => ⟨S16384x2048, .bf16⟩
  | .hbm, ⟨9, _⟩ => ⟨S1x4096x10240, .f32⟩
  | .hbm, ⟨10, _⟩ => ⟨S4096x10240, .f32⟩
  | .hbm, ⟨11, _⟩ => ⟨S10240x4096, .f32⟩
  | .hbm, ⟨12, _⟩ => ⟨S10240x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== InF.lean ====
abbrev S16384x4096 : Shape := ⟨2, ![16384, 4096]⟩
abbrev S4096x4096 : Shape := ⟨2, ![4096, 4096]⟩
abbrev S1x4096x22544 : Shape := ⟨3, ![1, 4096, 22544]⟩
abbrev S1x22544x4096 : Shape := ⟨3, ![1, 22544, 4096]⟩
abbrev S22544x4096 : Shape := ⟨2, ![22544, 4096]⟩
abbrev S16384x2048 : Shape := ⟨2, ![16384, 2048]⟩
abbrev S8208x4096 : Shape := ⟨2, ![8208, 4096]⟩
abbrev S1024x4096 : Shape := ⟨2, ![1024, 4096]⟩
abbrev S512x4096 : Shape := ⟨2, ![512, 4096]⟩
abbrev S144x4096 : Shape := ⟨2, ![144, 4096]⟩
abbrev S1024x512 : Shape := ⟨2, ![1024, 512]⟩

abbrev nBuf : Space → Nat
  | .hbm => 7
  | .vmem => 10
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .bf16⟩
  | .hbm, ⟨2, _⟩ => ⟨S1x4096x22544, .f32⟩
  | .hbm, ⟨3, _⟩ => ⟨S1x22544x4096, .f32⟩
  | .hbm, ⟨4, _⟩ => ⟨S22544x4096, .f32⟩
  | .hbm, ⟨5, _⟩ => ⟨S16384x2048, .f32⟩
  | .hbm, ⟨6, _⟩ => ⟨S8208x4096, .bf16⟩
  | .local _ .vmem, ⟨0, _⟩ => ⟨S1024x4096, .bf16⟩
  | .local _ .vmem, ⟨1, _⟩ => ⟨S1024x4096, .bf16⟩
  | .local _ .vmem, ⟨2, _⟩ => ⟨S512x4096, .bf16⟩
  | .local _ .vmem, ⟨3, _⟩ => ⟨S512x4096, .bf16⟩
  | .local _ .vmem, ⟨4, _⟩ => ⟨S144x4096, .f32⟩
  | .local _ .vmem, ⟨5, _⟩ => ⟨S144x4096, .f32⟩
  | .local _ .vmem, ⟨6, _⟩ => ⟨S1024x512, .f32⟩
  | .local _ .vmem, ⟨7, _⟩ => ⟨S1024x512, .f32⟩
  | .local _ .vmem, ⟨8, _⟩ => ⟨S144x4096, .bf16⟩
  | .local _ .vmem, ⟨9, _⟩ => ⟨S144x4096, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def k0_mult1 (i : grid0.Coords) : BitVec 32 :=
  let c2048_i32 : BitVec 32 := 2048#32
  let arg1 : BitVec 32 := BitVec.ofNat 32 (i 1).val
  let c512_i32 : BitVec 32 := 512#32
  let v0 : BitVec 32 := Scalar.muli arg1 c512_i32
  let v1 : BitVec 32 := Scalar.addi c2048_i32 v0
  v1
def k0_mult2 (i : grid0.Coords) : BitVec 32 :=
  let c14336_i32 : BitVec 32 := 14336#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c56_i32 : BitVec 32 := 56#32
  let v2 : BitVec 32 := Scalar.minsi v1 c56_i32
  let c144_i32 : BitVec 32 := 144#32
  let v3 : BitVec 32 := Scalar.muli v2 c144_i32
  let v4 : BitVec 32 := Scalar.addi c14336_i32 v3
  v4
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c2048_i32 : BitVec 32 := 2048#32
  let v1 : BitVec 32 := Scalar.addi c2048_i32 v0
  let v2 : BitVec 32 := v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c56_i32 : BitVec 32 := 56#32
  let v2 : BitVec 32 := Scalar.minsi v1 c56_i32
  let c144_i32 : BitVec 32 := 144#32
  let v3 : BitVec 32 := Scalar.muli v2 c144_i32
  let c14336_i32 : BitVec 32 := 14336#32
  let v4 : BitVec 32 := Scalar.addi c14336_i32 v3
  let v5 : BitVec 32 := v4
  let c0_i32 : BitVec 32 := 0#32
  let c0_i32_0 : BitVec 32 := 0#32
  ![v5.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c56_i32 : BitVec 32 := 56#32
  let v2 : BitVec 32 := Scalar.minsi v1 c56_i32
  let c0_i32 : BitVec 32 := 0#32
  let c0_i32_0 : BitVec 32 := 0#32
  ![v2.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S144x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S144x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== InFRefIdeal.lean ====
abbrev S16384x4096 : Shape := ⟨2, ![16384, 4096]⟩
abbrev S4096x4096 : Shape := ⟨2, ![4096, 4096]⟩
abbrev S1x4096x22544 : Shape := ⟨3, ![1, 4096, 22544]⟩
abbrev S2048x4096 : Shape := ⟨2, ![2048, 4096]⟩
abbrev S4096x2048 : Shape := ⟨2, ![4096, 2048]⟩
abbrev S16384x2048 : Shape := ⟨2, ![16384, 2048]⟩
abbrev S1x4096x8208 : Shape := ⟨3, ![1, 4096, 8208]⟩
abbrev S4096x8208 : Shape := ⟨2, ![4096, 8208]⟩
abbrev S8208x4096 : Shape := ⟨2, ![8208, 4096]⟩

abbrev nBuf : Space → Nat
  | .hbm => 12
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .bf16⟩
  | .hbm, ⟨2, _⟩ => ⟨S1x4096x22544, .f32⟩
  | .hbm, ⟨3, _⟩ => ⟨S16384x4096, .f32⟩
  | .hbm, ⟨4, _⟩ => ⟨S2048x4096, .bf16⟩
  | .hbm, ⟨5, _⟩ => ⟨S2048x4096, .f32⟩
  | .hbm, ⟨6, _⟩ => ⟨S4096x2048, .f32⟩
  | .hbm, ⟨7, _⟩ => ⟨S16384x2048, .f32⟩
  | .hbm, ⟨8, _⟩ => ⟨S1x4096x8208, .f32⟩
  | .hbm, ⟨9, _⟩ => ⟨S4096x8208, .f32⟩
  | .hbm, ⟨10, _⟩ => ⟨S8208x4096, .f32⟩
  | .hbm, ⟨11, _⟩ => ⟨S8208x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== InMain.lean ====
abbrev S16384x4096 : Shape := ⟨2, ![16384, 4096]⟩
abbrev S10240x4096 : Shape := ⟨2, ![10240, 4096]⟩
abbrev S1x4096 : Shape := ⟨2, ![1, 4096]⟩
abbrev S1x4096x24576 : Shape := ⟨3, ![1, 4096, 24576]⟩
abbrev S1x24576 : Shape := ⟨2, ![1, 24576]⟩
abbrev S1x4096x4096 : Shape := ⟨3, ![1, 4096, 4096]⟩
abbrev S1x2048x4096 : Shape := ⟨3, ![1, 2048, 4096]⟩
abbrev S4096x1 : Shape := ⟨2, ![4096, 1]⟩
abbrev S4096x24576 : Shape := ⟨2, ![4096, 24576]⟩
abbrev S4096x4096 : Shape := ⟨2, ![4096, 4096]⟩
abbrev S2048x4096 : Shape := ⟨2, ![2048, 4096]⟩
abbrev S16384x10240 : Shape := ⟨2, ![16384, 10240]⟩
abbrev S1x16384 : Shape := ⟨2, ![1, 16384]⟩
abbrev S1024x4096 : Shape := ⟨2, ![1024, 4096]⟩
abbrev S4096x128 : Shape := ⟨2, ![4096, 128]⟩
abbrev S1x128 : Shape := ⟨2, ![1, 128]⟩
abbrev S32x4096 : Shape := ⟨2, ![32, 4096]⟩
abbrev S16x4096 : Shape := ⟨2, ![16, 4096]⟩
abbrev S1024x1024 : Shape := ⟨2, ![1024, 1024]⟩
abbrev S128 : Shape := ⟨1, ![128]⟩

abbrev nBuf : Space → Nat
  | .hbm => 18
  | .vmem => 25
  | .smem => 0
  | _ => 0

abbrev bufTy : (tb : Table) → Fin (tcTables nBuf tb) → BufTy
  | .hbm, ⟨0, _⟩ => ⟨S16384x4096, .bf16⟩
  | .hbm, ⟨1, _⟩ => ⟨S10240x4096, .bf16⟩
  | .hbm, ⟨2, _⟩ => ⟨S1x4096, .f32⟩
  | .hbm, ⟨3, _⟩ => ⟨S1x4096x24576, .f32⟩
  | .hbm, ⟨4, _⟩ => ⟨S1x24576, .f32⟩
  | .hbm, ⟨5, _⟩ => ⟨S1x4096x4096, .f32⟩
  | .hbm, ⟨6, _⟩ => ⟨S1x2048x4096, .f32⟩
  | .hbm, ⟨7, _⟩ => ⟨S1x2048x4096, .f32⟩
  | .hbm, ⟨8, _⟩ => ⟨S4096x1, .f32⟩
  | .hbm, ⟨9, _⟩ => ⟨S4096x24576, .f32⟩
  | .hbm, ⟨10, _⟩ => ⟨S4096x4096, .f32⟩
  | .hbm, ⟨11, _⟩ => ⟨S2048x4096, .f32⟩
  | .hbm, ⟨12, _⟩ => ⟨S2048x4096, .f32⟩
  | .hbm, ⟨13, _⟩ => ⟨S16384x10240, .bf16⟩
  | .hbm, ⟨14, _⟩ => ⟨S1x16384, .f32⟩
  | .hbm, ⟨15, _⟩ => ⟨S4096x4096, .bf16⟩
  | .hbm, ⟨16, _⟩ => ⟨S2048x4096, .bf16⟩
  | .hbm, ⟨17, _⟩ => ⟨S2048x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S4096x1, .f32⟩
  | .local _ .vmem, ⟨5, _⟩ => ⟨S4096x128, .f32⟩
  | .local _ .vmem, ⟨6, _⟩ => ⟨S4096x128, .f32⟩
  | .local _ .vmem, ⟨7, _⟩ => ⟨S1x128, .f32⟩
  | .local _ .vmem, ⟨8, _⟩ => ⟨S1x128, .f32⟩
  | .local _ .vmem, ⟨9, _⟩ => ⟨S32x4096, .f32⟩
  | .local _ .vmem, ⟨10, _⟩ => ⟨S32x4096, .f32⟩
  | .local _ .vmem, ⟨11, _⟩ => ⟨S16x4096, .f32⟩
  | .local _ .vmem, ⟨12, _⟩ => ⟨S16x4096, .f32⟩
  | .local _ .vmem, ⟨13, _⟩ => ⟨S16x4096, .f32⟩
  | .local _ .vmem, ⟨14, _⟩ => ⟨S16x4096, .f32⟩
  | .local _ .vmem, ⟨15, _⟩ => ⟨S1024x1024, .bf16⟩
  | .local _ .vmem, ⟨16, _⟩ => ⟨S1024x1024, .bf16⟩
  | .local _ .vmem, ⟨17, _⟩ => ⟨S1x128, .f32⟩
  | .local _ .vmem, ⟨18, _⟩ => ⟨S1x128, .f32⟩
  | .local _ .vmem, ⟨19, _⟩ => ⟨S32x4096, .bf16⟩
  | .local _ .vmem, ⟨20, _⟩ => ⟨S32x4096, .bf16⟩
  | .local _ .vmem, ⟨21, _⟩ => ⟨S16x4096, .bf16⟩
  | .local _ .vmem, ⟨22, _⟩ => ⟨S16x4096, .bf16⟩
  | .local _ .vmem, ⟨23, _⟩ => ⟨S16x4096, .bf16⟩
  | .local _ .vmem, ⟨24, _⟩ => ⟨S16x4096, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev main_v5_3 : Ref sig .tc := ⟨.hbm, 16, rfl⟩
abbrev main_v5_4 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨2, ![16, 10], ![false, false]⟩

def k0_mult1 (i : grid0.Coords) : BitVec 32 :=
  let c0_i32 : BitVec 32 := 0#32
  let arg1 : BitVec 32 := BitVec.ofNat 32 (i 1).val
  let c1024_i32 : BitVec 32 := 1024#32
  let v0 : BitVec 32 := Scalar.muli arg1 c1024_i32
  let v1 : BitVec 32 := Scalar.addi c0_i32 v0
  v1
def k0_mult2 (i : grid0.Coords) : BitVec 32 :=
  let c0_i32 : BitVec 32 := 0#32
  let arg0 : BitVec 32 := BitVec.ofNat 32 (i 0).val
  let c10_i32 : BitVec 32 := 10#32
  let v0 : BitVec 32 := Scalar.muli arg0 c10_i32
  let arg1 : BitVec 32 := BitVec.ofNat 32 (i 1).val
  let v1 : BitVec 32 := Scalar.addi v0 arg1
  let c127_i32 : BitVec 32 := 127#32
  let v2 : BitVec 32 := Scalar.minsi v1 c127_i32
  let c32_i32 : BitVec 32 := 32#32
  let v3 : BitVec 32 := Scalar.muli v2 c32_i32
  let v4 : BitVec 32 := Scalar.addi c0_i32 v3
  v4
def k0_mult3 (i : grid0.Coords) : BitVec 32 :=
  let c0_i32 : BitVec 32 := 0#32
  let arg0 : BitVec 32 := BitVec.ofNat 32 (i 0).val
  let c10_i32 : BitVec 32 := 10#32
  let v0 : BitVec 32 := Scalar.muli arg0 c10_i32
  let arg1 : BitVec 32 := BitVec.ofNat 32 (i 1).val
  let v1 : BitVec 32 := Scalar.addi v0 arg1
  let c127_i32 : BitVec 32 := 127#32
  let v2 : BitVec 32 := Scalar.minsi v1 c127_i32
  let c16_i32 : BitVec 32 := 16#32
  let v3 : BitVec 32 := Scalar.muli v2 c16_i32
  let v4 : BitVec 32 := Scalar.addi c0_i32 v3
  v4
def k0_mult4 (i : grid0.Coords) : BitVec 32 :=
  let c0_i32 : BitVec 32 := 0#32
  let arg0 : BitVec 32 := BitVec.ofNat 32 (i 0).val
  let c10_i32 : BitVec 32 := 10#32
  let v0 : BitVec 32 := Scalar.muli arg0 c10_i32
  let arg1 : BitVec 32 := BitVec.ofNat 32 (i 1).val
  let v1 : BitVec 32 := Scalar.addi v0 arg1
  let c127_i32 : BitVec 32 := 127#32
  let v2 : BitVec 32 := Scalar.minsi v1 c127_i32
  let c16_i32 : BitVec 32 := 16#32
  let v3 : BitVec 32 := Scalar.muli v2 c16_i32
  let v4 : BitVec 32 := Scalar.addi c0_i32 v3
  v4
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c0_i32 : BitVec 32 := 0#32
  let v1 : BitVec 32 := Scalar.addi c0_i32 v0
  let v2 : BitVec 32 := v1
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c127_i32 : BitVec 32 := 127#32
  let v2 : BitVec 32 := Scalar.minsi v1 c127_i32
  let c64_i32 : BitVec 32 := 64#32
  let v3 : BitVec 32 := Scalar.addi c64_i32 v2
  let c0_i32 : BitVec 32 := 0#32
  let c0_i32_0 : BitVec 32 := 0#32
  ![c0_i32.toNat, v3.toNat]

def cc0_transform_4 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c127_i32 : BitVec 32 := 127#32
  let v2 : BitVec 32 := Scalar.minsi v1 c127_i32
  let c64_i32 : BitVec 32 := 64#32
  let v3 : BitVec 32 := Scalar.addi c64_i32 v2
  let c0_i32 : BitVec 32 := 0#32
  let c0_i32_0 : BitVec 32 := 0#32
  ![c0_i32.toNat, v3.toNat]

def cc0_transform_5 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c127_i32 : BitVec 32 := 127#32
  let v2 : BitVec 32 := Scalar.minsi v1 c127_i32
  let c32_i32 : BitVec 32 := 32#32
  let v3 : BitVec 32 := Scalar.muli v2 c32_i32
  let c0_i32 : BitVec 32 := 0#32
  let v4 : BitVec 32 := Scalar.addi c0_i32 v3
  let v5 : BitVec 32 := v4
  let c0_i32_0 : BitVec 32 := 0#32
  let c0_i32_1 : BitVec 32 := 0#32
  ![v5.toNat, c0_i32_0.toNat]

def cc0_transform_6 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c127_i32 : BitVec 32 := 127#32
  let v2 : BitVec 32 := Scalar.minsi v1 c127_i32
  let c16_i32 : BitVec 32 := 16#32
  let v3 : BitVec 32 := Scalar.muli v2 c16_i32
  let c0_i32 : BitVec 32 := 0#32
  let v4 : BitVec 32 := Scalar.addi c0_i32 v3
  let v5 : BitVec 32 := v4
  let c0_i32_0 : BitVec 32 := 0#32
  let c0_i32_1 : BitVec 32 := 0#32
  ![v5.toNat, c0_i32_0.toNat]

def cc0_transform_7 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c127_i32 : BitVec 32 := 127#32
  let v2 : BitVec 32 := Scalar.minsi v1 c127_i32
  let c16_i32 : BitVec 32 := 16#32
  let v3 : BitVec 32 := Scalar.muli v2 c16_i32
  let c0_i32 : BitVec 32 := 0#32
  let v4 : BitVec 32 := Scalar.addi c0_i32 v3
  let v5 : BitVec 32 := v4
  let c0_i32_0 : BitVec 32 := 0#32
  let c0_i32_1 : BitVec 32 := 0#32
  ![v5.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![c0_i32.toNat, v2.toNat]

def cc0_transform_10 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_11 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_12 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S4096x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S16x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S16x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S32x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S16x4096 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S16x4096 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== InMainRefIdeal.lean ====
abbrev S16384x4096 : Shape := ⟨2, ![16384, 4096]⟩
abbrev S10240x4096 : Shape := ⟨2, ![10240, 4096]⟩
abbrev S1x4096 : Shape := ⟨2, ![1, 4096]⟩
abbrev S1x4096x24576 : Shape := ⟨3, ![1, 4096, 24576]⟩
abbrev S1x24576 : Shape := ⟨2, ![1, 24576]⟩
abbrev S1x4096x4096 : Shape := ⟨3, ![1, 4096, 4096]⟩
abbrev S1x2048x4096 : Shape := ⟨3, ![1, 2048, 4096]⟩
abbrev S4096x10240 : Shape := ⟨2, ![4096, 10240]⟩
abbrev S16384x10240 : Shape := ⟨2, ![16384, 10240]⟩
abbrev S_ : Shape := ⟨0, ![]⟩
abbrev S4096x24576 : Shape := ⟨2, ![4096, 24576]⟩
abbrev S24576 : Shape := ⟨1, ![24576]⟩
abbrev S1x16384 : Shape := ⟨2, ![1, 16384]⟩
abbrev S4096x4096 : Shape := ⟨2, ![4096, 4096]⟩
abbrev S2048x4096 : Shape := ⟨2, ![2048, 4096]⟩

abbrev nBuf : Space → Nat
  | .hbm => 34
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S10240x4096, .bf16⟩
  | .hbm, ⟨2, _⟩ => ⟨S1x4096, .f32⟩
  | .hbm, ⟨3, _⟩ => ⟨S1x4096x24576, .f32⟩
  | .hbm, ⟨4, _⟩ => ⟨S1x24576, .f32⟩
  | .hbm, ⟨5, _⟩ => ⟨S1x4096x4096, .f32⟩
  | .hbm, ⟨6, _⟩ => ⟨S1x2048x4096, .f32⟩
  | .hbm, ⟨7, _⟩ => ⟨S1x2048x4096, .f32⟩
  | .hbm, ⟨8, _⟩ => ⟨S16384x4096, .f32⟩
  | .hbm, ⟨9, _⟩ => ⟨S10240x4096, .f32⟩
  | .hbm, ⟨10, _⟩ => ⟨S4096x10240, .f32⟩
  | .hbm, ⟨11, _⟩ => ⟨S16384x10240, .f32⟩
  | .hbm, ⟨12, _⟩ => ⟨S1x4096, .f32⟩
  | .hbm, ⟨13, _⟩ => ⟨S1x4096, .f32⟩
  | .hbm, ⟨14, _⟩ => ⟨S_, .f32⟩
  | .hbm, ⟨15, _⟩ => ⟨S1x4096, .f32⟩
  | .hbm, ⟨16, _⟩ => ⟨S1x4096, .f32⟩
  | .hbm, ⟨17, _⟩ => ⟨S_, .f32⟩
  | .hbm, ⟨18, _⟩ => ⟨S1x4096, .f32⟩
  | .hbm, ⟨19, _⟩ => ⟨S1x4096, .f32⟩
  | .hbm, ⟨20, _⟩ => ⟨S1x4096, .f32⟩
  | .hbm, ⟨21, _⟩ => ⟨S4096x24576, .f32⟩
  | .hbm, ⟨22, _⟩ => ⟨S1x24576, .f32⟩
  | .hbm, ⟨23, _⟩ => ⟨S24576, .f32⟩
  | .hbm, ⟨24, _⟩ => ⟨S1x24576, .f32⟩
  | .hbm, ⟨25, _⟩ => ⟨S1x24576, .f32⟩
  | .hbm, ⟨26, _⟩ => ⟨S16384x10240, .bf16⟩
  | .hbm, ⟨27, _⟩ => ⟨S1x16384, .f32⟩
  | .hbm, ⟨28, _⟩ => ⟨S4096x4096, .f32⟩
  | .hbm, ⟨29, _⟩ => ⟨S4096x4096, .bf16⟩
  | .hbm, ⟨30, _⟩ => ⟨S2048x4096, .f32⟩
  | .hbm, ⟨31, _⟩ => ⟨S2048x4096, .bf16⟩
  | .hbm, ⟨32, _⟩ => ⟨S2048x4096, .f32⟩
  | .hbm, ⟨33, _⟩ => ⟨S2048x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩

abbrev nD : Nat := 1
abbrev τ : Topo := Topo.v7x

variable {F : FTy → Type} [FloatOps F]
-- ==== InGates.lean ====
abbrev S16384x4096 : Shape := ⟨2, ![16384, 4096]⟩
abbrev S8208x4096 : Shape := ⟨2, ![8208, 4096]⟩
abbrev S1x4096x22016 : Shape := ⟨3, ![1, 4096, 22016]⟩
abbrev S4096x22016 : Shape := ⟨2, ![4096, 22016]⟩
abbrev S16384x8192 : Shape := ⟨2, ![16384, 8192]⟩
abbrev S1024x4096 : Shape := ⟨2, ![1024, 4096]⟩
abbrev S32x22016 : Shape := ⟨2, ![32, 22016]⟩
abbrev S1024x1024 : Shape := ⟨2, ![1024, 1024]⟩

abbrev nBuf : Space → Nat
  | .hbm => 6
  | .vmem => 10
  | .smem => 0
  | _ => 0

abbrev bufTy : (tb : Table) → Fin (tcTables nBuf tb) → BufTy
  | .hbm, ⟨0, _⟩ => ⟨S16384x4096, .bf16⟩
  | .hbm, ⟨1, _⟩ => ⟨S8208x4096, .bf16⟩
  | .hbm, ⟨2, _⟩ => ⟨S1x4096x22016, .f32⟩
  | .hbm, ⟨3, _⟩ => ⟨S4096x22016, .f32⟩
  | .hbm, ⟨4, _⟩ => ⟨S16384x8192, .bf16⟩
  | .hbm, ⟨5, _⟩ => ⟨S4096x22016, .bf16⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S32x22016, .f32⟩
  | .local _ .vmem, ⟨5, _⟩ => ⟨S32x22016, .f32⟩
  | .local _ .vmem, ⟨6, _⟩ => ⟨S1024x1024, .bf16⟩
  | .local _ .vmem, ⟨7, _⟩ => ⟨S1024x1024, .bf16⟩
  | .local _ .vmem, ⟨8, _⟩ => ⟨S32x22016, .bf16⟩
  | .local _ .vmem, ⟨9, _⟩ => ⟨S32x22016, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 8], ![false, false]⟩

def k0_mult1 (i : grid0.Coords) : BitVec 32 :=
  let c16_i32 : BitVec 32 := 16#32
  let arg1 : BitVec 32 := BitVec.ofNat 32 (i 1).val
  let c1024_i32 : BitVec 32 := 1024#32
  let v0 : BitVec 32 := Scalar.muli arg1 c1024_i32
  let v1 : BitVec 32 := Scalar.addi c16_i32 v0
  v1
def k0_mult2 (i : grid0.Coords) : BitVec 32 :=
  let c0_i32 : BitVec 32 := 0#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c127_i32 : BitVec 32 := 127#32
  let v2 : BitVec 32 := Scalar.minsi v1 c127_i32
  let c32_i32 : BitVec 32 := 32#32
  let v3 : BitVec 32 := Scalar.muli v2 c32_i32
  let v4 : BitVec 32 := Scalar.addi c0_i32 v3
  v4
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c16_i32 : BitVec 32 := 16#32
  let v1 : BitVec 32 := Scalar.addi c16_i32 v0
  let v2 : BitVec 32 := v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c127_i32 : BitVec 32 := 127#32
  let v2 : BitVec 32 := Scalar.minsi v1 c127_i32
  let c32_i32 : BitVec 32 := 32#32
  let v3 : BitVec 32 := Scalar.muli v2 c32_i32
  let c0_i32 : BitVec 32 := 0#32
  let v4 : BitVec 32 := Scalar.addi c0_i32 v3
  let v5 : BitVec 32 := v4
  let c0_i32_0 : BitVec 32 := 0#32
  let c0_i32_1 : BitVec 32 := 0#32
  ![v5.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S32x22016 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x22016 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== InGatesRefIdeal.lean ====
abbrev S16384x4096 : Shape := ⟨2, ![16384, 4096]⟩
abbrev S8208x4096 : Shape := ⟨2, ![8208, 4096]⟩
abbrev S1x4096x22016 : Shape := ⟨3, ![1, 4096, 22016]⟩
abbrev S8192x4096 : Shape := ⟨2, ![8192, 4096]⟩
abbrev S4096x8192 : Shape := ⟨2, ![4096, 8192]⟩
abbrev S16384x8192 : Shape := ⟨2, ![16384, 8192]⟩
abbrev S4096x22016 : Shape := ⟨2, ![4096, 22016]⟩

abbrev nBuf : Space → Nat
  | .hbm => 11
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S8208x4096, .bf16⟩
  | .hbm, ⟨2, _⟩ => ⟨S1x4096x22016, .f32⟩
  | .hbm, ⟨3, _⟩ => ⟨S16384x4096, .f32⟩
  | .hbm, ⟨4, _⟩ => ⟨S8192x4096, .bf16⟩
  | .hbm, ⟨5, _⟩ => ⟨S8192x4096, .f32⟩
  | .hbm, ⟨6, _⟩ => ⟨S4096x8192, .f32⟩
  | .hbm, ⟨7, _⟩ => ⟨S16384x8192, .f32⟩
  | .hbm, ⟨8, _⟩ => ⟨S16384x8192, .bf16⟩
  | .hbm, ⟨9, _⟩ => ⟨S4096x22016, .f32⟩
  | .hbm, ⟨10, _⟩ => ⟨S4096x22016, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== OutProj.lean ====
abbrev S16384x4096 : Shape := ⟨2, ![16384, 4096]⟩
abbrev S4096x4096 : Shape := ⟨2, ![4096, 4096]⟩
abbrev S1x16384x4096 : Shape := ⟨3, ![1, 16384, 4096]⟩
abbrev S1x16384 : Shape := ⟨2, ![1, 16384]⟩
abbrev S1x11008x4096 : Shape := ⟨3, ![1, 11008, 4096]⟩
abbrev S11008x4096 : Shape := ⟨2, ![11008, 4096]⟩
abbrev S1024x4096 : Shape := ⟨2, ![1024, 4096]⟩
abbrev S4096x512 : Shape := ⟨2, ![4096, 512]⟩
abbrev S1024x512 : Shape := ⟨2, ![1024, 512]⟩
abbrev S1x512 : Shape := ⟨2, ![1, 512]⟩
abbrev S128x4096 : Shape := ⟨2, ![128, 4096]⟩

abbrev nBuf : Space → Nat
  | .hbm => 9
  | .vmem => 14
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .bf16⟩
  | .hbm, ⟨2, _⟩ => ⟨S1x16384x4096, .f32⟩
  | .hbm, ⟨3, _⟩ => ⟨S1x16384, .f32⟩
  | .hbm, ⟨4, _⟩ => ⟨S1x11008x4096, .f32⟩
  | .hbm, ⟨5, _⟩ => ⟨S16384x4096, .f32⟩
  | .hbm, ⟨6, _⟩ => ⟨S11008x4096, .f32⟩
  | .hbm, ⟨7, _⟩ => ⟨S16384x4096, .f32⟩
  | .hbm, ⟨8, _⟩ => ⟨S11008x4096, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1x512, .f32⟩
  | .local _ .vmem, ⟨7, _⟩ => ⟨S1x512, .f32⟩
  | .local _ .vmem, ⟨8, _⟩ => ⟨S128x4096, .f32⟩
  | .local _ .vmem, ⟨9, _⟩ => ⟨S128x4096, .f32⟩
  | .local _ .vmem, ⟨10, _⟩ => ⟨S1024x512, .f32⟩
  | .local _ .vmem, ⟨11, _⟩ => ⟨S1024x512, .f32⟩
  | .local _ .vmem, ⟨12, _⟩ => ⟨S128x4096, .bf16⟩
  | .local _ .vmem, ⟨13, _⟩ => ⟨S128x4096, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 8], ![false, false]⟩

def k0_mult1 (i : grid0.Coords) : BitVec 32 :=
  let c0_i32 : BitVec 32 := 0#32
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c85_i32 : BitVec 32 := 85#32
  let v2 : BitVec 32 := Scalar.minsi v1 c85_i32
  let c128_i32 : BitVec 32 := 128#32
  let v3 : BitVec 32 := Scalar.muli v2 c128_i32
  let v4 : BitVec 32 := Scalar.addi c0_i32 v3
  v4
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c85_i32 : BitVec 32 := 85#32
  let v2 : BitVec 32 := Scalar.minsi v1 c85_i32
  let c128_i32 : BitVec 32 := 128#32
  let v3 : BitVec 32 := Scalar.muli v2 c128_i32
  let c0_i32 : BitVec 32 := 0#32
  let v4 : BitVec 32 := Scalar.addi c0_i32 v3
  let v5 : BitVec 32 := v4
  let c0_i32_0 : BitVec 32 := 0#32
  let c0_i32_1 : BitVec 32 := 0#32
  ![v5.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c85_i32 : BitVec 32 := 85#32
  let v2 : BitVec 32 := Scalar.minsi v1 c85_i32
  let c0_i32 : BitVec 32 := 0#32
  let c0_i32_0 : BitVec 32 := 0#32
  ![v2.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== OutProjRefIdeal.lean ====
abbrev S16384x4096 : Shape := ⟨2, ![16384, 4096]⟩
abbrev S4096x4096 : Shape := ⟨2, ![4096, 4096]⟩
abbrev S1x16384x4096 : Shape := ⟨3, ![1, 16384, 4096]⟩
abbrev S1x16384 : Shape := ⟨2, ![1, 16384]⟩
abbrev S1x11008x4096 : Shape := ⟨3, ![1, 11008, 4096]⟩
abbrev S1x4096 : Shape := ⟨2, ![1, 4096]⟩
abbrev S11008x4096 : Shape := ⟨2, ![11008, 4096]⟩

abbrev nBuf : Space → Nat
  | .hbm => 15
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .bf16⟩
  | .hbm, ⟨2, _⟩ => ⟨S1x16384x4096, .f32⟩
  | .hbm, ⟨3, _⟩ => ⟨S1x16384, .f32⟩
  | .hbm, ⟨4, _⟩ => ⟨S1x11008x4096, .f32⟩
  | .hbm, ⟨5, _⟩ => ⟨S1x4096, .f32⟩
  | .hbm, ⟨6, _⟩ => ⟨S16384x4096, .f32⟩
  | .hbm, ⟨7, _⟩ => ⟨S16384x4096, .f32⟩
  | .hbm, ⟨8, _⟩ => ⟨S4096x4096, .f32⟩
  | .hbm, ⟨9, _⟩ => ⟨S16384x4096, .f32⟩
  | .hbm, ⟨10, _⟩ => ⟨S16384x4096, .f32⟩
  | .hbm, ⟨11, _⟩ => ⟨S16384x4096, .f32⟩
  | .hbm, ⟨12, _⟩ => ⟨S16384x4096, .f32⟩
  | .hbm, ⟨13, _⟩ => ⟨S11008x4096, .f32⟩
  | .hbm, ⟨14, _⟩ => ⟨S11008x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== NormFfn.lean ====
abbrev S16384x4096 : Shape := ⟨2, ![16384, 4096]⟩
abbrev S1x4096 : Shape := ⟨2, ![1, 4096]⟩
abbrev S1x16384 : Shape := ⟨2, ![1, 16384]⟩
abbrev S4096 : Shape := ⟨1, ![4096]⟩
abbrev S512x4096 : Shape := ⟨2, ![512, 4096]⟩
abbrev S512 : Shape := ⟨1, ![512]⟩
abbrev S512x1 : Shape := ⟨2, ![512, 1]⟩

abbrev nBuf : Space → Nat
  | .hbm => 6
  | .vmem => 7
  | .smem => 0
  | _ => 0

abbrev bufTy : (tb : Table) → Fin (tcTables nBuf tb) → BufTy
  | .hbm, ⟨0, _⟩ => ⟨S16384x4096, .f32⟩
  | .hbm, ⟨1, _⟩ => ⟨S1x4096, .f32⟩
  | .hbm, ⟨2, _⟩ => ⟨S1x16384, .f32⟩
  | .hbm, ⟨3, _⟩ => ⟨S4096, .f32⟩
  | .hbm, ⟨4, _⟩ => ⟨S1x4096, .f32⟩
  | .hbm, ⟨5, _⟩ => ⟨S16384x4096, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S1x4096, .f32⟩
  | .local _ .vmem, ⟨4, _⟩ => ⟨S1x4096, .f32⟩
  | .local _ .vmem, ⟨5, _⟩ => ⟨S512x4096, .bf16⟩
  | .local _ .vmem, ⟨6, _⟩ => ⟨S512x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_3 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormFfnRefIdeal.lean ====
abbrev S16384x4096 : Shape := ⟨2, ![16384, 4096]⟩
abbrev S1x4096 : Shape := ⟨2, ![1, 4096]⟩
abbrev S1x16384 : Shape := ⟨2, ![1, 16384]⟩
abbrev S_ : Shape := ⟨0, ![]⟩
abbrev S16384 : Shape := ⟨1, ![16384]⟩
abbrev S16384x1 : Shape := ⟨2, ![16384, 1]⟩
abbrev S4096 : Shape := ⟨1, ![4096]⟩

abbrev nBuf : Space → Nat
  | .hbm => 30
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S1x4096, .f32⟩
  | .hbm, ⟨2, _⟩ => ⟨S1x16384, .f32⟩
  | .hbm, ⟨3, _⟩ => ⟨S1x4096, .f32⟩
  | .hbm, ⟨4, _⟩ => ⟨S1x4096, .f32⟩
  | .hbm, ⟨5, _⟩ => ⟨S16384x4096, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x4096, .f32⟩
  | .hbm, ⟨17, _⟩ => ⟨S16384x4096, .f32⟩
  | .hbm, ⟨18, _⟩ => ⟨S4096, .f32⟩
  | .hbm, ⟨19, _⟩ => ⟨S1x4096, .f32⟩
  | .hbm, ⟨20, _⟩ => ⟨S16384x4096, .f32⟩
  | .hbm, ⟨21, _⟩ => ⟨S16384x4096, .f32⟩
  | .hbm, ⟨22, _⟩ => ⟨S_, .f32⟩
  | .hbm, ⟨23, _⟩ => ⟨S1x4096, .f32⟩
  | .hbm, ⟨24, _⟩ => ⟨S1x4096, .f32⟩
  | .hbm, ⟨25, _⟩ => ⟨S16384x4096, .f32⟩
  | .hbm, ⟨26, _⟩ => ⟨S16384x4096, .f32⟩
  | .hbm, ⟨27, _⟩ => ⟨S16384x4096, .f32⟩
  | .hbm, ⟨28, _⟩ => ⟨S16384x4096, .f32⟩
  | .hbm, ⟨29, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== NormMix.lean ====
abbrev S1x16384x4096 : Shape := ⟨3, ![1, 16384, 4096]⟩
abbrev S1x4096 : Shape := ⟨2, ![1, 4096]⟩
abbrev S1x8192 : Shape := ⟨2, ![1, 8192]⟩
abbrev S1x4096x22544 : Shape := ⟨3, ![1, 4096, 22544]⟩
abbrev S1x22544x4096 : Shape := ⟨3, ![1, 22544, 4096]⟩
abbrev S22544x4096 : Shape := ⟨2, ![22544, 4096]⟩
abbrev S16384x4096 : Shape := ⟨2, ![16384, 4096]⟩
abbrev S4096 : Shape := ⟨1, ![4096]⟩
abbrev S16384x128 : Shape := ⟨2, ![16384, 128]⟩
abbrev S4096x4096 : Shape := ⟨2, ![4096, 4096]⟩
abbrev S512x4096 : Shape := ⟨2, ![512, 4096]⟩
abbrev S128x4096 : Shape := ⟨2, ![128, 4096]⟩
abbrev S512x128 : Shape := ⟨2, ![512, 128]⟩
abbrev S512 : Shape := ⟨1, ![512]⟩
abbrev S512x1 : Shape := ⟨2, ![512, 1]⟩

abbrev nBuf : Space → Nat
  | .hbm => 12
  | .vmem => 14
  | .smem => 0
  | _ => 0

abbrev bufTy : (tb : Table) → Fin (tcTables nBuf tb) → BufTy
  | .hbm, ⟨0, _⟩ => ⟨S1x16384x4096, .f32⟩
  | .hbm, ⟨1, _⟩ => ⟨S1x4096, .f32⟩
  | .hbm, ⟨2, _⟩ => ⟨S1x8192, .f32⟩
  | .hbm, ⟨3, _⟩ => ⟨S1x4096x22544, .f32⟩
  | .hbm, ⟨4, _⟩ => ⟨S1x22544x4096, .f32⟩
  | .hbm, ⟨5, _⟩ => ⟨S22544x4096, .f32⟩
  | .hbm, ⟨6, _⟩ => ⟨S16384x4096, .f32⟩
  | .hbm, ⟨7, _⟩ => ⟨S4096, .f32⟩
  | .hbm, ⟨8, _⟩ => ⟨S1x4096, .f32⟩
  | .hbm, ⟨9, _⟩ => ⟨S16384x4096, .bf16⟩
  | .hbm, ⟨10, _⟩ => ⟨S16384x128, .f32⟩
  | .hbm, ⟨11, _⟩ => ⟨S4096x4096, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S1x4096, .f32⟩
  | .local _ .vmem, ⟨4, _⟩ => ⟨S1x4096, .f32⟩
  | .local _ .vmem, ⟨5, _⟩ => ⟨S128x4096, .f32⟩
  | .local _ .vmem, ⟨6, _⟩ => ⟨S128x4096, .f32⟩
  | .local _ .vmem, ⟨7, _⟩ => ⟨S128x4096, .f32⟩
  | .local _ .vmem, ⟨8, _⟩ => ⟨S512x4096, .bf16⟩
  | .local _ .vmem, ⟨9, _⟩ => ⟨S512x4096, .bf16⟩
  | .local _ .vmem, ⟨10, _⟩ => ⟨S512x128, .f32⟩
  | .local _ .vmem, ⟨11, _⟩ => ⟨S512x128, .f32⟩
  | .local _ .vmem, ⟨12, _⟩ => ⟨S128x4096, .bf16⟩
  | .local _ .vmem, ⟨13, _⟩ => ⟨S128x4096, .bf16⟩
  | _, _ => ⟨S1x16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![32, 1], ![false, false]⟩

def k0_mult1 (i : grid0.Coords) : BitVec 32 :=
  let c0_i32 : BitVec 32 := 0#32
  let arg0 : BitVec 32 := BitVec.ofNat 32 (i 0).val
  let c1_i32 : BitVec 32 := 1#32
  let v0 : BitVec 32 := Scalar.muli arg0 c1_i32
  let arg1 : BitVec 32 := BitVec.ofNat 32 (i 1).val
  let v1 : BitVec 32 := Scalar.addi v0 arg1
  let c31_i32 : BitVec 32 := 31#32
  let v2 : BitVec 32 := Scalar.minsi v1 c31_i32
  let c128_i32 : BitVec 32 := 128#32
  let v3 : BitVec 32 := Scalar.muli v2 c128_i32
  let v4 : BitVec 32 := Scalar.addi c0_i32 v3
  v4
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat]

def cc0_transform_4 (i : grid0.Coords) : Fin 2 → Nat :=
  let arg0 : BitVec 32 := BitVec.ofNat 32 (i 0).val
  let arg1 : BitVec 32 := BitVec.ofNat 32 (i 1).val
  let c14336_i32 : BitVec 32 := 14336#32
  let c0_i32 : BitVec 32 := 0#32
  let c0_i32_0 : BitVec 32 := 0#32
  ![c14336_i32.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c31_i32 : BitVec 32 := 31#32
  let v2 : BitVec 32 := Scalar.minsi v1 c31_i32
  let c128_i32 : BitVec 32 := 128#32
  let v3 : BitVec 32 := Scalar.muli v2 c128_i32
  let c0_i32 : BitVec 32 := 0#32
  let v4 : BitVec 32 := Scalar.addi c0_i32 v3
  let v5 : BitVec 32 := v4
  let c0_i32_0 : BitVec 32 := 0#32
  let c0_i32_1 : BitVec 32 := 0#32
  ![v5.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S128x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S128x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== NormMixRefIdeal.lean ====
abbrev S1x16384x4096 : Shape := ⟨3, ![1, 16384, 4096]⟩
abbrev S1x4096 : Shape := ⟨2, ![1, 4096]⟩
abbrev S1x8192 : Shape := ⟨2, ![1, 8192]⟩
abbrev S1x4096x22544 : Shape := ⟨3, ![1, 4096, 22544]⟩
abbrev S16384x4096 : Shape := ⟨2, ![16384, 4096]⟩
abbrev S_ : Shape := ⟨0, ![]⟩
abbrev S16384 : Shape := ⟨1, ![16384]⟩
abbrev S16384x1 : Shape := ⟨2, ![16384, 1]⟩
abbrev S4096 : Shape := ⟨1, ![4096]⟩
abbrev S1x4096x128 : Shape := ⟨3, ![1, 4096, 128]⟩
abbrev S4096x128 : Shape := ⟨2, ![4096, 128]⟩
abbrev S16384x128 : Shape := ⟨2, ![16384, 128]⟩
abbrev S1x4096x4096 : Shape := ⟨3, ![1, 4096, 4096]⟩
abbrev S4096x4096 : Shape := ⟨2, ![4096, 4096]⟩

abbrev nBuf : Space → Nat
  | .hbm => 42
  | .vmem => 0
  | .smem => 0
  | _ => 0

abbrev bufTy : (tb : Table) → Fin (tcTables nBuf tb) → BufTy
  | .hbm, ⟨0, _⟩ => ⟨S1x16384x4096, .f32⟩
  | .hbm, ⟨1, _⟩ => ⟨S1x4096, .f32⟩
  | .hbm, ⟨2, _⟩ => ⟨S1x8192, .f32⟩
  | .hbm, ⟨3, _⟩ => ⟨S1x4096x22544, .f32⟩
  | .hbm, ⟨4, _⟩ => ⟨S1x4096, .f32⟩
  | .hbm, ⟨5, _⟩ => ⟨S1x4096, .f32⟩
  | .hbm, ⟨6, _⟩ => ⟨S16384x4096, .f32⟩
  | .hbm, ⟨7, _⟩ => ⟨S16384x4096, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x4096, .f32⟩
  | .hbm, ⟨19, _⟩ => ⟨S16384x4096, .f32⟩
  | .hbm, ⟨20, _⟩ => ⟨S4096, .f32⟩
  | .hbm, ⟨21, _⟩ => ⟨S1x4096, .f32⟩
  | .hbm, ⟨22, _⟩ => ⟨S16384x4096, .f32⟩
  | .hbm, ⟨23, _⟩ => ⟨S16384x4096, .f32⟩
  | .hbm, ⟨24, _⟩ => ⟨S_, .f32⟩
  | .hbm, ⟨25, _⟩ => ⟨S1x4096, .f32⟩
  | .hbm, ⟨26, _⟩ => ⟨S1x4096, .f32⟩
  | .hbm, ⟨27, _⟩ => ⟨S16384x4096, .f32⟩
  | .hbm, ⟨28, _⟩ => ⟨S16384x4096, .f32⟩
  | .hbm, ⟨29, _⟩ => ⟨S16384x4096, .f32⟩
  | .hbm, ⟨30, _⟩ => ⟨S16384x4096, .f32⟩
  | .hbm, ⟨31, _⟩ => ⟨S16384x4096, .bf16⟩
  | .hbm, ⟨32, _⟩ => ⟨S16384x4096, .f32⟩
  | .hbm, ⟨33, _⟩ => ⟨S1x4096x128, .f32⟩
  | .hbm, ⟨34, _⟩ => ⟨S4096x128, .f32⟩
  | .hbm, ⟨35, _⟩ => ⟨S4096x128, .bf16⟩
  | .hbm, ⟨36, _⟩ => ⟨S4096x128, .f32⟩
  | .hbm, ⟨37, _⟩ => ⟨S16384x128, .f32⟩
  | .hbm, ⟨38, _⟩ => ⟨S1x4096x4096, .f32⟩
  | .hbm, ⟨39, _⟩ => ⟨S4096x4096, .f32⟩
  | .hbm, ⟨40, _⟩ => ⟨S4096x4096, .f32⟩
  | .hbm, ⟨41, _⟩ => ⟨S4096x4096, .bf16⟩
  | _, _ => ⟨S1x16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩

abbrev nD : Nat := 1
abbrev τ : Topo := Topo.v7x

variable {F : FTy → Type} [FloatOps F]
-- ==== Ada.lean ====
abbrev S1x4096 : Shape := ⟨2, ![1, 4096]⟩
abbrev S1x4096x24576 : Shape := ⟨3, ![1, 4096, 24576]⟩
abbrev S1x24576 : Shape := ⟨2, ![1, 24576]⟩
abbrev S4096x1 : Shape := ⟨2, ![4096, 1]⟩
abbrev S4096x24576 : Shape := ⟨2, ![4096, 24576]⟩
abbrev S1x8192 : Shape := ⟨2, ![1, 8192]⟩
abbrev S4096x512 : Shape := ⟨2, ![4096, 512]⟩
abbrev S1x512 : Shape := ⟨2, ![1, 512]⟩
abbrev S512 : Shape := ⟨1, ![512]⟩

abbrev nBuf : Space → Nat
  | .hbm => 6
  | .vmem => 7
  | .smem => 0
  | _ => 0

abbrev bufTy : (tb : Table) → Fin (tcTables nBuf tb) → BufTy
  | .hbm, ⟨0, _⟩ => ⟨S1x4096, .f32⟩
  | .hbm, ⟨1, _⟩ => ⟨S1x4096x24576, .f32⟩
  | .hbm, ⟨2, _⟩ => ⟨S1x24576, .f32⟩
  | .hbm, ⟨3, _⟩ => ⟨S4096x1, .f32⟩
  | .hbm, ⟨4, _⟩ => ⟨S4096x24576, .f32⟩
  | .hbm, ⟨5, _⟩ => ⟨S1x8192, .f32⟩
  | .local _ .vmem, ⟨0, _⟩ => ⟨S4096x1, .f32⟩
  | .local _ .vmem, ⟨1, _⟩ => ⟨S4096x512, .f32⟩
  | .local _ .vmem, ⟨2, _⟩ => ⟨S4096x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | _, _ => ⟨S1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4096x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaRefIdeal.lean ====
abbrev S1x4096 : Shape := ⟨2, ![1, 4096]⟩
abbrev S1x4096x24576 : Shape := ⟨3, ![1, 4096, 24576]⟩
abbrev S1x24576 : Shape := ⟨2, ![1, 24576]⟩
abbrev S_ : Shape := ⟨0, ![]⟩
abbrev S4096x24576 : Shape := ⟨2, ![4096, 24576]⟩
abbrev S24576 : Shape := ⟨1, ![24576]⟩
abbrev S1x8192 : Shape := ⟨2, ![1, 8192]⟩

abbrev nBuf : Space → Nat
  | .hbm => 18
  | .vmem => 0
  | .smem => 0
  | _ => 0

abbrev bufTy : (tb : Table) → Fin (tcTables nBuf tb) → BufTy
  | .hbm, ⟨0, _⟩ => ⟨S1x4096, .f32⟩
  | .hbm, ⟨1, _⟩ => ⟨S1x4096x24576, .f32⟩
  | .hbm, ⟨2, _⟩ => ⟨S1x24576, .f32⟩
  | .hbm, ⟨3, _⟩ => ⟨S1x4096, .f32⟩
  | .hbm, ⟨4, _⟩ => ⟨S1x4096, .f32⟩
  | .hbm, ⟨5, _⟩ => ⟨S_, .f32⟩
  | .hbm, ⟨6, _⟩ => ⟨S1x4096, .f32⟩
  | .hbm, ⟨7, _⟩ => ⟨S1x4096, .f32⟩
  | .hbm, ⟨8, _⟩ => ⟨S_, .f32⟩
  | .hbm, ⟨9, _⟩ => ⟨S1x4096, .f32⟩
  | .hbm, ⟨10, _⟩ => ⟨S1x4096, .f32⟩
  | .hbm, ⟨11, _⟩ => ⟨S1x4096, .f32⟩
  | .hbm, ⟨12, _⟩ => ⟨S4096x24576, .f32⟩
  | .hbm, ⟨13, _⟩ => ⟨S1x24576, .f32⟩
  | .hbm, ⟨14, _⟩ => ⟨S24576, .f32⟩
  | .hbm, ⟨15, _⟩ => ⟨S1x24576, .f32⟩
  | .hbm, ⟨16, _⟩ => ⟨S1x24576, .f32⟩
  | .hbm, ⟨17, _⟩ => ⟨S1x8192, .f32⟩
  | _, _ => ⟨S1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Fox.lean ====
abbrev S16384x4096 : Shape := ⟨2, ![16384, 4096]⟩
abbrev S32x4096x512 : Shape := ⟨3, ![32, 4096, 512]⟩
abbrev S32x128 : Shape := ⟨2, ![32, 128]⟩
abbrev S16384x10240 : Shape := ⟨2, ![16384, 10240]⟩
abbrev S16384x2048 : Shape := ⟨2, ![16384, 2048]⟩
abbrev S1024x256 : Shape := ⟨2, ![1024, 256]⟩
abbrev S32x256x512 : Shape := ⟨3, ![32, 256, 512]⟩
abbrev S16384x128 : Shape := ⟨2, ![16384, 128]⟩
abbrev S1024x128 : Shape := ⟨2, ![1024, 128]⟩
abbrev S16384x256 : Shape := ⟨2, ![16384, 256]⟩
abbrev S2x2x512x512 : Shape := ⟨4, ![2, 2, 512, 512]⟩
abbrev S2x512x1 : Shape := ⟨3, ![2, 512, 1]⟩
abbrev S2x512x256 : Shape := ⟨3, ![2, 512, 256]⟩
abbrev S512x512 : Shape := ⟨2, ![512, 512]⟩
abbrev S512x256 : Shape := ⟨2, ![512, 256]⟩
abbrev S1x256x512 : Shape := ⟨3, ![1, 256, 512]⟩
abbrev S256x512 : Shape := ⟨2, ![256, 512]⟩
abbrev S1x1x512x512 : Shape := ⟨4, ![1, 1, 512, 512]⟩
abbrev S1x1 : Shape := ⟨2, ![1, 1]⟩
abbrev S1x512x1 : Shape := ⟨3, ![1, 512, 1]⟩
abbrev S512x1 : Shape := ⟨2, ![512, 1]⟩
abbrev S512 : Shape := ⟨1, ![512]⟩
abbrev S1x512x256 : Shape := ⟨3, ![1, 512, 256]⟩
abbrev S512x128 : Shape := ⟨2, ![512, 128]⟩

abbrev nBuf : Space → Nat
  | .hbm => 5
  | .vmem => 12
  | .smem => 1
  | _ => 0

abbrev bufTy : (tb : Table) → Fin (tcTables nBuf tb) → BufTy
  | .hbm, ⟨0, _⟩ => ⟨S16384x4096, .bf16⟩
  | .hbm, ⟨1, _⟩ => ⟨S32x4096x512, .bf16⟩
  | .hbm, ⟨2, _⟩ => ⟨S32x128, .f32⟩
  | .hbm, ⟨3, _⟩ => ⟨S16384x10240, .bf16⟩
  | .hbm, ⟨4, _⟩ => ⟨S16384x2048, .bf16⟩
  | .local _ .vmem, ⟨0, _⟩ => ⟨S1024x256, .bf16⟩
  | .local _ .vmem, ⟨1, _⟩ => ⟨S1024x256, .bf16⟩
  | .local _ .vmem, ⟨2, _⟩ => ⟨S32x256x512, .bf16⟩
  | .local _ .vmem, ⟨3, _⟩ => ⟨S32x256x512, .bf16⟩
  | .local _ .vmem, ⟨4, _⟩ => ⟨S16384x128, .bf16⟩
  | .local _ .vmem, ⟨5, _⟩ => ⟨S16384x128, .bf16⟩
  | .local _ .vmem, ⟨6, _⟩ => ⟨S1024x128, .bf16⟩
  | .local _ .vmem, ⟨7, _⟩ => ⟨S1024x128, .bf16⟩
  | .local _ .vmem, ⟨8, _⟩ => ⟨S16384x256, .bf16⟩
  | .local _ .vmem, ⟨9, _⟩ => ⟨S2x2x512x512, .f32⟩
  | .local _ .vmem, ⟨10, _⟩ => ⟨S2x512x1, .f32⟩
  | .local _ .vmem, ⟨11, _⟩ => ⟨S2x512x256, .f32⟩
  | .local _ .smem, ⟨0, _⟩ => ⟨S32x128, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 16], ![false, false]⟩

@[reducible] def k0_t1_loop (i : grid0.Coords) : Scf.Loop 32 :=
  let c0_i32_26 : BitVec 32 := 0#32
  let arg1 : BitVec 32 := BitVec.ofNat 32 (i 1).val
  let v27 : BitVec 32 := Scalar.subi arg1 c0_i32_26
  let c1_i32 : BitVec 32 := 1#32
  let v29 : BitVec 32 := Scalar.divsi v27 c1_i32
  let v30 : BitVec 32 := Scalar.muli v29 c1_i32
  let v31 : BitVec 32 := Scalar.addi c0_i32_26 v30
  let c1_i32_27 : BitVec 32 := 1#32
  ⟨c0_i32_26, v31, c1_i32_27⟩
def k0_off1 (i : grid0.Coords) (k0_t1 : Fin (k0_t1_loop i).trips) (c0_i32_121 : BitVec 32) : Fin 3 → Nat :=
  let c2_i32_120 : BitVec 32 := 2#32
  let c0_i32_26 : BitVec 32 := 0#32
  let c1_i32_27 : BitVec 32 := 1#32
  let arg11 : BitVec 32 := Scf.iv c0_i32_26 c1_i32_27 k0_t1
  let v194 : BitVec 32 := Scalar.muli c2_i32_120 arg11
  let v195 : BitVec 32 := Scalar.addi v194 c0_i32_121
  let c1_i32_122 : BitVec 32 := 1#32
  let v196 : BitVec 32 := Scalar.addi v195 c1_i32_122
  let v198 : Index := Scalar.indexCast v196
  let c0_125 : Index := 0#32
  let c0_126 : Index := 0#32
  ![v198.toNat, 0, 0]
def k0_off2 (i : grid0.Coords) (c0_i32_149 : BitVec 32) : Fin 2 → Nat :=
  let c2_i32_148 : BitVec 32 := 2#32
  let arg1 : BitVec 32 := BitVec.ofNat 32 (i 1).val
  let v218 : BitVec 32 := Scalar.muli c2_i32_148 arg1
  let v219 : BitVec 32 := Scalar.addi v218 c0_i32_149
  let v220 : Index := Scalar.indexCast v219
  let arg0 : BitVec 32 := BitVec.ofNat 32 (i 0).val
  let v221 : Index := Scalar.indexCast arg0
  ![v220.toNat, v221.toNat]
def k0_off3 (i : grid0.Coords) (k0_t1 : Fin (k0_t1_loop i).trips) (c0_i32_143 : BitVec 32) : Fin 2 → Nat :=
  let c2_i32_120 : BitVec 32 := 2#32
  let c0_i32_26 : BitVec 32 := 0#32
  let c1_i32_27 : BitVec 32 := 1#32
  let arg11 : BitVec 32 := Scf.iv c0_i32_26 c1_i32_27 k0_t1
  let v194 : BitVec 32 := Scalar.muli c2_i32_120 arg11
  let v215 : BitVec 32 := Scalar.addi v194 c0_i32_143
  let v223 : Index := Scalar.indexCast v215
  let arg0 : BitVec 32 := BitVec.ofNat 32 (i 0).val
  let v224 : Index := Scalar.indexCast arg0
  ![v223.toNat, v224.toNat]
def k0_mult1 (i : grid0.Coords) (k0_t1 : Fin (k0_t1_loop i).trips) : BitVec 32 :=
  let c2_i32_120 : BitVec 32 := 2#32
  let c0_i32_26 : BitVec 32 := 0#32
  let c1_i32_27 : BitVec 32 := 1#32
  let arg11 : BitVec 32 := Scf.iv c0_i32_26 c1_i32_27 k0_t1
  let v194 : BitVec 32 := Scalar.muli c2_i32_120 arg11
  let c0_i32_143 : BitVec 32 := 0#32
  let v215 : BitVec 32 := Scalar.addi v194 c0_i32_143
  let c512_i32_154 : BitVec 32 := 512#32
  let v239 : BitVec 32 := Scalar.muli v215 c512_i32_154
  v239
def k0_off4 (i : grid0.Coords) (k0_t1 : Fin (k0_t1_loop i).trips) (c0_i32_143 : BitVec 32) : Fin 2 → Nat :=
  let c2_i32_120 : BitVec 32 := 2#32
  let c0_i32_26 : BitVec 32 := 0#32
  let c1_i32_27 : BitVec 32 := 1#32
  let arg11 : BitVec 32 := Scf.iv c0_i32_26 c1_i32_27 k0_t1
  let v194 : BitVec 32 := Scalar.muli c2_i32_120 arg11
  let v215 : BitVec 32 := Scalar.addi v194 c0_i32_143
  let c512_i32_154 : BitVec 32 := 512#32
  let v239 : BitVec 32 := Scalar.muli v215 c512_i32_154
  let v240 : BitVec 32 := v239
  let v242 : Index := Scalar.indexCast v240
  let c0_155 : Index := 0#32
  ![v242.toNat, 0]
def k0_mult2 (i : grid0.Coords) (k0_t1 : Fin (k0_t1_loop i).trips) : BitVec 32 :=
  let c2_i32_120 : BitVec 32 := 2#32
  let c0_i32_26 : BitVec 32 := 0#32
  let c1_i32_27 : BitVec 32 := 1#32
  let arg11 : BitVec 32 := Scf.iv c0_i32_26 c1_i32_27 k0_t1
  let v194 : BitVec 32 := Scalar.muli c2_i32_120 arg11
  let c0_i32_166 : BitVec 32 := 0#32
  let v258 : BitVec 32 := Scalar.addi v194 c0_i32_166
  let c512_i32_177 : BitVec 32 := 512#32
  let v282 : BitVec 32 := Scalar.muli v258 c512_i32_177
  v282
def k0_mult3 (i : grid0.Coords) (k0_t1 : Fin (k0_t1_loop i).trips) : BitVec 32 :=
  let c2_i32_120 : BitVec 32 := 2#32
  let c0_i32_26 : BitVec 32 := 0#32
  let c1_i32_27 : BitVec 32 := 1#32
  let arg11 : BitVec 32 := Scf.iv c0_i32_26 c1_i32_27 k0_t1
  let v194 : BitVec 32 := Scalar.muli c2_i32_120 arg11
  let c1_i32_211 : BitVec 32 := 1#32
  let v321 : BitVec 32 := Scalar.addi v194 c1_i32_211
  let c512_i32_222 : BitVec 32 := 512#32
  let v345 : BitVec 32 := Scalar.muli v321 c512_i32_222
  v345
def k0_mult4 (i : grid0.Coords) (k0_t1 : Fin (k0_t1_loop i).trips) : BitVec 32 :=
  let c2_i32_120 : BitVec 32 := 2#32
  let c0_i32_26 : BitVec 32 := 0#32
  let c1_i32_27 : BitVec 32 := 1#32
  let arg11 : BitVec 32 := Scf.iv c0_i32_26 c1_i32_27 k0_t1
  let v194 : BitVec 32 := Scalar.muli c2_i32_120 arg11
  let c1_i32_234 : BitVec 32 := 1#32
  let v364 : BitVec 32 := Scalar.addi v194 c1_i32_234
  let c512_i32_245 : BitVec 32 := 512#32
  let v388 : BitVec 32 := Scalar.muli v364 c512_i32_245
  v388
@[reducible] def k0_t2_loop (i : grid0.Coords) : Scf.Loop 32 :=
  let c0_i32_26 : BitVec 32 := 0#32
  let arg1 : BitVec 32 := BitVec.ofNat 32 (i 1).val
  let v27 : BitVec 32 := Scalar.subi arg1 c0_i32_26
  let c1_i32 : BitVec 32 := 1#32
  let v29 : BitVec 32 := Scalar.divsi v27 c1_i32
  let v30 : BitVec 32 := Scalar.muli v29 c1_i32
  let v31 : BitVec 32 := Scalar.addi c0_i32_26 v30
  let v28 : BitVec 32 := Scalar.addi c0_i32_26 v27
  let c1_i32_28 : BitVec 32 := 1#32
  ⟨v31, v28, c1_i32_28⟩
def k0_off5 (i : grid0.Coords) (k0_t2 : Fin (k0_t2_loop i).trips) (c0_i32_121 : BitVec 32) : Fin 3 → Nat :=
  let c2_i32_120 : BitVec 32 := 2#32
  let c0_i32_26 : BitVec 32 := 0#32
  let arg1 : BitVec 32 := BitVec.ofNat 32 (i 1).val
  let v27 : BitVec 32 := Scalar.subi arg1 c0_i32_26
  let c1_i32 : BitVec 32 := 1#32
  let v29 : BitVec 32 := Scalar.divsi v27 c1_i32
  let v30 : BitVec 32 := Scalar.muli v29 c1_i32
  let v31 : BitVec 32 := Scalar.addi c0_i32_26 v30
  let c1_i32_28 : BitVec 32 := 1#32
  let arg11 : BitVec 32 := Scf.iv v31 c1_i32_28 k0_t2
  let v194 : BitVec 32 := Scalar.muli c2_i32_120 arg11
  let v195 : BitVec 32 := Scalar.addi v194 c0_i32_121
  let c1_i32_122 : BitVec 32 := 1#32
  let v196 : BitVec 32 := Scalar.addi v195 c1_i32_122
  let v198 : Index := Scalar.indexCast v196
  let c0_125 : Index := 0#32
  let c0_126 : Index := 0#32
  ![v198.toNat, 0, 0]
def k0_off6 (i : grid0.Coords) (c0_i32_149 : BitVec 32) : Fin 2 → Nat :=
  let c2_i32_148 : BitVec 32 := 2#32
  let arg1 : BitVec 32 := BitVec.ofNat 32 (i 1).val
  let v218 : BitVec 32 := Scalar.muli c2_i32_148 arg1
  let v219 : BitVec 32 := Scalar.addi v218 c0_i32_149
  let v220 : Index := Scalar.indexCast v219
  let arg0 : BitVec 32 := BitVec.ofNat 32 (i 0).val
  let v221 : Index := Scalar.indexCast arg0
  ![v220.toNat, v221.toNat]
def k0_off7 (i : grid0.Coords) (k0_t2 : Fin (k0_t2_loop i).trips) (c0_i32_143 : BitVec 32) : Fin 2 → Nat :=
  let c2_i32_120 : BitVec 32 := 2#32
  let c0_i32_26 : BitVec 32 := 0#32
  let arg1 : BitVec 32 := BitVec.ofNat 32 (i 1).val
  let v27 : BitVec 32 := Scalar.subi arg1 c0_i32_26
  let c1_i32 : BitVec 32 := 1#32
  let v29 : BitVec 32 := Scalar.divsi v27 c1_i32
  let v30 : BitVec 32 := Scalar.muli v29 c1_i32
  let v31 : BitVec 32 := Scalar.addi c0_i32_26 v30
  let c1_i32_28 : BitVec 32 := 1#32
  let arg11 : BitVec 32 := Scf.iv v31 c1_i32_28 k0_t2
  let v194 : BitVec 32 := Scalar.muli c2_i32_120 arg11
  let v215 : BitVec 32 := Scalar.addi v194 c0_i32_143
  let v223 : Index := Scalar.indexCast v215
  let arg0 : BitVec 32 := BitVec.ofNat 32 (i 0).val
  let v224 : Index := Scalar.indexCast arg0
  ![v223.toNat, v224.toNat]
def k0_mult5 (i : grid0.Coords) (k0_t2 : Fin (k0_t2_loop i).trips) : BitVec 32 :=
  let c2_i32_120 : BitVec 32 := 2#32
  let c0_i32_26 : BitVec 32 := 0#32
  let arg1 : BitVec 32 := BitVec.ofNat 32 (i 1).val
  let v27 : BitVec 32 := Scalar.subi arg1 c0_i32_26
  let c1_i32 : BitVec 32 := 1#32
  let v29 : BitVec 32 := Scalar.divsi v27 c1_i32
  let v30 : BitVec 32 := Scalar.muli v29 c1_i32
  let v31 : BitVec 32 := Scalar.addi c0_i32_26 v30
  let c1_i32_28 : BitVec 32 := 1#32
  let arg11 : BitVec 32 := Scf.iv v31 c1_i32_28 k0_t2
  let v194 : BitVec 32 := Scalar.muli c2_i32_120 arg11
  let c0_i32_143 : BitVec 32 := 0#32
  let v215 : BitVec 32 := Scalar.addi v194 c0_i32_143
  let c512_i32_154 : BitVec 32 := 512#32
  let v239 : BitVec 32 := Scalar.muli v215 c512_i32_154
  v239
def k0_off8 (i : grid0.Coords) (k0_t2 : Fin (k0_t2_loop i).trips) (c0_i32_143 : BitVec 32) : Fin 2 → Nat :=
  let c2_i32_120 : BitVec 32 := 2#32
  let c0_i32_26 : BitVec 32 := 0#32
  let arg1 : BitVec 32 := BitVec.ofNat 32 (i 1).val
  let v27 : BitVec 32 := Scalar.subi arg1 c0_i32_26
  let c1_i32 : BitVec 32 := 1#32
  let v29 : BitVec 32 := Scalar.divsi v27 c1_i32
  let v30 : BitVec 32 := Scalar.muli v29 c1_i32
  let v31 : BitVec 32 := Scalar.addi c0_i32_26 v30
  let c1_i32_28 : BitVec 32 := 1#32
  let arg11 : BitVec 32 := Scf.iv v31 c1_i32_28 k0_t2
  let v194 : BitVec 32 := Scalar.muli c2_i32_120 arg11
  let v215 : BitVec 32 := Scalar.addi v194 c0_i32_143
  let c512_i32_154 : BitVec 32 := 512#32
  let v239 : BitVec 32 := Scalar.muli v215 c512_i32_154
  let v240 : BitVec 32 := v239
  let v242 : Index := Scalar.indexCast v240
  let c0_155 : Index := 0#32
  ![v242.toNat, 0]
def k0_mult6 (i : grid0.Coords) (k0_t2 : Fin (k0_t2_loop i).trips) : BitVec 32 :=
  let c2_i32_120 : BitVec 32 := 2#32
  let c0_i32_26 : BitVec 32 := 0#32
  let arg1 : BitVec 32 := BitVec.ofNat 32 (i 1).val
  let v27 : BitVec 32 := Scalar.subi arg1 c0_i32_26
  let c1_i32 : BitVec 32 := 1#32
  let v29 : BitVec 32 := Scalar.divsi v27 c1_i32
  let v30 : BitVec 32 := Scalar.muli v29 c1_i32
  let v31 : BitVec 32 := Scalar.addi c0_i32_26 v30
  let c1_i32_28 : BitVec 32 := 1#32
  let arg11 : BitVec 32 := Scf.iv v31 c1_i32_28 k0_t2
  let v194 : BitVec 32 := Scalar.muli c2_i32_120 arg11
  let c0_i32_166 : BitVec 32 := 0#32
  let v258 : BitVec 32 := Scalar.addi v194 c0_i32_166
  let c512_i32_177 : BitVec 32 := 512#32
  let v282 : BitVec 32 := Scalar.muli v258 c512_i32_177
  v282
def k0_mult7 (i : grid0.Coords) (k0_t2 : Fin (k0_t2_loop i).trips) : BitVec 32 :=
  let c2_i32_120 : BitVec 32 := 2#32
  let c0_i32_26 : BitVec 32 := 0#32
  let arg1 : BitVec 32 := BitVec.ofNat 32 (i 1).val
  let v27 : BitVec 32 := Scalar.subi arg1 c0_i32_26
  let c1_i32 : BitVec 32 := 1#32
  let v29 : BitVec 32 := Scalar.divsi v27 c1_i32
  let v30 : BitVec 32 := Scalar.muli v29 c1_i32
  let v31 : BitVec 32 := Scalar.addi c0_i32_26 v30
  let c1_i32_28 : BitVec 32 := 1#32
  let arg11 : BitVec 32 := Scf.iv v31 c1_i32_28 k0_t2
  let v194 : BitVec 32 := Scalar.muli c2_i32_120 arg11
  let c1_i32_211 : BitVec 32 := 1#32
  let v321 : BitVec 32 := Scalar.addi v194 c1_i32_211
  let c512_i32_222 : BitVec 32 := 512#32
  let v345 : BitVec 32 := Scalar.muli v321 c512_i32_222
  v345
def k0_mult8 (i : grid0.Coords) (k0_t2 : Fin (k0_t2_loop i).trips) : BitVec 32 :=
  let c2_i32_120 : BitVec 32 := 2#32
  let c0_i32_26 : BitVec 32 := 0#32
  let arg1 : BitVec 32 := BitVec.ofNat 32 (i 1).val
  let v27 : BitVec 32 := Scalar.subi arg1 c0_i32_26
  let c1_i32 : BitVec 32 := 1#32
  let v29 : BitVec 32 := Scalar.divsi v27 c1_i32
  let v30 : BitVec 32 := Scalar.muli v29 c1_i32
  let v31 : BitVec 32 := Scalar.addi c0_i32_26 v30
  let c1_i32_28 : BitVec 32 := 1#32
  let arg11 : BitVec 32 := Scf.iv v31 c1_i32_28 k0_t2
  let v194 : BitVec 32 := Scalar.muli c2_i32_120 arg11
  let c1_i32_234 : BitVec 32 := 1#32
  let v364 : BitVec 32 := Scalar.addi v194 c1_i32_234
  let c512_i32_245 : BitVec 32 := 512#32
  let v388 : BitVec 32 := Scalar.muli v364 c512_i32_245
  v388
def k0_off9 (i : grid0.Coords) : Fin 3 → Nat :=
  let c2_i32 : BitVec 32 := 2#32
  let arg1 : BitVec 32 := BitVec.ofNat 32 (i 1).val
  let v32 : BitVec 32 := Scalar.muli c2_i32 arg1
  let c1_i32_29 : BitVec 32 := 1#32
  let v33 : BitVec 32 := Scalar.addi v32 c1_i32_29
  let v35 : Index := Scalar.indexCast v33
  let c0_32 : Index := 0#32
  let c0_33 : Index := 0#32
  ![v35.toNat, 0, 0]
def k0_off10 (i : grid0.Coords) (c0_i32_46 : BitVec 32) : Fin 2 → Nat :=
  let c2_i32_45 : BitVec 32 := 2#32
  let arg1 : BitVec 32 := BitVec.ofNat 32 (i 1).val
  let v48 : BitVec 32 := Scalar.muli c2_i32_45 arg1
  let v49 : BitVec 32 := Scalar.addi v48 c0_i32_46
  let v50 : Index := Scalar.indexCast v49
  let arg0 : BitVec 32 := BitVec.ofNat 32 (i 0).val
  let v51 : Index := Scalar.indexCast arg0
  ![v50.toNat, v51.toNat]
def k0_off11 (i : grid0.Coords) : Fin 2 → Nat :=
  let c2_i32_39 : BitVec 32 := 2#32
  let arg1 : BitVec 32 := BitVec.ofNat 32 (i 1).val
  let v42 : BitVec 32 := Scalar.muli c2_i32_39 arg1
  let v53 : Index := Scalar.indexCast v42
  let arg0 : BitVec 32 := BitVec.ofNat 32 (i 0).val
  let v54 : Index := Scalar.indexCast arg0
  ![v53.toNat, v54.toNat]
def k0_mult9 (i : grid0.Coords) : BitVec 32 :=
  let c2_i32_39 : BitVec 32 := 2#32
  let arg1 : BitVec 32 := BitVec.ofNat 32 (i 1).val
  let v42 : BitVec 32 := Scalar.muli c2_i32_39 arg1
  let c512_i32 : BitVec 32 := 512#32
  let v69 : BitVec 32 := Scalar.muli v42 c512_i32
  v69
def k0_off12 (i : grid0.Coords) : Fin 2 → Nat :=
  let c2_i32_39 : BitVec 32 := 2#32
  let arg1 : BitVec 32 := BitVec.ofNat 32 (i 1).val
  let v42 : BitVec 32 := Scalar.muli c2_i32_39 arg1
  let c512_i32 : BitVec 32 := 512#32
  let v69 : BitVec 32 := Scalar.muli v42 c512_i32
  let v70 : BitVec 32 := v69
  let v72 : Index := Scalar.indexCast v70
  let c0_51 : Index := 0#32
  ![v72.toNat, 0]
def k0_mult10 (i : grid0.Coords) : BitVec 32 :=
  let c2_i32_62 : BitVec 32 := 2#32
  let arg1 : BitVec 32 := BitVec.ofNat 32 (i 1).val
  let v88 : BitVec 32 := Scalar.muli c2_i32_62 arg1
  let c512_i32_73 : BitVec 32 := 512#32
  let v112 : BitVec 32 := Scalar.muli v88 c512_i32_73
  v112
def k0_mult11 (i : grid0.Coords) : BitVec 32 :=
  let c2_i32_85 : BitVec 32 := 2#32
  let arg1 : BitVec 32 := BitVec.ofNat 32 (i 1).val
  let v131 : BitVec 32 := Scalar.muli c2_i32_85 arg1
  let c1_i32_86 : BitVec 32 := 1#32
  let v132 : BitVec 32 := Scalar.addi v131 c1_i32_86
  let c512_i32_98 : BitVec 32 := 512#32
  let v159 : BitVec 32 := Scalar.muli v132 c512_i32_98
  v159
def k0_off13 (i : grid0.Coords) : Fin 2 → Nat :=
  let c2_i32_85 : BitVec 32 := 2#32
  let arg1 : BitVec 32 := BitVec.ofNat 32 (i 1).val
  let v131 : BitVec 32 := Scalar.muli c2_i32_85 arg1
  let c1_i32_86 : BitVec 32 := 1#32
  let v132 : BitVec 32 := Scalar.addi v131 c1_i32_86
  let c512_i32_98 : BitVec 32 := 512#32
  let v159 : BitVec 32 := Scalar.muli v132 c512_i32_98
  let v160 : BitVec 32 := v159
  let v162 : Index := Scalar.indexCast v160
  let c0_99 : Index := 0#32
  ![v162.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .smem S32x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S16384x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FoxRefIdeal.lean ====
abbrev S16384x4096 : Shape := ⟨2, ![16384, 4096]⟩
abbrev S32x4096x512 : Shape := ⟨3, ![32, 4096, 512]⟩
abbrev S32x128 : Shape := ⟨2, ![32, 128]⟩
abbrev S16384x10240 : Shape := ⟨2, ![16384, 10240]⟩
abbrev S16384x16x256 : Shape := ⟨3, ![16384, 16, 256]⟩
abbrev S32x512x4096 : Shape := ⟨3, ![32, 512, 4096]⟩
abbrev S16384x2048 : Shape := ⟨2, ![16384, 2048]⟩
abbrev S16384x16x128 : Shape := ⟨3, ![16384, 16, 128]⟩
abbrev S32x16 : Shape := ⟨2, ![32, 16]⟩
abbrev S32x512x16 : Shape := ⟨3, ![32, 512, 16]⟩
abbrev S16384x16 : Shape := ⟨2, ![16384, 16]⟩
abbrev S16x16384 : Shape := ⟨2, ![16, 16384]⟩
abbrev S16x16384x16384 : Shape := ⟨3, ![16, 16384, 16384]⟩
abbrev S16x16384x1 : Shape := ⟨3, ![16, 16384, 1]⟩
abbrev S16x1x16384 : Shape := ⟨3, ![16, 1, 16384]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S_ : Shape := ⟨0, ![]⟩
abbrev S16x128x16384 : Shape := ⟨3, ![16, 128, 16384]⟩

abbrev nBuf : Space → Nat
  | .hbm => 51
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S32x4096x512, .bf16⟩
  | .hbm, ⟨2, _⟩ => ⟨S32x128, .f32⟩
  | .hbm, ⟨3, _⟩ => ⟨S16384x10240, .bf16⟩
  | .hbm, ⟨4, _⟩ => ⟨S16384x4096, .f32⟩
  | .hbm, ⟨5, _⟩ => ⟨S16384x16x256, .f32⟩
  | .hbm, ⟨6, _⟩ => ⟨S32x4096x512, .f32⟩
  | .hbm, ⟨7, _⟩ => ⟨S32x512x4096, .f32⟩
  | .hbm, ⟨8, _⟩ => ⟨S16384x16x256, .f32⟩
  | .hbm, ⟨9, _⟩ => ⟨S16384x2048, .bf16⟩
  | .hbm, ⟨10, _⟩ => ⟨S16384x2048, .f32⟩
  | .hbm, ⟨11, _⟩ => ⟨S16384x16x128, .f32⟩
  | .hbm, ⟨12, _⟩ => ⟨S32x16, .f32⟩
  | .hbm, ⟨13, _⟩ => ⟨S32x512x16, .f32⟩
  | .hbm, ⟨14, _⟩ => ⟨S16384x16, .f32⟩
  | .hbm, ⟨15, _⟩ => ⟨S16x16384, .f32⟩
  | .hbm, ⟨16, _⟩ => ⟨S16x16384x16384, .f32⟩
  | .hbm, ⟨17, _⟩ => ⟨S16x16384x1, .f32⟩
  | .hbm, ⟨18, _⟩ => ⟨S16x16384x16384, .f32⟩
  | .hbm, ⟨19, _⟩ => ⟨S16x16384x16384, .f32⟩
  | .hbm, ⟨20, _⟩ => ⟨S16x1x16384, .f32⟩
  | .hbm, ⟨21, _⟩ => ⟨S16x16384x16384, .f32⟩
  | .hbm, ⟨22, _⟩ => ⟨S16x16384x16384, .f32⟩
  | .hbm, ⟨23, _⟩ => ⟨S16384, .i32⟩
  | .hbm, ⟨24, _⟩ => ⟨S1x16384, .i32⟩
  | .hbm, ⟨25, _⟩ => ⟨S16384x1, .i32⟩
  | .hbm, ⟨26, _⟩ => ⟨S16384x16384, .i32⟩
  | .hbm, ⟨27, _⟩ => ⟨S16384x16384, .i32⟩
  | .hbm, ⟨28, _⟩ => ⟨S16384x16384, .i1⟩
  | .hbm, ⟨29, _⟩ => ⟨S_, .f32⟩
  | .hbm, ⟨30, _⟩ => ⟨S_, .f32⟩
  | .hbm, ⟨31, _⟩ => ⟨S16x16384x16384, .i1⟩
  | .hbm, ⟨32, _⟩ => ⟨S16x16384x16384, .f32⟩
  | .hbm, ⟨33, _⟩ => ⟨S16x16384x16384, .f32⟩
  | .hbm, ⟨34, _⟩ => ⟨S_, .f32⟩
  | .hbm, ⟨35, _⟩ => ⟨S16x16384, .f32⟩
  | .hbm, ⟨36, _⟩ => ⟨S16x16384x1, .f32⟩
  | .hbm, ⟨37, _⟩ => ⟨S16x16384x16384, .f32⟩
  | .hbm, ⟨38, _⟩ => ⟨S16x16384x16384, .f32⟩
  | .hbm, ⟨39, _⟩ => ⟨S_, .f32⟩
  | .hbm, ⟨40, _⟩ => ⟨S16x16384x16384, .f32⟩
  | .hbm, ⟨41, _⟩ => ⟨S16x16384x16384, .f32⟩
  | .hbm, ⟨42, _⟩ => ⟨S_, .f32⟩
  | .hbm, ⟨43, _⟩ => ⟨S16x16384, .f32⟩
  | .hbm, ⟨44, _⟩ => ⟨S16x16384x1, .f32⟩
  | .hbm, ⟨45, _⟩ => ⟨S16x16384x16384, .f32⟩
  | .hbm, ⟨46, _⟩ => ⟨S16x16384x16384, .f32⟩
  | .hbm, ⟨47, _⟩ => ⟨S16x128x16384, .f32⟩
  | .hbm, ⟨48, _⟩ => ⟨S16384x16x128, .f32⟩
  | .hbm, ⟨49, _⟩ => ⟨S16384x2048, .f32⟩
  | .hbm, ⟨50, _⟩ => ⟨S16384x2048, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_cst : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v25 : Ref sig .tc := ⟨.hbm, 33, rfl⟩
abbrev main_cst_0 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_1 : Ref sig .tc := ⟨.hbm, 39, rfl⟩
abbrev main_v30 : Ref sig .tc := ⟨.hbm, 40, rfl⟩
abbrev main_v31 : Ref sig .tc := ⟨.hbm, 41, rfl⟩
abbrev main_cst_2 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩

abbrev nD : Nat := 1
abbrev τ : Topo := Topo.v7x

variable {F : FTy → Type} [FloatOps F]
-- ==== Proof.Swiglu.lean ====
/- The result of the SwiGLU call: what its grid leaves in the result array is silu(h·Wg) ∘ (h·Wu), as the reference writes it. -/
module

public import proofs.«01_k».proof.Proof.Gen.SwigluIdeal.Value
public import proofs.«01_k».proof.Proof.Gen.SwigluRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.SwigluIdeal.Value

open Cert.SwigluIdeal Cert.SwigluIdeal.Gen

variable (m : (ℓ : Loc nD τ sig) → Buf (Elt Ideal) ℓ)

/-- The reference's result as a function of the activations `h` and the weights `w`. -/
abbrev ref (h : FVec Ideal S16384x4096 .bf16) (w : FVec Ideal S4096x22016 .bf16) : FVec Ideal S16384x11008 .bf16 :=
  Cert.SwigluRefIdeal.Read.val_main_v7 (F := Ideal) h w

/-- The block indices at every grid point: the rows advance with the quotient by 43, the columns with the remainder; the
    second weight window is 43 blocks to the right of the first. -/
theorem idx : ∀ t : Fin cfg0.N, win0_0.index t = ![t.val / 43, 0] ∧ win0_1.index t = ![0, t.val % 43]
    ∧ win0_2.index t = ![0, 43 + t.val % 43] ∧ win0_3.index t = ![t.val / 43, t.val % 43] :=
  (by decide +kernel : ∀ t : Fin grid0.N, _)

/-- What the body computes at place `y` of point `t`'s block is the reference at the place of the array that `y` is put. -/
theorem point (c : Dev nD) (t : Fin cfg0.N) (y) : k0_pay1 (iblk m c 0 t) (iblk m c 1 t) (iblk m c 2 t) y
    = ref (m ((c : Thread nD τ).loc main_arg0)) (m ((c : Thread nD τ).loc main_arg1)) (((cfg0.win 3).blk t).view.emb y) := by
  rw [ref, ← Cert.SwigluRefIdeal.Read.val_main_v7_eq]
  pointwise [k0_pay1]
  simp only [zero_sub]
  blk_point [iblk, V, idx t]

/-- The result array after the run is the reference's. -/
theorem final (c : Dev nD) : (dats m 0 c).arrAt 3 (cfgs 0).N
    = ref (m ((c : Thread nD τ).loc main_arg0)) (m ((c : Thread nD τ).loc main_arg1)) := by
  refine (dats m 0 c).arrAt_eq_of_covers 3 _ (by decide +kernel) fun t _ y => ?_
  blk_simp
  rw [after0_3]; frame_out
  exact point m c t y

end Cert.SwigluIdeal.Value

end
-- ==== Proof.FfnOut.lean ====
/- The result of the last call of the layer: what its grid leaves in the result array is x + gate · (a·W), as the reference writes it. -/
module

public import proofs.«01_k».proof.Proof.Gen.FfnOutIdeal.Value
public import proofs.«01_k».proof.Proof.Gen.FfnOutRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.FfnOutIdeal.Value

open Cert.FfnOutIdeal Cert.FfnOutIdeal.Gen

variable (m : (ℓ : Loc nD τ sig) → Buf (Elt Ideal) ℓ)

/-- The reference's result as a function of the activations `a`, the weights `w`, the residual stream `x` and the modulation
    row `g`. -/
abbrev ref (a : FVec Ideal S16384x11008 .bf16) (w : FVec Ideal S11008x4096 .bf16) (x : FVec Ideal S16384x4096 .f32)
    (g : FVec Ideal S1x16384 .f32) : FVec Ideal S16384x4096 .f32 :=
  Cert.FfnOutRefIdeal.Read.val_main_v6 (F := Ideal) a w x g

/-- The block indices at every grid point: rows with the quotient by 8, columns with the remainder; the gate's window is 24
    blocks to the right, where the last quarter of the modulation row begins. -/
theorem idx : ∀ t : Fin cfg0.N, win0_0.index t = ![t.val / 8, 0] ∧ win0_1.index t = ![0, t.val % 8]
    ∧ win0_2.index t = ![t.val / 8, t.val % 8] ∧ win0_3.index t = ![0, 24 + t.val % 8]
    ∧ win0_4.index t = ![t.val / 8, t.val % 8] :=
  (by decide +kernel : ∀ t : Fin grid0.N, _)

/-- What the body computes at place `y` of point `t`'s block is the reference at the place of the array that `y` is put. -/
theorem point (c : Dev nD) (t : Fin cfg0.N) (y) : k0_pay1 (iblk m c 0 t) (iblk m c 1 t) (iblk m c 2 t) (iblk m c 3 t) y
    = ref (m ((c : Thread nD τ).loc main_arg0)) (m ((c : Thread nD τ).loc main_arg1)) (m ((c : Thread nD τ).loc main_arg2))
        (m ((c : Thread nD τ).loc main_arg3)) (((cfg0.win 4).blk t).view.emb y) := by
  rw [ref, ← Cert.FfnOutRefIdeal.Read.val_main_v6_eq]
  pointwise [k0_pay1]
  blk_point [iblk, V, idx t]

/-- The result array after the run is the reference's. -/
theorem final (c : Dev nD) : (dats m 0 c).arrAt 4 (cfgs 0).N
    = ref (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t _ y => ?_
  blk_simp
  rw [after0_4]; frame_out
  exact point m c t y

end Cert.FfnOutIdeal.Value

end
-- ==== Proof.Merge.lean ====
/- The result of the branch merge: what its grid leaves in the result array is σ(ga)·(oa·Wa) + σ(gb)·(ob·Wb), as the reference writes it. -/
module

public import proofs.«01_k».proof.Proof.Gen.MergeIdeal.Value
public import proofs.«01_k».proof.Proof.Gen.MergeRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MergeIdeal.Value

open Cert.MergeIdeal Cert.MergeIdeal.Gen

variable (m : (ℓ : Loc nD τ sig) → Buf (Elt Ideal) ℓ)

/-- The reference's result as a function of the two branches, their weights and the gates' logits. -/
abbrev ref (oa ob : FVec Ideal S16384x2048 .bf16) (wa wb : FVec Ideal S2048x4096 .bf16)
    (pg : FVec Ideal S16384x8192 .bf16) : FVec Ideal S16384x4096 .bf16 :=
  Cert.MergeRefIdeal.Read.val_main_v24 (F := Ideal) oa ob wa wb pg

/-- The block indices at every grid point: rows with the quotient by 4, columns with the remainder; the second gate's window
    is 4 blocks to the right of the first's. -/
theorem idx : ∀ t : Fin cfg0.N, win0_0.index t = ![t.val / 4, 0] ∧ win0_1.index t = ![t.val / 4, 0]
    ∧ win0_2.index t = ![0, t.val % 4] ∧ win0_3.index t = ![0, t.val % 4]
    ∧ win0_4.index t = ![t.val / 4, t.val % 4] ∧ win0_5.index t = ![t.val / 4, 4 + t.val % 4]
    ∧ win0_6.index t = ![t.val / 4, t.val % 4] :=
  (by decide +kernel : ∀ t : Fin grid0.N, _)

/-- What the body computes at place `y` of point `t`'s block is the reference at the place of the array that `y` is put. -/
theorem point (c : Dev nD) (t : Fin cfg0.N) (y) :
    k0_pay1 (iblk m c 4 t) (iblk m c 5 t) (iblk m c 0 t) (iblk m c 2 t) (iblk m c 1 t) (iblk m c 3 t) y
    = ref (m ((c : Thread nD τ).loc main_arg0)) (m ((c : Thread nD τ).loc main_arg1)) (m ((c : Thread nD τ).loc main_arg2))
        (m ((c : Thread nD τ).loc main_arg3)) (m ((c : Thread nD τ).loc main_arg4)) (((cfg0.win 6).blk t).view.emb y) := by
  rw [ref, ← Cert.MergeRefIdeal.Read.val_main_v24_eq]
  pointwise [k0_pay1]
  simp only [zero_sub]
  blk_point [iblk, V, idx t]

/-- The result array after the run is the reference's. -/
theorem final (c : Dev nD) : (dats m 0 c).arrAt 6 (cfgs 0).N
    = ref (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 6 _ (by decide +kernel) fun t _ y => ?_
  blk_simp
  rw [after0_6]; frame_out
  exact point m c t y

end Cert.MergeIdeal.Value

end
-- ==== Proof.InQ.lean ====
/- The results of the input projection for the recurrence's queries: h·Wᵀ, and the cast of the weights of a later projection. -/
module

public import proofs.«01_k».proof.Proof.Gen.InQIdeal.Value
public import proofs.«01_k».proof.Proof.Gen.InQRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.InQIdeal.Value

open Cert.InQIdeal Cert.InQIdeal.Gen

variable (m : (ℓ : Loc nD τ sig) → Buf (Elt Ideal) ℓ)

/-- The windows at every grid point: the rows advance with the quotient by 4, the weights' rows with the remainder; the cast of the next weights goes a slab a point. -/
theorem idx : ∀ t : Fin cfg0.N, win0_0.index t = ![t.val / 4, 0]
    ∧ win0_1.index t = ![512 * (t.val % 4), 0]
    ∧ win0_2.index t = ![4096 + 160 * min t.val 63, 0]
    ∧ win0_3.index t = ![t.val / 4, t.val % 4]
    ∧ win0_4.index t = ![min t.val 63, 0] :=
  (by decide +kernel : ∀ t : Fin grid0.N, _)

/-- Place `y` of point `t`'s block of the weights (a window placed by its first row) in the array. -/
theorem at1 (t : Fin cfg0.N) (y : S512x4096.Idx) : ((win0_1.rect t).emb y 0 : ℕ) = 512 * (t.val % 4) + y 0 ∧ ((win0_1.rect t).emb y 1 : ℕ) = y 1 :=
  ⟨(win0_1.rect_emb_val_off t y 0).trans (by rw [(idx t).2.1]; rfl),
    (win0_1.rect_emb_val_off t y 1).trans (by rw [(idx t).2.1]; exact Nat.zero_add _)⟩

/-- Place `y` of point `t`'s block of the weights to be cast (a window placed by its first row) in the array. -/
theorem at2 (t : Fin cfg0.N) (y : S160x4096.Idx) : ((win0_2.rect t).emb y 0 : ℕ) = 4096 + 160 * min t.val 63 + y 0 ∧ ((win0_2.rect t).emb y 1 : ℕ) = y 1 :=
  ⟨(win0_2.rect_emb_val_off t y 0).trans (by rw [(idx t).2.2.1]; rfl),
    (win0_2.rect_emb_val_off t y 1).trans (by rw [(idx t).2.2.1]; exact Nat.zero_add _)⟩

/-- The input projection's weights as the region finds them: transposed. -/
theorem entry_w (c : Dev nD) : V m c main_v1 = fun i : S22544x4096.Idx => m ((c : Thread nD τ).loc main_arg2) (ix3 0 (i 1) (i 0)) := by
  funext i
  entry_read
  pointwise

/-- The projection: what the body computes at place `y` of point `t`'s block is the reference at the place of the array that `y` is put. -/
theorem point3 (c : Dev nD) (t : Fin cfg0.N) (y) : k0_pay1 (iblk m c 0 t) (iblk m c 1 t) y
    = Cert.InQRefIdeal.Read.val_main_v5 (F := Ideal) (m ((c : Thread nD τ).loc main_arg0)) (m ((c : Thread nD τ).loc main_arg1)) (((cfg0.win 3).blk t).view.emb y) := by
  rw [← Cert.InQRefIdeal.Read.val_main_v5_eq]
  pointwise [k0_pay1]
  blk_point [iblk, V, idx t]
  · exact (at1 t _).1.trans (by show 512 * (t.val % 4) + (y 1 : ℕ) = _; omega)
  · exact (at1 t _).2

/-- The projection: the array after the run is the reference's. -/
theorem final3 (c : Dev nD) : (dats m 0 c).arrAt 3 (cfgs 0).N
    = Cert.InQRefIdeal.Read.val_main_v5 (F := Ideal) (m ((c : Thread nD τ).loc main_arg0)) (m ((c : Thread nD τ).loc main_arg1)) := by
  refine (dats m 0 c).arrAt_eq_of_covers 3 _ (by decide +kernel) fun t _ y => ?_
  blk_simp
  rw [after0_3]; frame_out
  exact point3 m c t y

/-- The cast of a later projection's weights: what the body computes at place `y` of point `t`'s block is the reference at the place of the array that `y` is put. -/
theorem point4 (c : Dev nD) (t : Fin cfg0.N) (y) : k0_pay2 (iblk m c 2 t) y
    = Cert.InQRefIdeal.Read.val_main_v9 (F := Ideal) (m ((c : Thread nD τ).loc main_arg2)) (((cfg0.win 4).blk t).view.emb y) := by
  rw [← Cert.InQRefIdeal.Read.val_main_v9_eq]
  pointwise [k0_pay2]
  blk_simp [iblk]
  rw [entry_w]
  blk_ext [idx t]
  · exact (at2 t y).2
  · exact (at2 t y).1.trans (by omega)

/-- The cast of a later projection's weights: the array after the run is the reference's. -/
theorem final4 (c : Dev nD) : (dats m 0 c).arrAt 4 (cfgs 0).N
    = Cert.InQRefIdeal.Read.val_main_v9 (F := Ideal) (m ((c : Thread nD τ).loc main_arg2)) := by
  refine (dats m 0 c).arrAt_eq_of_covers 4 _ (by decide +kernel) fun t _ y => ?_
  blk_simp
  rw [after0_4]; frame_out
  exact point4 m c t y

end Cert.InQIdeal.Value

end
-- ==== Proof.InF.lean ====
/- The results of the input projection for the recurrence's forget gates: h·Wᵀ, and the cast of the weights of a later projection. -/
module

public import proofs.«01_k».proof.Proof.Gen.InFIdeal.Value
public import proofs.«01_k».proof.Proof.Gen.InFRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.InFIdeal.Value

open Cert.InFIdeal Cert.InFIdeal.Gen

variable (m : (ℓ : Loc nD τ sig) → Buf (Elt Ideal) ℓ)

/-- The windows at every grid point: the rows advance with the quotient by 4, the weights' rows with the remainder; the cast of the next weights goes a slab a point. -/
theorem idx : ∀ t : Fin cfg0.N, win0_0.index t = ![t.val / 4, 0]
    ∧ win0_1.index t = ![2048 + 512 * (t.val % 4), 0]
    ∧ win0_2.index t = ![14336 + 144 * min t.val 56, 0]
    ∧ win0_3.index t = ![t.val / 4, t.val % 4]
    ∧ win0_4.index t = ![min t.val 56, 0] :=
  (by decide +kernel : ∀ t : Fin grid0.N, _)

/-- Place `y` of point `t`'s block of the weights (a window placed by its first row) in the array. -/
theorem at1 (t : Fin cfg0.N) (y : S512x4096.Idx) : ((win0_1.rect t).emb y 0 : ℕ) = 2048 + 512 * (t.val % 4) + y 0 ∧ ((win0_1.rect t).emb y 1 : ℕ) = y 1 :=
  ⟨(win0_1.rect_emb_val_off t y 0).trans (by rw [(idx t).2.1]; rfl),
    (win0_1.rect_emb_val_off t y 1).trans (by rw [(idx t).2.1]; exact Nat.zero_add _)⟩

/-- Place `y` of point `t`'s block of the weights to be cast (a window placed by its first row) in the array. -/
theorem at2 (t : Fin cfg0.N) (y : S144x4096.Idx) : ((win0_2.rect t).emb y 0 : ℕ) = 14336 + 144 * min t.val 56 + y 0 ∧ ((win0_2.rect t).emb y 1 : ℕ) = y 1 :=
  ⟨(win0_2.rect_emb_val_off t y 0).trans (by rw [(idx t).2.2.1]; rfl),
    (win0_2.rect_emb_val_off t y 1).trans (by rw [(idx t).2.2.1]; exact Nat.zero_add _)⟩

/-- The input projection's weights as the region finds them: transposed. -/
theorem entry_w (c : Dev nD) : V m c main_v1 = fun i : S22544x4096.Idx => m ((c : Thread nD τ).loc main_arg2) (ix3 0 (i 1) (i 0)) := by
  funext i
  entry_read
  pointwise

/-- The projection: what the body computes at place `y` of point `t`'s block is the reference at the place of the array that `y` is put. -/
theorem point3 (c : Dev nD) (t : Fin cfg0.N) (y) : k0_pay1 (iblk m c 0 t) (iblk m c 1 t) y
    = Cert.InFRefIdeal.Read.val_main_v4 (F := Ideal) (m ((c : Thread nD τ).loc main_arg0)) (m ((c : Thread nD τ).loc main_arg1)) (((cfg0.win 3).blk t).view.emb y) := by
  rw [← Cert.InFRefIdeal.Read.val_main_v4_eq]
  pointwise [k0_pay1]
  blk_point [iblk, V, idx t]
  · exact (at1 t _).1.trans (by show 2048 + 512 * (t.val % 4) + (y 1 : ℕ) = _; omega)
  · exact (at1 t _).2

/-- The projection: the array after the run is the reference's. -/
theorem final3 (c : Dev nD) : (dats m 0 c).arrAt 3 (cfgs 0).N
    = Cert.InFRefIdeal.Read.val_main_v4 (F := Ideal) (m ((c : Thread nD τ).loc main_arg0)) (m ((c : Thread nD τ).loc main_arg1)) := by
  refine (dats m 0 c).arrAt_eq_of_covers 3 _ (by decide +kernel) fun t _ y => ?_
  blk_simp
  rw [after0_3]; frame_out
  exact point3 m c t y

/-- The cast of a later projection's weights: what the body computes at place `y` of point `t`'s block is the reference at the place of the array that `y` is put. -/
theorem point4 (c : Dev nD) (t : Fin cfg0.N) (y) : k0_pay2 (iblk m c 2 t) y
    = Cert.InFRefIdeal.Read.val_main_v8 (F := Ideal) (m ((c : Thread nD τ).loc main_arg2)) (((cfg0.win 4).blk t).view.emb y) := by
  rw [← Cert.InFRefIdeal.Read.val_main_v8_eq]
  pointwise [k0_pay2]
  blk_simp [iblk]
  rw [entry_w]
  blk_ext [idx t]
  · exact (at2 t y).2
  · exact (at2 t y).1.trans (by omega)

/-- The cast of a later projection's weights: the array after the run is the reference's. -/
theorem final4 (c : Dev nD) : (dats m 0 c).arrAt 4 (cfgs 0).N
    = Cert.InFRefIdeal.Read.val_main_v8 (F := Ideal) (m ((c : Thread nD τ).loc main_arg2)) := by
  refine (dats m 0 c).arrAt_eq_of_covers 4 _ (by decide +kernel) fun t _ y => ?_
  blk_simp
  rw [after0_4]; frame_out
  exact point4 m c t y

end Cert.InFIdeal.Value

end
-- ==== Proof.InMain.lean ====
/- The results of the main input projection: h·Wᵀ, the second half of the modulation and the casts of three later weights. -/
module

public import proofs.«01_k».proof.Proof.Gen.InMainIdeal.Value
public import proofs.«01_k».proof.Proof.Gen.InMainRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.InMainIdeal.Value

open Cert.InMainIdeal Cert.InMainIdeal.Gen

variable (m : (ℓ : Loc nD τ sig) → Buf (Elt Ideal) ℓ)

/-- The windows at every grid point: the rows advance with the quotient by 10, the weights' rows with the remainder; the modulation and the casts go a slab a point. -/
theorem idx : ∀ t : Fin cfg0.N, win0_0.index t = ![t.val / 10, 0]
    ∧ win0_1.index t = ![1024 * (t.val % 10), 0]
    ∧ win0_2.index t = ![0, 0]
    ∧ win0_3.index t = ![0, 64 + min t.val 127]
    ∧ win0_4.index t = ![0, 64 + min t.val 127]
    ∧ win0_5.index t = ![32 * min t.val 127, 0]
    ∧ win0_6.index t = ![16 * min t.val 127, 0]
    ∧ win0_7.index t = ![16 * min t.val 127, 0]
    ∧ win0_8.index t = ![t.val / 10, t.val % 10]
    ∧ win0_9.index t = ![0, min t.val 127]
    ∧ win0_10.index t = ![min t.val 127, 0]
    ∧ win0_11.index t = ![min t.val 127, 0]
    ∧ win0_12.index t = ![min t.val 127, 0] :=
  (by decide +kernel : ∀ t : Fin grid0.N, _)

/-- Place `y` of point `t`'s block of the weights (a window placed by its first row) in the array. -/
theorem at1 (t : Fin cfg0.N) (y : S1024x4096.Idx) : ((win0_1.rect t).emb y 0 : ℕ) = 1024 * (t.val % 10) + y 0 ∧ ((win0_1.rect t).emb y 1 : ℕ) = y 1 :=
  ⟨(win0_1.rect_emb_val_off t y 0).trans (by rw [(idx t).2.1]; rfl),
    (win0_1.rect_emb_val_off t y 1).trans (by rw [(idx t).2.1]; exact Nat.zero_add _)⟩

/-- Place `y` of point `t`'s block of the output weights to be cast (a window placed by its first row) in the array. -/
theorem at5 (t : Fin cfg0.N) (y : S32x4096.Idx) : ((win0_5.rect t).emb y 0 : ℕ) = 32 * min t.val 127 + y 0 ∧ ((win0_5.rect t).emb y 1 : ℕ) = y 1 :=
  ⟨(win0_5.rect_emb_val_off t y 0).trans (by rw [(idx t).2.2.2.2.2.1]; rfl),
    (win0_5.rect_emb_val_off t y 1).trans (by rw [(idx t).2.2.2.2.2.1]; exact Nat.zero_add _)⟩

/-- Place `y` of point `t`'s block of the first branch's weights to be cast (a window placed by its first row) in the array. -/
theorem at6 (t : Fin cfg0.N) (y : S16x4096.Idx) : ((win0_6.rect t).emb y 0 : ℕ) = 16 * min t.val 127 + y 0 ∧ ((win0_6.rect t).emb y 1 : ℕ) = y 1 :=
  ⟨(win0_6.rect_emb_val_off t y 0).trans (by rw [(idx t).2.2.2.2.2.2.1]; rfl),
    (win0_6.rect_emb_val_off t y 1).trans (by rw [(idx t).2.2.2.2.2.2.1]; exact Nat.zero_add _)⟩

/-- Place `y` of point `t`'s block of the second branch's weights to be cast (a window placed by its first row) in the array. -/
theorem at7 (t : Fin cfg0.N) (y : S16x4096.Idx) : ((win0_7.rect t).emb y 0 : ℕ) = 16 * min t.val 127 + y 0 ∧ ((win0_7.rect t).emb y 1 : ℕ) = y 1 :=
  ⟨(win0_7.rect_emb_val_off t y 0).trans (by rw [(idx t).2.2.2.2.2.2.2.1]; rfl),
    (win0_7.rect_emb_val_off t y 1).trans (by rw [(idx t).2.2.2.2.2.2.2.1]; exact Nat.zero_add _)⟩

/-- The conditioning vector as the region finds it: a column. -/
theorem entry_c (c : Dev nD) : V m c main_v0 = fun i : S4096x1.Idx => m ((c : Thread nD τ).loc main_arg2) (ix2 0 (i 0)) := by
  funext i
  entry_read
  pointwise

/-- The modulation weights as the region finds them: the same numbers without the leading axis of length one. -/
theorem entry_ada (c : Dev nD) : V m c main_v1 = fun i : S4096x24576.Idx => m ((c : Thread nD τ).loc main_arg3) (ix3 0 (i 0) (i 1)) := by
  funext i
  entry_read
  pointwise

/-- The output weights as the region finds them: the same numbers without the leading axis of length one. -/
theorem entry_out (c : Dev nD) : V m c main_v2 = fun i : S4096x4096.Idx => m ((c : Thread nD τ).loc main_arg5) (ix3 0 (i 0) (i 1)) := by
  funext i
  entry_read
  pointwise

/-- The first branch's weights as the region finds them: the same numbers without the leading axis of length one. -/
theorem entry_a (c : Dev nD) : V m c main_v3 = fun i : S2048x4096.Idx => m ((c : Thread nD τ).loc main_arg6) (ix3 0 (i 0) (i 1)) := by
  funext i
  entry_read
  pointwise

/-- The second branch's weights as the region finds them: the same numbers without the leading axis of length one. -/
theorem entry_b (c : Dev nD) : V m c main_v4 = fun i : S2048x4096.Idx => m ((c : Thread nD τ).loc main_arg7) (ix3 0 (i 0) (i 1)) := by
  funext i
  entry_read
  pointwise

/-- The projection: what the body computes at place `y` of point `t`'s block is the reference at the place of the array that `y` is put. -/
theorem point8 (c : Dev nD) (t : Fin cfg0.N) (y) : k0_pay3 (iblk m c 0 t) (iblk m c 1 t) y
    = Cert.InMainRefIdeal.Read.val_main_v10 (F := Ideal) (m ((c : Thread nD τ).loc main_arg0)) (m ((c : Thread nD τ).loc main_arg1)) (((cfg0.win 8).blk t).view.emb y) := by
  rw [← Cert.InMainRefIdeal.Read.val_main_v10_eq]
  pointwise [k0_pay3]
  blk_point [iblk, V, idx t]
  · exact (at1 t _).1.trans (by show 1024 * (t.val % 10) + (y 1 : ℕ) = _; omega)
  · exact (at1 t _).2

/-- The projection: the array after the run is the reference's. -/
theorem final8 (c : Dev nD) : (dats m 0 c).arrAt 8 (cfgs 0).N
    = Cert.InMainRefIdeal.Read.val_main_v10 (F := Ideal) (m ((c : Thread nD τ).loc main_arg0)) (m ((c : Thread nD τ).loc main_arg1)) := by
  refine (dats m 0 c).arrAt_eq_of_covers 8 _ (by decide +kernel) fun t _ y => ?_
  blk_simp
  rw [after0_8]; frame_out
  exact point8 m c t y

/-- The modulation: what the body computes at place `y` of point `t`'s block is the reference at the place of the array that `y` is put. -/
theorem point9 (c : Dev nD) (t : Fin cfg0.N) (y) : k0_pay4 (iblk m c 2 t) (iblk m c 3 t) (iblk m c 4 t) y
    = Cert.InMainRefIdeal.Read.val_main_v11 (F := Ideal) (m ((c : Thread nD τ).loc main_arg2)) (m ((c : Thread nD τ).loc main_arg3)) (m ((c : Thread nD τ).loc main_arg4)) (((cfg0.win 9).blk t).view.emb y) := by
  rw [← Cert.InMainRefIdeal.Read.val_main_v11_eq]
  pointwise [k0_pay4]
  simp only [zero_sub]
  blk_simp [iblk]
  rw [entry_c, entry_ada]
  blk_point [iblk, V, idx t]

/-- The modulation: the array after the run is the reference's. -/
theorem final9 (c : Dev nD) : (dats m 0 c).arrAt 9 (cfgs 0).N
    = Cert.InMainRefIdeal.Read.val_main_v11 (F := Ideal) (m ((c : Thread nD τ).loc main_arg2)) (m ((c : Thread nD τ).loc main_arg3)) (m ((c : Thread nD τ).loc main_arg4)) := by
  refine (dats m 0 c).arrAt_eq_of_covers 9 _ (by decide +kernel) fun t _ y => ?_
  blk_simp
  rw [after0_9]; frame_out
  exact point9 m c t y

/-- The cast of the output weights: what the body computes at place `y` of point `t`'s block is the reference at the place of the array that `y` is put. -/
theorem point10 (c : Dev nD) (t : Fin cfg0.N) (y) : k0_pay5 (iblk m c 5 t) y
    = Cert.InMainRefIdeal.Read.val_main_v13 (F := Ideal) (m ((c : Thread nD τ).loc main_arg5)) (((cfg0.win 10).blk t).view.emb y) := by
  rw [← Cert.InMainRefIdeal.Read.val_main_v13_eq]
  pointwise [k0_pay5]
  blk_simp [iblk]
  rw [entry_out]
  blk_ext [idx t]
  · exact (at5 t y).1.trans (by omega)
  · exact (at5 t y).2

/-- The cast of the output weights: the array after the run is the reference's. -/
theorem final10 (c : Dev nD) : (dats m 0 c).arrAt 10 (cfgs 0).N
    = Cert.InMainRefIdeal.Read.val_main_v13 (F := Ideal) (m ((c : Thread nD τ).loc main_arg5)) := by
  refine (dats m 0 c).arrAt_eq_of_covers 10 _ (by decide +kernel) fun t _ y => ?_
  blk_simp
  rw [after0_10]; frame_out
  exact point10 m c t y

/-- The cast of the first branch's weights: what the body computes at place `y` of point `t`'s block is the reference at the place of the array that `y` is put. -/
theorem point11 (c : Dev nD) (t : Fin cfg0.N) (y) : k0_pay1 (k0_pay6 (iblk m c 6 t)) y
    = Cert.InMainRefIdeal.Read.val_main_v15 (F := Ideal) (m ((c : Thread nD τ).loc main_arg6)) (((cfg0.win 11).blk t).view.emb y) := by
  rw [← Cert.InMainRefIdeal.Read.val_main_v15_eq]
  pointwise [k0_pay1, k0_pay6]
  blk_simp [iblk]
  rw [entry_a]
  blk_ext [idx t]
  · exact (at6 t y).1.trans (by omega)
  · exact (at6 t y).2

/-- The cast of the first branch's weights: the array after the run is the reference's. -/
theorem final11 (c : Dev nD) : (dats m 0 c).arrAt 11 (cfgs 0).N
    = Cert.InMainRefIdeal.Read.val_main_v15 (F := Ideal) (m ((c : Thread nD τ).loc main_arg6)) := by
  refine (dats m 0 c).arrAt_eq_of_covers 11 _ (by decide +kernel) fun t _ y => ?_
  blk_simp
  rw [after0_11]; frame_out
  exact point11 m c t y

/-- The cast of the second branch's weights: what the body computes at place `y` of point `t`'s block is the reference at the place of the array that `y` is put. -/
theorem point12 (c : Dev nD) (t : Fin cfg0.N) (y) : k0_pay2 (iblk m c 7 t) y
    = Cert.InMainRefIdeal.Read.val_main_v17 (F := Ideal) (m ((c : Thread nD τ).loc main_arg7)) (((cfg0.win 12).blk t).view.emb y) := by
  rw [← Cert.InMainRefIdeal.Read.val_main_v17_eq]
  pointwise [k0_pay2]
  blk_simp [iblk]
  rw [entry_b]
  blk_ext [idx t]
  · exact (at7 t y).1.trans (by omega)
  · exact (at7 t y).2

/-- The cast of the second branch's weights: the array after the run is the reference's. -/
theorem final12 (c : Dev nD) : (dats m 0 c).arrAt 12 (cfgs 0).N
    = Cert.InMainRefIdeal.Read.val_main_v17 (F := Ideal) (m ((c : Thread nD τ).loc main_arg7)) := by
  refine (dats m 0 c).arrAt_eq_of_covers 12 _ (by decide +kernel) fun t _ y => ?_
  blk_simp
  rw [after0_12]; frame_out
  exact point12 m c t y

end Cert.InMainIdeal.Value

end
-- ==== Proof.InGates.lean ====
/- The results of the input projection for the gates: h·Wᵀ over the last 8192 rows of the weights, and the cast of the feed-forward weights. -/
module

public import proofs.«01_k».proof.Proof.Gen.InGatesIdeal.Value
public import proofs.«01_k».proof.Proof.Gen.InGatesRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.InGatesIdeal.Value

open Cert.InGatesIdeal Cert.InGatesIdeal.Gen

variable (m : (ℓ : Loc nD τ sig) → Buf (Elt Ideal) ℓ)

/-- The windows at every grid point: the rows advance with the quotient by 8, the weights' rows (from row 16 on) with the remainder; the cast of the next weights goes a slab a point. -/
theorem idx : ∀ t : Fin cfg0.N, win0_0.index t = ![t.val / 8, 0]
    ∧ win0_1.index t = ![16 + 1024 * (t.val % 8), 0]
    ∧ win0_2.index t = ![32 * min t.val 127, 0]
    ∧ win0_3.index t = ![t.val / 8, t.val % 8]
    ∧ win0_4.index t = ![min t.val 127, 0] :=
  (by decide +kernel : ∀ t : Fin grid0.N, _)

/-- Place `y` of point `t`'s block of the weights (a window placed by its first row) in the array. -/
theorem at1 (t : Fin cfg0.N) (y : S1024x4096.Idx) : ((win0_1.rect t).emb y 0 : ℕ) = 16 + 1024 * (t.val % 8) + y 0 ∧ ((win0_1.rect t).emb y 1 : ℕ) = y 1 :=
  ⟨(win0_1.rect_emb_val_off t y 0).trans (by rw [(idx t).2.1]; rfl),
    (win0_1.rect_emb_val_off t y 1).trans (by rw [(idx t).2.1]; exact Nat.zero_add _)⟩

/-- Place `y` of point `t`'s block of the weights to be cast (a window placed by its first row) in the array. -/
theorem at2 (t : Fin cfg0.N) (y : S32x22016.Idx) : ((win0_2.rect t).emb y 0 : ℕ) = 32 * min t.val 127 + y 0 ∧ ((win0_2.rect t).emb y 1 : ℕ) = y 1 :=
  ⟨(win0_2.rect_emb_val_off t y 0).trans (by rw [(idx t).2.2.1]; rfl),
    (win0_2.rect_emb_val_off t y 1).trans (by rw [(idx t).2.2.1]; exact Nat.zero_add _)⟩

/-- The feed-forward weights as the region finds them: the same numbers without the leading axis of length one. -/
theorem entry_w (c : Dev nD) : V m c main_v0 = fun i : S4096x22016.Idx => m ((c : Thread nD τ).loc main_arg2) (ix3 0 (i 0) (i 1)) := by
  funext i
  entry_read
  pointwise

/-- The projection: what the body computes at place `y` of point `t`'s block is the reference at the place of the array that `y` is put. -/
theorem point3 (c : Dev nD) (t : Fin cfg0.N) (y) : k0_pay1 (iblk m c 0 t) (iblk m c 1 t) y
    = Cert.InGatesRefIdeal.Read.val_main_v5 (F := Ideal) (m ((c : Thread nD τ).loc main_arg0)) (m ((c : Thread nD τ).loc main_arg1)) (((cfg0.win 3).blk t).view.emb y) := by
  rw [← Cert.InGatesRefIdeal.Read.val_main_v5_eq]
  pointwise [k0_pay1]
  blk_point [iblk, V, idx t]
  · exact (at1 t _).1.trans (by show 16 + 1024 * (t.val % 8) + (y 1 : ℕ) = _; omega)
  · exact (at1 t _).2

/-- The projection: the array after the run is the reference's. -/
theorem final3 (c : Dev nD) : (dats m 0 c).arrAt 3 (cfgs 0).N
    = Cert.InGatesRefIdeal.Read.val_main_v5 (F := Ideal) (m ((c : Thread nD τ).loc main_arg0)) (m ((c : Thread nD τ).loc main_arg1)) := by
  refine (dats m 0 c).arrAt_eq_of_covers 3 _ (by decide +kernel) fun t _ y => ?_
  blk_simp
  rw [after0_3]; frame_out
  exact point3 m c t y

/-- The cast of the feed-forward weights: what the body computes at place `y` of point `t`'s block is the reference at the place of the array that `y` is put. -/
theorem point4 (c : Dev nD) (t : Fin cfg0.N) (y) : k0_pay2 (iblk m c 2 t) y
    = Cert.InGatesRefIdeal.Read.val_main_v7 (F := Ideal) (m ((c : Thread nD τ).loc main_arg2)) (((cfg0.win 4).blk t).view.emb y) := by
  rw [← Cert.InGatesRefIdeal.Read.val_main_v7_eq]
  pointwise [k0_pay2]
  blk_simp [iblk]
  rw [entry_w]
  blk_ext [idx t]
  · exact (at2 t y).1.trans (by omega)
  · exact (at2 t y).2

/-- The cast of the feed-forward weights: the array after the run is the reference's. -/
theorem final4 (c : Dev nD) : (dats m 0 c).arrAt 4 (cfgs 0).N
    = Cert.InGatesRefIdeal.Read.val_main_v7 (F := Ideal) (m ((c : Thread nD τ).loc main_arg2)) := by
  refine (dats m 0 c).arrAt_eq_of_covers 4 _ (by decide +kernel) fun t _ y => ?_
  blk_simp
  rw [after0_4]; frame_out
  exact point4 m c t y

end Cert.InGatesIdeal.Value

end
-- ==== Proof.OutProj.lean ====
/- The results of the output projection: x + g ⊙ (y·W), and the cast of the feed-forward output weights. -/
module

public import proofs.«01_k».proof.Proof.Gen.OutProjIdeal.Value
public import proofs.«01_k».proof.Proof.Gen.OutProjRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.OutProjIdeal.Value

open Cert.OutProjIdeal Cert.OutProjIdeal.Gen

variable (m : (ℓ : Loc nD τ sig) → Buf (Elt Ideal) ℓ)

/-- The windows at every grid point: the rows advance with the quotient by 8, the columns with the remainder; the cast goes a slab a point. -/
theorem idx : ∀ t : Fin cfg0.N, win0_0.index t = ![t.val / 8, 0]
    ∧ win0_1.index t = ![0, t.val % 8]
    ∧ win0_2.index t = ![t.val / 8, t.val % 8]
    ∧ win0_3.index t = ![0, t.val % 8]
    ∧ win0_4.index t = ![128 * min t.val 85, 0]
    ∧ win0_5.index t = ![t.val / 8, t.val % 8]
    ∧ win0_6.index t = ![min t.val 85, 0] :=
  (by decide +kernel : ∀ t : Fin grid0.N, _)

/-- Place `y` of point `t`'s block of the weights to be cast (a window placed by its first row) in the array. -/
theorem at4 (t : Fin cfg0.N) (y : S128x4096.Idx) : ((win0_4.rect t).emb y 0 : ℕ) = 128 * min t.val 85 + y 0 ∧ ((win0_4.rect t).emb y 1 : ℕ) = y 1 :=
  ⟨(win0_4.rect_emb_val_off t y 0).trans (by rw [(idx t).2.2.2.2.1]; rfl),
    (win0_4.rect_emb_val_off t y 1).trans (by rw [(idx t).2.2.2.2.1]; exact Nat.zero_add _)⟩

/-- The stream as the region finds it: the same numbers without the leading axis of length one. -/
theorem entry_x (c : Dev nD) : V m c main_v0 = fun i : S16384x4096.Idx => m ((c : Thread nD τ).loc main_arg2) (ix3 0 (i 0) (i 1)) := by
  funext i
  entry_read
  pointwise

/-- The feed-forward output weights as the region finds them: the same numbers without the leading axis of length one. -/
theorem entry_w (c : Dev nD) : V m c main_v1 = fun i : S11008x4096.Idx => m ((c : Thread nD τ).loc main_arg4) (ix3 0 (i 0) (i 1)) := by
  funext i
  entry_read
  pointwise

/-- The output projection: what the body computes at place `y` of point `t`'s block is the reference at the place of the array that `y` is put. -/
theorem point5 (c : Dev nD) (t : Fin cfg0.N) (y) : k0_pay1 (iblk m c 0 t) (iblk m c 1 t) (iblk m c 2 t) (iblk m c 3 t) y
    = Cert.OutProjRefIdeal.Read.val_main_v7 (F := Ideal) (m ((c : Thread nD τ).loc main_arg0)) (m ((c : Thread nD τ).loc main_arg1)) (m ((c : Thread nD τ).loc main_arg2)) (m ((c : Thread nD τ).loc main_arg3)) (((cfg0.win 5).blk t).view.emb y) := by
  rw [← Cert.OutProjRefIdeal.Read.val_main_v7_eq]
  pointwise [k0_pay1]
  blk_simp [iblk]
  rw [entry_x]
  blk_point [iblk, V, idx t]

/-- The output projection: the array after the run is the reference's. -/
theorem final5 (c : Dev nD) : (dats m 0 c).arrAt 5 (cfgs 0).N
    = Cert.OutProjRefIdeal.Read.val_main_v7 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  exact point5 m c t y

/-- The cast of the feed-forward output weights: what the body computes at place `y` of point `t`'s block is the reference at the place of the array that `y` is put. -/
theorem point6 (c : Dev nD) (t : Fin cfg0.N) (y) : k0_pay2 (iblk m c 4 t) y
    = Cert.OutProjRefIdeal.Read.val_main_v9 (F := Ideal) (m ((c : Thread nD τ).loc main_arg4)) (((cfg0.win 6).blk t).view.emb y) := by
  rw [← Cert.OutProjRefIdeal.Read.val_main_v9_eq]
  pointwise [k0_pay2]
  blk_simp [iblk]
  rw [entry_w]
  blk_ext [idx t]
  · exact (at4 t y).1.trans (by omega)
  · exact (at4 t y).2

/-- The cast of the feed-forward output weights: the array after the run is the reference's. -/
theorem final6 (c : Dev nD) : (dats m 0 c).arrAt 6 (cfgs 0).N
    = Cert.OutProjRefIdeal.Read.val_main_v9 (F := Ideal) (m ((c : Thread nD τ).loc main_arg4)) := by
  refine (dats m 0 c).arrAt_eq_of_covers 6 _ (by decide +kernel) fun t _ y => ?_
  blk_simp
  rw [after0_6]; frame_out
  exact point6 m c t y

end Cert.OutProjIdeal.Value

end
-- ==== Proof.NormFfn.lean ====
/- The result of the modulated norm before the feed-forward. -/
module

public import proofs.«01_k».proof.Proof.Gen.NormFfnIdeal.Value
public import proofs.«01_k».proof.Proof.Gen.NormFfnRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.NormFfnIdeal.Value

open Cert.NormFfnIdeal Cert.NormFfnIdeal.Gen

variable (m : (ℓ : Loc nD τ sig) → Buf (Elt Ideal) ℓ)

/-- The windows at every grid point: a block of 512 rows a point, and the second and the third stretch of the modulation vector. -/
theorem idx : ∀ t : Fin cfg0.N, win0_0.index t = ![t.val, 0]
    ∧ win0_1.index t = ![0, 0]
    ∧ win0_2.index t = ![0, 1]
    ∧ win0_3.index t = ![0, 2]
    ∧ win0_4.index t = ![t.val, 0] :=
  (by decide +kernel : ∀ t : Fin grid0.N, _)

/-- The norm's gain as the region finds it. -/
theorem entry_g (c : Dev nD) : V m c main_v1 = m ((c : Thread nD τ).loc main_arg1) := by
  funext i
  entry_read
  pointwise

/-- The modulated norm: what the body computes at place `y` of point `t`'s block is the reference at the place of the array that `y` is put. -/
theorem point4 (c : Dev nD) (t : Fin cfg0.N) (y) : k0_pay1 (iblk m c 0 t) (iblk m c 1 t) (iblk m c 3 t) (iblk m c 2 t) y
    = Cert.NormFfnRefIdeal.Read.val_main_v22 (F := Ideal) (m ((c : Thread nD τ).loc main_arg0)) (m ((c : Thread nD τ).loc main_arg1)) (m ((c : Thread nD τ).loc main_arg2)) (((cfg0.win 4).blk t).view.emb y) := by
  rw [← Cert.NormFfnRefIdeal.Read.val_main_v22_eq]
  pointwise [k0_pay1]
  blk_simp [iblk]
  rw [entry_g]
  blk_point [iblk, V, idx t]

/-- The modulated norm: the array after the run is the reference's. -/
theorem final4 (c : Dev nD) : (dats m 0 c).arrAt 4 (cfgs 0).N
    = Cert.NormFfnRefIdeal.Read.val_main_v22 (F := Ideal) (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]; frame_out
  exact point4 m c t y

end Cert.NormFfnIdeal.Value

end
-- ==== Proof.NormMix.lean ====
/- The results of the norm before the mixers: the modulated norm, its projection to the forget gates' columns, and the cast of the weights of a later projection. -/
module

public import proofs.«01_k».proof.Proof.Gen.NormMixIdeal.Value
public import proofs.«01_k».proof.Proof.Gen.NormMixRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.NormMixIdeal.Value

open Cert.NormMixIdeal Cert.NormMixIdeal.Gen

variable (m : (ℓ : Loc nD τ sig) → Buf (Elt Ideal) ℓ)

/-- The windows at every grid point: a block of 512 rows a point, the first and the second stretch of the modulation vector, the 128 weight columns, and a slab of the weights to be cast. -/
theorem idx : ∀ t : Fin cfg0.N, win0_0.index t = ![t.val, 0]
    ∧ win0_1.index t = ![0, 0]
    ∧ win0_2.index t = ![0, 0]
    ∧ win0_3.index t = ![0, 1]
    ∧ win0_4.index t = ![14336, 0]
    ∧ win0_5.index t = ![128 * t.val, 0]
    ∧ win0_6.index t = ![t.val, 0]
    ∧ win0_7.index t = ![t.val, 0]
    ∧ win0_8.index t = ![t.val, 0] :=
  (by decide +kernel : ∀ t : Fin grid0.N, _)

/-- Place `y` of the block of the 128 weight columns (a window placed by its first row) in the array. -/
theorem at4 (t : Fin cfg0.N) (y : S128x4096.Idx) : ((win0_4.rect t).emb y 0 : ℕ) = 14336 + y 0 ∧ ((win0_4.rect t).emb y 1 : ℕ) = y 1 :=
  ⟨(win0_4.rect_emb_val_off t y 0).trans (by rw [(idx t).2.2.2.2.1]; rfl),
    (win0_4.rect_emb_val_off t y 1).trans (by rw [(idx t).2.2.2.2.1]; exact Nat.zero_add _)⟩

/-- Place `y` of point `t`'s block of the weights to be cast (a window placed by its first row) in the array. -/
theorem at5 (t : Fin cfg0.N) (y : S128x4096.Idx) : ((win0_5.rect t).emb y 0 : ℕ) = 128 * t.val + y 0 ∧ ((win0_5.rect t).emb y 1 : ℕ) = y 1 :=
  ⟨(win0_5.rect_emb_val_off t y 0).trans (by rw [(idx t).2.2.2.2.2.1]; rfl),
    (win0_5.rect_emb_val_off t y 1).trans (by rw [(idx t).2.2.2.2.2.1]; exact Nat.zero_add _)⟩

/-- The input projection's weights as the region finds them: transposed. -/
theorem entry_w (c : Dev nD) : V m c main_v1 = fun i : S22544x4096.Idx => m ((c : Thread nD τ).loc main_arg3) (ix3 0 (i 1) (i 0)) := by
  funext i
  entry_read
  pointwise

/-- The norm's gain as the region finds it. -/
theorem entry_g (c : Dev nD) : V m c main_v4 = m ((c : Thread nD τ).loc main_arg1) := by
  funext i
  entry_read
  pointwise

/-- The input rows as the region finds them. -/
theorem entry_x (c : Dev nD) : V m c main_v2 = fun i : S16384x4096.Idx => m ((c : Thread nD τ).loc main_arg0) (ix3 0 (i 0) (i 1)) := by
  funext i
  entry_read
  pointwise

/-- The first output of a point is the modulated norm of its rows. -/
theorem outs6 (c : Dev nD) (t : Fin cfg0.N) : (outsAt0 m c t).1 = k0_pay2 (iblk m c 0 t) (iblk m c 1 t) (iblk m c 3 t) (iblk m c 2 t) := by
  unfold outsAt0
  dsimp only
  unfold out0_A_6
  frame_out

/-- The second output of a point is the projection of the first. -/
theorem outs7 (c : Dev nD) (t : Fin cfg0.N) : (outsAt0 m c t).2.1 = k0_pay3 (k0_pay2 (iblk m c 0 t) (iblk m c 1 t) (iblk m c 3 t) (iblk m c 2 t)) (iblk m c 4 t) := by
  unfold outsAt0
  dsimp only
  unfold out0_A_7
  frame_out

/-- The third output of a point is the cast of its slab of weights. -/
theorem outs8 (c : Dev nD) (t : Fin cfg0.N) : (outsAt0 m c t).2.2 = k0_pay1 (iblk m c 5 t) := by
  unfold outsAt0
  dsimp only
  unfold out0_A_8
  frame_out

/-- The modulated norm: what the body computes at place `y` of point `t`'s block is the reference at the place of the array that `y` is put. -/
theorem point6 (c : Dev nD) (t : Fin cfg0.N) (y) : k0_pay2 (iblk m c 0 t) (iblk m c 1 t) (iblk m c 3 t) (iblk m c 2 t) y
    = Cert.NormMixRefIdeal.Read.val_main_v23 (F := Ideal) (m ((c : Thread nD τ).loc main_arg0)) (m ((c : Thread nD τ).loc main_arg1)) (m ((c : Thread nD τ).loc main_arg2)) (((cfg0.win 6).blk t).view.emb y) := by
  rw [← Cert.NormMixRefIdeal.Read.val_main_v23_eq]
  pointwise [k0_pay2]
  blk_simp [iblk]
  rw [entry_g, entry_x]
  blk_point [iblk, V, idx t]

/-- The modulated norm: the array after the run is the reference's. -/
theorem final6 (c : Dev nD) : (dats m 0 c).arrAt 6 (cfgs 0).N
    = Cert.NormMixRefIdeal.Read.val_main_v23 (F := Ideal) (m ((c : Thread nD τ).loc main_arg0)) (m ((c : Thread nD τ).loc main_arg1)) (m ((c : Thread nD τ).loc main_arg2)) := by
  refine (dats m 0 c).arrAt_eq_of_covers 6 _ (by decide +kernel) fun t _ y => ?_
  blk_simp
  rw [after0_6, outs6]
  exact point6 m c t y

/-- The projection at place `y` of point `t`'s block: the reference at the place of the array that `y` is put. -/
theorem point7 (c : Dev nD) (t : Fin cfg0.N) (y) : k0_pay3 (k0_pay2 (iblk m c 0 t) (iblk m c 1 t) (iblk m c 3 t) (iblk m c 2 t)) (iblk m c 4 t) y
    = Cert.NormMixRefIdeal.Read.val_main_v29 (F := Ideal) (m ((c : Thread nD τ).loc main_arg0)) (m ((c : Thread nD τ).loc main_arg1)) (m ((c : Thread nD τ).loc main_arg2)) (m ((c : Thread nD τ).loc main_arg3)) (((cfg0.win 7).blk t).view.emb y) := by
  rw [Cert.NormMixRefIdeal.Read.val_main_v29_apply]
  pointwise [k0_pay3]
  refine Fin.sum_fin_congr fun k => ?_
  rw [point6]
  refine congrArg₂ (· * ·) ?_ ?_
  · rw [Cert.NormMixRefIdeal.Read.val_main_v24_apply]
    show _ = Cert.NormMixRefIdeal.Read.val_main_v23 (F := Ideal) _ _ _ _
    blk_ext [idx t]
  · rw [Cert.NormMixRefIdeal.Read.val_main_v28_apply, Cert.NormMixRefIdeal.Read.val_main_v27_apply, Cert.NormMixRefIdeal.Read.val_main_v26_apply, Cert.NormMixRefIdeal.Read.val_main_v25_apply]
    show _ = m ((c : Thread nD τ).loc main_arg3) _
    blk_simp [iblk]
    rw [entry_w]
    blk_ext [idx t]
    · exact (at4 t _).2.trans (by show (k : ℕ) = _; omega)
    · exact (at4 t _).1.trans (by show 14336 + (y 1 : ℕ) = _; omega)

/-- The projection: the array after the run is the reference's. -/
theorem final7 (c : Dev nD) : (dats m 0 c).arrAt 7 (cfgs 0).N
    = Cert.NormMixRefIdeal.Read.val_main_v29 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t _ y => ?_
  blk_simp
  rw [after0_7, outs7]
  exact point7 m c t y

/-- The cast of a later projection's weights: what the body computes at place `y` of point `t`'s block is the reference at the place of the array that `y` is put. -/
theorem point8 (c : Dev nD) (t : Fin cfg0.N) (y) : k0_pay1 (iblk m c 5 t) y
    = Cert.NormMixRefIdeal.Read.val_main_v33 (F := Ideal) (m ((c : Thread nD τ).loc main_arg3)) (((cfg0.win 8).blk t).view.emb y) := by
  rw [← Cert.NormMixRefIdeal.Read.val_main_v33_eq]
  pointwise [k0_pay1]
  blk_simp [iblk]
  rw [entry_w]
  blk_ext [idx t]
  · exact (at5 t y).2
  · exact (at5 t y).1.trans (by omega)

/-- The cast of a later projection's weights: the array after the run is the reference's. -/
theorem final8 (c : Dev nD) : (dats m 0 c).arrAt 8 (cfgs 0).N
    = Cert.NormMixRefIdeal.Read.val_main_v33 (F := Ideal) (m ((c : Thread nD τ).loc main_arg3)) := by
  refine (dats m 0 c).arrAt_eq_of_covers 8 _ (by decide +kernel) fun t _ y => ?_
  blk_simp
  rw [after0_8, outs8]
  exact point8 m c t y

end Cert.NormMixIdeal.Value

end
-- ==== Proof.Ada.lean ====
/- The result of the modulation call: silu(c)·W + b over the first 8192 columns. -/
module

public import proofs.«01_k».proof.Proof.Gen.AdaIdeal.Value
public import proofs.«01_k».proof.Proof.Gen.AdaRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AdaIdeal.Value

open Cert.AdaIdeal Cert.AdaIdeal.Gen

variable (m : (ℓ : Loc nD τ sig) → Buf (Elt Ideal) ℓ)

/-- The windows at every grid point: a block of 512 columns a point. -/
theorem idx : ∀ t : Fin cfg0.N, win0_0.index t = ![0, 0]
    ∧ win0_1.index t = ![0, t.val]
    ∧ win0_2.index t = ![0, t.val]
    ∧ win0_3.index t = ![0, t.val] :=
  (by decide +kernel : ∀ t : Fin grid0.N, _)

/-- The conditioning vector as the region finds it: a column. -/
theorem entry_c (c : Dev nD) : V m c main_v0 = fun i : S4096x1.Idx => m ((c : Thread nD τ).loc main_arg0) (ix2 0 (i 0)) := by
  funext i
  entry_read
  pointwise

/-- The modulation weights as the region finds them: the same numbers without the leading axis of length one. -/
theorem entry_w (c : Dev nD) : V m c main_v1 = fun i : S4096x24576.Idx => m ((c : Thread nD τ).loc main_arg1) (ix3 0 (i 0) (i 1)) := by
  funext i
  entry_read
  pointwise

/-- The modulation: what the body computes at place `y` of point `t`'s block is the reference at the place of the array that `y` is put. -/
theorem point3 (c : Dev nD) (t : Fin cfg0.N) (y) : k0_pay1 (iblk m c 0 t) (iblk m c 1 t) (iblk m c 2 t) y
    = Cert.AdaRefIdeal.Read.val_main_v6 (F := Ideal) (m ((c : Thread nD τ).loc main_arg0)) (m ((c : Thread nD τ).loc main_arg1)) (m ((c : Thread nD τ).loc main_arg2)) (((cfg0.win 3).blk t).view.emb y) := by
  rw [← Cert.AdaRefIdeal.Read.val_main_v6_eq]
  pointwise [k0_pay1]
  simp only [zero_sub]
  blk_simp [iblk]
  rw [entry_c, entry_w]
  blk_point [iblk, V, idx t]

/-- The modulation: the array after the run is the reference's. -/
theorem final3 (c : Dev nD) : (dats m 0 c).arrAt 3 (cfgs 0).N
    = Cert.AdaRefIdeal.Read.val_main_v6 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point3 m c t y

end Cert.AdaIdeal.Value

end
-- ==== Proof.FoxRun.lean ====
module

public import proofs.«01_k».proof.Proof.Gen.FoxIdeal.Launch
public import proofs.«01_k».proof.Proof.Gen.FoxIdeal.Skeleton
public import proofs.«01_k».proof.Proof.Gen.FoxIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.ValueIdx

@[expose] public section

set_option maxRecDepth 16384
set_option warn.classDefReducibility false

noncomputable section

namespace Cert.FoxIdeal.Attn

open Cert.FoxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

/-! ## What a load finds after a list of stores -/

section reads
variable {κ : Kind} {sp : Space} {s : Shape} {e : EltTy}

/-- A load of the box that the newest store wrote finds that store's payload. -/
theorem readAt_hit (v : View sig κ sp s e) (f : v.ty.Contents (Elt F)) (r : Rect s) (w : r.shape.Idx → Elt F e)
    (L : List (View.Piece (Elt F) s e)) :
    View.readAt (Elt F) v r.toLoadRect (v.writes (Elt F) f (⟨r, w⟩ :: L)) = w :=
  funext fun x => View.read_writes_cons_emb v f r w L x

/-- A load of a box that some axis tells apart from the newest store passes it over. -/
theorem readAt_miss (v : View sig κ sp s e) (f : v.ty.Contents (Elt F)) (r r' : Rect s) (w : r'.shape.Idx → Elt F e)
    (L : List (View.Piece (Elt F) s e))
    (h : ∃ a : Fin s.rank, r.stride a = 1 ∧ r'.stride a = 1 ∧ (r.off a + r.size a ≤ r'.off a ∨ r'.off a + r'.size a ≤ r.off a)) :
    View.readAt (Elt F) v r.toLoadRect (v.writes (Elt F) f (⟨r', w⟩ :: L)) = View.readAt (Elt F) v r.toLoadRect (v.writes (Elt F) f L) :=
  funext fun x => by
    obtain ⟨a, h1, h2, h3⟩ := h
    refine View.read_writes_cons_miss_of_axis v f ⟨r', w⟩ L _ a _ _ rfl h2 rfl ?_
    have hx : (x a).val < r.size a := (x a).isLt
    have hv : (r.toLoadRect.idx x a).val = r.off a + r.stride a * (x a).val := rfl
    rw [hv, h1]; show _ < r'.off a ∨ r'.off a + r'.size a ≤ _; omega

/-- The same two facts for a load answered from the pieces alone. -/
theorem readCov_hit (v : View sig κ sp s e) (r : Rect s) (w : r.shape.Idx → Elt F e) (L : List (View.Piece (Elt F) s e)) :
    v.readCov (⟨r, w⟩ :: L) r.toLoadRect = w := readAt_hit v _ r w L

/-- A load of a box that the newest store does not meet reads what the older stores left. -/
theorem readCov_miss (v : View sig κ sp s e) (r r' : Rect s) (w : r'.shape.Idx → Elt F e) (L : List (View.Piece (Elt F) s e))
    (h : ∃ a : Fin s.rank, r.stride a = 1 ∧ r'.stride a = 1 ∧ (r.off a + r.size a ≤ r'.off a ∨ r'.off a + r'.size a ≤ r.off a)) :
    v.readCov (⟨r', w⟩ :: L) r.toLoadRect = v.readCov L r.toLoadRect := readAt_miss v _ r r' w L h

/-- A load past no stores at all. -/
theorem readAt_nil (v : View sig κ sp s e) (f : v.ty.Contents (Elt F)) (B : LoadRect s) :
    View.readAt (Elt F) v B (v.writes (Elt F) f []) = View.readAt (Elt F) v B f := rfl

end reads

/-! ## The parts of the operands that a step reads -/

/-- Rows `512 c … 512 c + 511` of the query block. -/
def qRows (X : Vec F S1024x256 .bf16) (c : Fin 2) : Vec F S512x256 .bf16 :=
  fun y => X (ix2 (⟨512 * c.val + (y 0).val, by have := (y 0).isLt; have : (y 0).val < 512 := this; omega⟩ : Fin 1024) (y 1))

/-- Block `j` of the transposed keys: a head's keys `512 j … 512 j + 511`. -/
def ktBlk (X : Vec F S32x256x512 .bf16) (j : ℕ) : Vec F S1x256x512 .bf16 :=
  fun y => X (ix3 (Fin.ofNat 32 j : Fin 32) (y 1) (y 2))

/-- Rows `512 j … 512 j + 511` of the value buffer. -/
def vBlk (X : Vec F S16384x256 .bf16) (j : ℕ) : Vec F S512x256 .bf16 :=
  fun y => X (ix2 (Fin.ofNat 16384 (512 * j + (y 0).val) : Fin 16384) (y 1))

/-- The decay number of block `j` and head `h`. -/
def rAt (X : Vec F S32x128 .f32) (j h : ℕ) : Elt F .f32 := X (ix2 (Fin.ofNat 32 j : Fin 32) (Fin.ofNat 128 h : Fin 128))

/-- A load of 512 rows of the query block from row `512 c` gives `qRows`. -/
theorem qRows_eq (X : Vec F S1024x256 .bf16) (c : Fin 2) (off : Fin 2 → ℕ) (ho : off = ![512 * c.val, 0]) (inb) :
    (fun y => X ((Rect.unit (s := S1024x256) off S512x256.size inb).toLoadRect.idx y)) = qRows X c := by
  subst ho; funext y; refine congrArg X (funext fun a => Fin.ext ?_); fin_cases a <;> simp [ix2]

/-- A load of one block of the transposed keys gives `ktBlk`. -/
theorem ktBlk_eq (X : Vec F S32x256x512 .bf16) (j : ℕ) (hj : j < 32) (off : Fin 3 → ℕ) (ho : off = ![j, 0, 0]) (inb) :
    (fun y => X ((Rect.unit (s := S32x256x512) off S1x256x512.size inb).toLoadRect.idx y)) = ktBlk X j := by
  subst ho; funext y; refine congrArg X (funext fun a => Fin.ext ?_)
  have h0 : (y 0).val = 0 := by have : (y 0).val < 1 := (y 0).isLt; omega
  fin_cases a <;> simp [ix3, h0, Nat.mod_eq_of_lt hj]

/-- A load of 512 rows of the value buffer from row `512 j` gives `vBlk`. -/
theorem vBlk_eq (X : Vec F S16384x256 .bf16) (j : ℕ) (hj : j < 32) (off : Fin 2 → ℕ) (ho : off = ![512 * j, 0]) (inb) :
    (fun y => X ((Rect.unit (s := S16384x256) off S512x256.size inb).toLoadRect.idx y)) = vBlk X j := by
  subst ho; funext y; refine congrArg X (funext fun a => Fin.ext ?_)
  have h0 : (y 0).val < 512 := (y 0).isLt
  fin_cases a <;> simp [ix2, Nat.mod_eq_of_lt (show 512 * j + (y 0).val < 16384 by omega)]

/-- A load of one decay number gives `rAt`. -/
theorem rAt_eq (X : Vec F S32x128 .f32) (j h : ℕ) (hj : j < 32) (hh : h < 128) (off : Fin 2 → ℕ) (ho : off = ![j, h]) (inb)
    (y : (Rect.unit (s := S32x128) off S1x1.size inb).shape.Idx) :
    X ((Rect.unit (s := S32x128) off S1x1.size inb).toLoadRect.idx y) = rAt X j h := by
  subst ho; refine congrArg X (funext fun a => Fin.ext ?_)
  have h0 : (y 0).val = 0 := by have : (y 0).val < 1 := (y 0).isLt; omega
  have h1 : (y 1).val = 0 := by have : (y 1).val < 1 := (y 1).isLt; omega
  fin_cases a <;> simp [ix2, h0, h1, Nat.mod_eq_of_lt hj, Nat.mod_eq_of_lt hh]

/-! ## One trip of the loop as a function of the carried values -/

/-- What the loop carries: per query half the scores of the block that comes next, the running maximum and the running
    sums. -/
structure St (F : FTy → Type) [FloatOps F] where
  (s0 s1 : Vec F S1x1x512x512 .f32)
  (m0 m1 : Vec F S1x512x1 .f32)
  (a0 a1 : Vec F S1x512x256 .f32)

/-- One block folded into one half: the new maximum, -/
def foldM (s : Vec F S1x1x512x512 .f32) (dq dk : Elt F .f32) (m : Vec F S1x512x1 .f32) : Vec F S1x512x1 .f32 :=
  k0_pay12 (k0_pay7 s) dq dk m

/-- and the new sums. -/
def foldA (s : Vec F S1x1x512x512 .f32) (dq dk : Elt F .f32) (m : Vec F S1x512x1 .f32) (v : Vec F S512x256 .bf16)
    (a : Vec F S1x512x256 .f32) : Vec F S1x512x256 .f32 :=
  k0_pay11 (k0_pay7 s) dq dk m v a

/-- Trip `k`: blocks `2 k` and `2 k + 1` folded into both halves, the scores of block `2 k + 2` computed for the next one. -/
def trip (X0 : Vec F S32x128 .f32) (X1 : Vec F S1024x256 .bf16) (X2 : Vec F S32x256x512 .bf16) (V : Vec F S16384x256 .bf16)
    (h qi k : ℕ) (st : St F) : St F where
  s0 := k0_pay5 (qRows X1 0) (ktBlk X2 (2 * k + 2))
  s1 := k0_pay5 (qRows X1 1) (ktBlk X2 (2 * k + 2))
  m0 := foldM (k0_pay5 (qRows X1 0) (ktBlk X2 (2 * k + 1))) (rAt X0 (2 * qi) h) (rAt X0 (2 * k + 1) h)
    (foldM st.s0 (rAt X0 (2 * qi) h) (rAt X0 (2 * k) h) st.m0)
  m1 := foldM (k0_pay5 (qRows X1 1) (ktBlk X2 (2 * k + 1))) (rAt X0 (2 * qi + 1) h) (rAt X0 (2 * k + 1) h)
    (foldM st.s1 (rAt X0 (2 * qi + 1) h) (rAt X0 (2 * k) h) st.m1)
  a0 := foldA (k0_pay5 (qRows X1 0) (ktBlk X2 (2 * k + 1))) (rAt X0 (2 * qi) h) (rAt X0 (2 * k + 1) h)
    (foldM st.s0 (rAt X0 (2 * qi) h) (rAt X0 (2 * k) h) st.m0) (vBlk V (2 * k + 1))
    (foldA st.s0 (rAt X0 (2 * qi) h) (rAt X0 (2 * k) h) st.m0 (vBlk V (2 * k)) st.a0)
  a1 := foldA (k0_pay5 (qRows X1 1) (ktBlk X2 (2 * k + 1))) (rAt X0 (2 * qi + 1) h) (rAt X0 (2 * k + 1) h)
    (foldM st.s1 (rAt X0 (2 * qi + 1) h) (rAt X0 (2 * k) h) st.m1) (vBlk V (2 * k + 1))
    (foldA st.s1 (rAt X0 (2 * qi + 1) h) (rAt X0 (2 * k) h) st.m1 (vBlk V (2 * k)) st.a1)

/-- The carried values after `n` trips from `st`. -/
def stepN (X0 : Vec F S32x128 .f32) (X1 : Vec F S1024x256 .bf16) (X2 : Vec F S32x256x512 .bf16) (V : Vec F S16384x256 .bf16)
    (h qi : ℕ) (st : St F) : ℕ → St F
  | 0 => st
  | n + 1 => trip X0 X1 X2 V h qi n (stepN X0 X1 X2 V h qi st n)

/-! ## The same in the buffers -/

/-- The carried values as the three buffers hold them. -/
def stOf (arg8 : Memref sig .tc .vmem S2x2x512x512 .f32) (arg9 : Memref sig .tc .vmem S2x512x1 .f32) (arg10 : Memref sig .tc .vmem S2x512x256 .f32)
    (f8 : arg8.view.ty.Contents (Elt F)) (f9 : arg9.view.ty.Contents (Elt F)) (f10 : arg10.view.ty.Contents (Elt F)) : St F where
  s0 := View.readAt (Elt F) arg8.view (Rect.unit (s := S2x2x512x512) ![0, 0, 0, 0] S1x1x512x512.size inb_S2x2x512x512_S1x1x512x512_0_0_0_0).toLoadRect f8
  s1 := View.readAt (Elt F) arg8.view (Rect.unit (s := S2x2x512x512) ![0, 1, 0, 0] S1x1x512x512.size inb_S2x2x512x512_S1x1x512x512_0_1_0_0).toLoadRect f8
  m0 := View.readAt (Elt F) arg9.view (Rect.unit (s := S2x512x1) ![0, 0, 0] S1x512x1.size inb_S2x512x1_S1x512x1_0_0_0).toLoadRect f9
  m1 := View.readAt (Elt F) arg9.view (Rect.unit (s := S2x512x1) ![1, 0, 0] S1x512x1.size inb_S2x512x1_S1x512x1_1_0_0).toLoadRect f9
  a0 := View.readAt (Elt F) arg10.view (Rect.unit (s := S2x512x256) ![0, 0, 0] S1x512x256.size inb_S2x512x256_S1x512x256_0_0_0).toLoadRect f10
  a1 := View.readAt (Elt F) arg10.view (Rect.unit (s := S2x512x256) ![1, 0, 0] S1x512x256.size inb_S2x512x256_S1x512x256_1_0_0).toLoadRect f10

set_option maxHeartbeats 4000000
set_option maxRecDepth 16384
variable (c : Dev nD) (i : grid0.Coords) (arg2 : Memref sig .tc .smem S32x128 .f32) (harg2 : arg2.IsWhole) (arg3 : Memref sig .tc .vmem S1024x256 .bf16) (harg3 : arg3.IsWhole) (arg4 : Memref sig .tc .vmem S32x256x512 .bf16) (harg4 : arg4.IsWhole) (arg5 : Memref sig .tc .vmem S16384x128 .bf16) (harg5 : arg5.IsWhole) (arg6 : Memref sig .tc .vmem S1024x128 .bf16) (harg6 : arg6.IsWhole) (arg7 : Memref sig .tc .vmem S16384x256 .bf16) (harg7 : arg7.IsWhole) (arg8 : Memref sig .tc .vmem S2x2x512x512 .f32) (harg8 : arg8.IsWhole) (arg9 : Memref sig .tc .vmem S2x512x1 .f32) (harg9 : arg9.IsWhole) (arg10 : Memref sig .tc .vmem S2x512x256 .f32) (harg10 : arg10.IsWhole)

/-- The loop's invariant: the operands as they were, the three buffers at what the trips so far make of `st`. -/
def inv (f2 : arg2.view.ty.Contents (Elt F)) (f3 : arg3.view.ty.Contents (Elt F)) (f4 : arg4.view.ty.Contents (Elt F)) (f7 : arg7.view.ty.Contents (Elt F)) (st : St F) (k : ℕ) (_ : Unit) : sProp 𝕄 :=
  iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg7.view.loc (c : Thread nD τ) ↦[arg7.view.set]{fullShare} f7)
    ∗ ∃ f8, ∃ f9, ∃ f10, (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10)
      ∗ ⌜stOf arg8 arg9 arg10 f8 f9 f10 = stepN (arg2.view.read (Elt F) f2) (arg3.view.read (Elt F) f3) (arg4.view.read (Elt F) f4) (arg7.view.read (Elt F) f7) (i 0).val (i 1).val st k⌝)

/-- One trip of the loop takes the invariant after `k` trips to the one after `k + 1`. -/
theorem step (arg0 arg1 : BitVec 32) (v11 v12 : IVec S512x512 32) (v23 : FVec F S512x512 .f32) (f2 : arg2.view.ty.Contents (Elt F)) (f3 : arg3.view.ty.Contents (Elt F)) (f4 : arg4.view.ty.Contents (Elt F)) (f7 : arg7.view.ty.Contents (Elt F)) (st : St F)
    (k : Fin (k0_t1_loop i).trips) (acc : Unit) :
    inv (F := F) c i arg2 arg3 arg4 arg7 arg8 arg9 arg10 f2 f3 f4 f7 st k acc
     ⊢ wp frame (wpE (defs₀ (F := F)) Variants.none c none) Set.univ (k0_t1_body i arg2 harg2 arg3 harg3 arg4 harg4 arg5 harg5 arg6 harg6 arg7 harg7 arg8 harg8 arg9 harg9 arg10 harg10 arg0 arg1 v11 v12 v23 k acc)
        (inv c i arg2 arg3 arg4 arg7 arg8 arg9 arg10 f2 f3 f4 f7 st (k.val + 1)) := by
  unfold k0_t1_body inv
  simp only [k0_part1_eq_skeleton, k0_part2_eq_skeleton, k0_part3_eq_skeleton, k0_part4_eq_skeleton, k0_part5_eq_skeleton, k0_part6_eq_skeleton]
  iintro ⟨H0, H1, H2, HS0, ⟨%f8, %f9, %f10, H8, H9, H10, %hst⟩⟩
  sl_exec
  sl_step
  isplitl [H0]; · iexact H0
  isplitl [H1]; · iexact H1
  isplitl [H2]; · iexact H2
  isplitl [HS0]; · iexact HS0
  iexists _, _, _
  isplitl [H8]; · iexact H8
  isplitl [H9]; · iexact H9
  isplitl [H10]; · iexact H10
  ipureintro
  have hk : k.val < 15 := Nat.lt_of_lt_of_le k.isLt (k0_t1_abs i).2.1
  have hh : (i 0).val < 16 := (i 0).isLt
  have hq : (i 1).val < 16 := (i 1).isLt
  have eq0 : View.readAt (Elt F) arg3.view (Rect.unit (s := S1024x256) ![0, 0] S512x256.size inb_S1024x256_S512x256_0_0).toLoadRect f3 = qRows (arg3.view.read (Elt F) f3) 0 :=
    qRows_eq (arg3.view.read (Elt F) f3) 0 ![0, 0] rfl inb_S1024x256_S512x256_0_0
  have eq1 : View.readAt (Elt F) arg3.view (Rect.unit (s := S1024x256) ![512, 0] S512x256.size inb_S1024x256_S512x256_512_0).toLoadRect f3 = qRows (arg3.view.read (Elt F) f3) 1 :=
    qRows_eq (arg3.view.read (Elt F) f3) 1 ![512, 0] rfl inb_S1024x256_S512x256_512_0
  have ek0 : View.readAt (Elt F) arg4.view (Rect.unit (s := S32x256x512) (k0_off1 i k 0#32) S1x256x512.size (k0_off1_inb i k 0)).toLoadRect f4 = ktBlk (arg4.view.read (Elt F) f4) (2 * k.val + 1) :=
    ktBlk_eq (arg4.view.read (Elt F) f4) (2 * k.val + 1) (by omega) _ (k0_off1_eq i k 0) (k0_off1_inb i k 0)
  have ek1 : View.readAt (Elt F) arg4.view (Rect.unit (s := S32x256x512) (k0_off1 i k 1#32) S1x256x512.size (k0_off1_inb i k 1)).toLoadRect f4 = ktBlk (arg4.view.read (Elt F) f4) (2 * k.val + 2) :=
    ktBlk_eq (arg4.view.read (Elt F) f4) (2 * k.val + 2) (by omega) _ (k0_off1_eq i k 1) (k0_off1_inb i k 1)
  have er0 : ∀ y, View.readAt (Elt F) arg2.view (Rect.unit (s := S32x128) (k0_off2 i 0#32) S1x1.size (k0_off2_inb i 0)).toLoadRect f2 y = rAt (arg2.view.read (Elt F) f2) (2 * (i 1).val) (i 0).val :=
    rAt_eq (arg2.view.read (Elt F) f2) (2 * (i 1).val) (i 0).val (by omega) (by omega) _ (k0_off2_eq i 0) (k0_off2_inb i 0)
  have er1 : ∀ y, View.readAt (Elt F) arg2.view (Rect.unit (s := S32x128) (k0_off2 i 1#32) S1x1.size (k0_off2_inb i 1)).toLoadRect f2 y = rAt (arg2.view.read (Elt F) f2) (2 * (i 1).val + 1) (i 0).val :=
    rAt_eq (arg2.view.read (Elt F) f2) (2 * (i 1).val + 1) (i 0).val (by omega) (by omega) _ (k0_off2_eq i 1) (k0_off2_inb i 1)
  have es0 : ∀ y, View.readAt (Elt F) arg2.view (Rect.unit (s := S32x128) (k0_off3 i k 0#32) S1x1.size (k0_off3_inb i k 0)).toLoadRect f2 y = rAt (arg2.view.read (Elt F) f2) (2 * k.val) (i 0).val :=
    rAt_eq (arg2.view.read (Elt F) f2) (2 * k.val) (i 0).val (by omega) (by omega) _ (k0_off3_eq i k 0) (k0_off3_inb i k 0)
  have es1 : ∀ y, View.readAt (Elt F) arg2.view (Rect.unit (s := S32x128) (k0_off3 i k 1#32) S1x1.size (k0_off3_inb i k 1)).toLoadRect f2 y = rAt (arg2.view.read (Elt F) f2) (2 * k.val + 1) (i 0).val :=
    rAt_eq (arg2.view.read (Elt F) f2) (2 * k.val + 1) (i 0).val (by omega) (by omega) _ (k0_off3_eq i k 1) (k0_off3_inb i k 1)
  have ev0 : View.readAt (Elt F) arg7.view (Rect.unit (s := S16384x256) (k0_off4 i k 0#32) S512x256.size (k0_off4_inb i k 0)).toLoadRect f7 = vBlk (arg7.view.read (Elt F) f7) (2 * k.val) :=
    vBlk_eq (arg7.view.read (Elt F) f7) (2 * k.val) (by omega) _ ((k0_off4_eq i k 0).trans (by simp; omega)) (k0_off4_inb i k 0)
  have ev1 : View.readAt (Elt F) arg7.view (Rect.unit (s := S16384x256) (k0_off4 i k 1#32) S512x256.size (k0_off4_inb i k 1)).toLoadRect f7 = vBlk (arg7.view.read (Elt F) f7) (2 * k.val + 1) :=
    vBlk_eq (arg7.view.read (Elt F) f7) (2 * k.val + 1) (by omega) _ ((k0_off4_eq i k 1).trans (by simp; omega)) (k0_off4_inb i k 1)
  show _ = trip _ _ _ _ _ _ _ _
  rw [← hst]
  delta step.sl.H8_4 step.sl.H10_3 step.sl.H9_3 step.sl.r_7 step.sl.v396 step.sl.v376 step.sl.v365 step.sl.r_6 step.sl.r_3 step.sl.H10_2 step.sl.H9_2 step.sl.v353 step.sl.v333 step.sl.r step.sl.r_1 step.sl.r_2 step.sl.r_4 step.sl.r_5 step.sl.v322 step.sl.v216 step.sl.v259 step.sl.v270 step.sl.v290
  unfold stOf trip foldM foldA
  simp (disch := decide) only [readAt_hit, readCov_hit, readAt_miss, readCov_miss, eq0, eq1, ek0, ek1, er0, er1, es0, es1, ev0, ev1]
  rfl

/-- The loop makes as many trips as the number of the block of queries. -/
theorem trips_eq : (k0_t1_loop i).trips = (i 1).val := by
  have h : (i 1).val < 16 := (i 1).isLt
  unfold k0_t1_loop
  generalize (i 1).val = n at *
  interval_cases n <;> rfl

/-- The whole loop, from the carried values `st`. -/
theorem loop_bind (arg0 arg1 : BitVec 32) (v11 v12 : IVec S512x512 32) (v23 : FVec F S512x512 .f32) (f2 : arg2.view.ty.Contents (Elt F)) (f3 : arg3.view.ty.Contents (Elt F)) (f4 : arg4.view.ty.Contents (Elt F)) (f7 : arg7.view.ty.Contents (Elt F)) (st : St F)
    {β : Type} {kk : PUnit → Prog (TpuEff nD τ sig (Elt F) Λ₀ .tc) β} {Q : β → sProp 𝕄} :
    inv (F := F) c i arg2 arg3 arg4 arg7 arg8 arg9 arg10 f2 f3 f4 f7 st 0 ⟨⟩
      ⊢ iprop((∀ acc, inv (F := F) c i arg2 arg3 arg4 arg7 arg8 arg9 arg10 f2 f3 f4 f7 st (i 1).val acc -∗ wp frame (wpE (defs₀ (F := F)) Variants.none c none) Set.univ (kk acc) Q)
        -∗ wp frame (wpE (defs₀ (F := F)) Variants.none c none) Set.univ
          (Scf.Loop.for (k0_t1_loop i) (k0_t1_ok i) ⟨⟩ (k0_t1_body i arg2 harg2 arg3 harg3 arg4 harg4 arg5 harg5 arg6 harg6 arg7 harg7 arg8 harg8 arg9 harg9 arg10 harg10 arg0 arg1 v11 v12 v23) >>= kk) Q) := by
  have h := Scf.wp_for_bind (M := 𝕄) frame (wpE (defs₀ (F := F)) Variants.none c none) Set.univ _ _ _ (k0_t1_ok i) ⟨⟩
    (k0_t1_body i arg2 harg2 arg3 harg3 arg4 harg4 arg5 harg5 arg6 harg6 arg7 harg7 arg8 harg8 arg9 harg9 arg10 harg10 arg0 arg1 v11 v12 v23) (inv (F := F) c i arg2 arg3 arg4 arg7 arg8 arg9 arg10 f2 f3 f4 f7 st)
    (step c i arg2 harg2 arg3 harg3 arg4 harg4 arg5 harg5 arg6 harg6 arg7 harg7 arg8 harg8 arg9 harg9 arg10 harg10 arg0 arg1 v11 v12 v23 f2 f3 f4 f7 st) (kk := kk) (Q := Q)
  rw [← trips_eq i]
  exact h

/-! ## One grid point -/

/-- The point at which a head begins: it fills the value buffer. -/
def starts (i : grid0.Coords) : Prop := Scalar.cmpi .ne (Scalar.extui (Scalar.cmpi .eq (BitVec.ofNat 32 (i 1).val) 0#32) : BitVec 32) 0#32 = 1#1

/-- A head begins at every sixteenth point. -/
theorem starts_iff : ∀ t : Fin cfg0.N, starts (grid0.coords t) ↔ t.val % 16 = 0 :=
  (fun t => by
    have ht : t.val < 256 := Nat.lt_of_lt_of_eq t.isLt N_0
    have e0 : (grid0.coords t 1).val = t.val / 1 % 16 := Pipeline.Grid.coords_val t 1 (by decide) rfl
    simp only [starts, e0]
    word_cmp
   : ∀ t : Fin grid0.N, starts (grid0.coords t) ↔ t.val % 16 = 0)

/-- The value buffer of a head: its 128 value columns, then the columns that count (one in the first, zero elsewhere). -/
def vFill (X3 : Vec F S16384x128 .bf16) : Vec F S16384x256 .bf16 := fun y =>
  if h : (y 1).val < 128 then (k0_pay59 X3 : Vec F S16384x128 .bf16) (ix2 (y 0) (⟨(y 1).val, h⟩ : Fin 128))
  else (k0_pay60 : Vec F S16384x128 .bf16) (ix2 (y 0) (⟨(y 1).val - 128, by have : (y 1).val < 256 := (y 1).isLt; omega⟩ : Fin 128))

/-- The carried values before the first trip: the scores of block 0, the maxima at minus infinity, the sums at zero. -/
def st0 (X1 : Vec F S1024x256 .bf16) (X2 : Vec F S32x256x512 .bf16) : St F where
  s0 := k0_pay5 (qRows X1 0) (ktBlk X2 0)
  s1 := k0_pay5 (qRows X1 1) (ktBlk X2 0)
  m0 := fun _ => Scalar.ofBits .f32 0xFF800000#32
  m1 := fun _ => Scalar.ofBits .f32 0xFF800000#32
  a0 := fun _ => Scalar.ofBits .f32 0x00000000#32
  a1 := fun _ => Scalar.ofBits .f32 0x00000000#32

/-- The block on the diagonal folded into the sums: the scores masked first. -/
def foldAd (s : Vec F S1x1x512x512 .f32) (dq dk : Elt F .f32) (m : Vec F S1x512x1 .f32) (v : Vec F S512x256 .bf16)
    (a : Vec F S1x512x256 .f32) : Vec F S1x512x256 .f32 :=
  k0_pay11 (k0_pay69 (iota .tc S512x512 32 [0] iota_S512x512_d0_w32) (iota .tc S512x512 32 [1] iota_S512x512_d1_w32) s) dq dk m v a

/-- The sums of the two halves at the end, from the carried values `st` after the loop. -/
def end0 (X0 : Vec F S32x128 .f32) (V : Vec F S16384x256 .bf16) (h qi : ℕ) (st : St F) : Vec F S1x512x256 .f32 :=
  foldAd st.s0 (rAt X0 (2 * qi) h) (rAt X0 (2 * qi) h) st.m0 (vBlk V (2 * qi)) st.a0
/-- The same for the second half, which first folds in one whole block more. -/
def end1 (X0 : Vec F S32x128 .f32) (X1 : Vec F S1024x256 .bf16) (X2 : Vec F S32x256x512 .bf16) (V : Vec F S16384x256 .bf16)
    (h qi : ℕ) (st : St F) : Vec F S1x512x256 .f32 :=
  foldAd (k0_pay5 (qRows X1 1) (ktBlk X2 (2 * qi + 1))) (rAt X0 (2 * qi + 1) h) (rAt X0 (2 * qi + 1) h)
    (foldM st.s1 (rAt X0 (2 * qi + 1) h) (rAt X0 (2 * qi) h) st.m1) (vBlk V (2 * qi + 1))
    (foldA st.s1 (rAt X0 (2 * qi + 1) h) (rAt X0 (2 * qi) h) st.m1 (vBlk V (2 * qi)) st.a1)

/-- What a point leaves in the output block. -/
def outF (X0 : Vec F S32x128 .f32) (X1 : Vec F S1024x256 .bf16) (X2 : Vec F S32x256x512 .bf16) (V : Vec F S16384x256 .bf16)
    (h qi : ℕ) : Vec F S1024x128 .bf16 := fun y =>
  if hy : (y 0).val < 512 then
    (k0_pay3 (end0 X0 V h qi (stepN X0 X1 X2 V h qi (st0 X1 X2) qi)) : Vec F S512x128 .bf16) (ix2 (⟨(y 0).val, hy⟩ : Fin 512) (y 1))
  else (k0_pay3 (end1 X0 X1 X2 V h qi (stepN X0 X1 X2 V h qi (st0 X1 X2) qi)) : Vec F S512x128 .bf16)
    (ix2 (⟨(y 0).val - 512, by have : (y 0).val < 1024 := (y 0).isLt; omega⟩ : Fin 512) (y 1))

/-! ## What the loads outside the loop read -/

section loads
variable {sp : Space} {s : Shape} {e : EltTy} {κ : Kind}

/-- A load of a buffer filled with one value. -/
theorem readAt_const (v : View sig κ sp s e) (f : v.ty.Contents (Elt F)) (r r' : Rect s) (w : r'.shape.Idx → Elt F e)
    (L : List (View.Piece (Elt F) s e)) (d : Elt F e) (hw : w = fun _ => d)
    (h : ∀ a, r'.off a = 0 ∧ r'.stride a = 1 ∧ r'.size a = s.size a) :
    View.readAt (Elt F) v r.toLoadRect (v.writes (Elt F) f (⟨r', w⟩ :: L)) = fun _ => d := by
  funext x
  refine (View.read_writes_cons_hit v f r' w L (fun a => ⟨(r.toLoadRect.idx x a).val, by
    rw [show r'.shape.size a = s.size a from (h a).2.2]; exact (r.toLoadRect.idx x a).isLt⟩) (r.toLoadRect.idx x) ?_).trans (by rw [hw])
  funext a
  refine Fin.ext ?_
  show r'.off a + r'.stride a * (r.toLoadRect.idx x a).val = _
  rw [(h a).1, (h a).2.1]; omega

/-- The output block as its two stores leave it. -/
theorem read_rows (v : View sig κ sp S1024x128 e) (f : v.ty.Contents (Elt F)) (inb1 inb0)
    (w1 w0 : S512x128.Idx → Elt F e) :
    v.read (Elt F) (v.writes (Elt F) f [⟨Rect.unit (s := S1024x128) ![512, 0] ![512, 128] inb1, w1⟩, ⟨Rect.unit (s := S1024x128) ![0, 0] ![512, 128] inb0, w0⟩])
      = fun y => if hy : (y 0).val < 512 then w0 (ix2 (⟨(y 0).val, hy⟩ : Fin 512) (y 1))
          else w1 (ix2 (⟨(y 0).val - 512, by have : (y 0).val < 1024 := (y 0).isLt; omega⟩ : Fin 512) (y 1)) := by
  funext y
  have h1024 : (y 0).val < 1024 := (y 0).isLt
  split
  · rename_i hy
    rw [View.read_writes_cons_miss_of_axis v f ⟨Rect.unit (s := S1024x128) ![512, 0] ![512, 128] inb1, w1⟩ _ y 0 512 512 rfl rfl rfl (Or.inl hy)]
    refine View.read_writes_cons_hit v f (Rect.unit (s := S1024x128) ![0, 0] ![512, 128] inb0) w0 [] (ix2 (⟨(y 0).val, hy⟩ : Fin 512) (y 1)) y ?_
    funext a; refine Fin.ext ?_; match a with
      | 0 => show 0 + 1 * ((y 0).val) = (y 0).val; omega
      | 1 => show 0 + 1 * ((y 1).val) = (y 1).val; omega
  · rename_i hy
    refine View.read_writes_cons_hit v f (Rect.unit (s := S1024x128) ![512, 0] ![512, 128] inb1) w1 _ (ix2 (⟨(y 0).val - 512, by omega⟩ : Fin 512) (y 1)) y ?_
    funext a; refine Fin.ext ?_; match a with
      | 0 => show 512 + 1 * ((y 0).val - 512) = (y 0).val; omega
      | 1 => show 0 + 1 * ((y 1).val) = (y 1).val; omega

/-- The value buffer as its two stores leave it. -/
theorem read_cols (v : View sig κ sp S16384x256 e) (f : v.ty.Contents (Elt F)) (inb1 inb0)
    (w1 w0 : S16384x128.Idx → Elt F e) :
    v.read (Elt F) (v.writes (Elt F) f [⟨Rect.unit (s := S16384x256) ![0, 128] S16384x128.size inb1, w1⟩, ⟨Rect.unit (s := S16384x256) ![0, 0] S16384x128.size inb0, w0⟩])
      = fun y => if hy : (y 1).val < 128 then w0 (ix2 (y 0) (⟨(y 1).val, hy⟩ : Fin 128))
          else w1 (ix2 (y 0) (⟨(y 1).val - 128, by have : (y 1).val < 256 := (y 1).isLt; omega⟩ : Fin 128)) := by
  funext y
  have h256 : (y 1).val < 256 := (y 1).isLt
  split
  · rename_i hy
    rw [View.read_writes_cons_miss_of_axis v f ⟨Rect.unit (s := S16384x256) ![0, 128] S16384x128.size inb1, w1⟩ _ y 1 128 128 rfl rfl rfl (Or.inl hy)]
    refine View.read_writes_cons_hit v f (Rect.unit (s := S16384x256) ![0, 0] S16384x128.size inb0) w0 [] (ix2 (y 0) (⟨(y 1).val, hy⟩ : Fin 128)) y ?_
    funext a; refine Fin.ext ?_; match a with
      | 0 => show 0 + 1 * ((y 0).val) = (y 0).val; omega
      | 1 => show 0 + 1 * ((y 1).val) = (y 1).val; omega
  · rename_i hy
    refine View.read_writes_cons_hit v f (Rect.unit (s := S16384x256) ![0, 128] S16384x128.size inb1) w1 _ (ix2 (y 0) (⟨(y 1).val - 128, by omega⟩ : Fin 128)) y ?_
    funext a; refine Fin.ext ?_; match a with
      | 0 => show 0 + 1 * ((y 0).val) = (y 0).val; omega
      | 1 => show 128 + 1 * ((y 1).val - 128) = (y 1).val; omega

end loads

/-- After the two stores that fill it, the value buffer holds `vFill` of the value block. -/
theorem read_fill (f5 : arg5.view.ty.Contents (Elt F)) (f7 : arg7.view.ty.Contents (Elt F)) (inb1 inb0) :
    arg7.view.read (Elt F) (arg7.view.writes (Elt F) f7 [⟨Rect.unit (s := S16384x256) ![0, 128] S16384x128.size inb1, (k0_pay60 : Vec F S16384x128 .bf16)⟩,
      ⟨Rect.unit (s := S16384x256) ![0, 0] S16384x128.size inb0, (k0_pay59 (View.readAt (Elt F) arg5.view
        (Rect.unit (s := S16384x128) ![0, 0] S16384x128.size inb_S16384x128_S16384x128_0_0).toLoadRect f5) : Vec F S16384x128 .bf16)⟩])
      = vFill (arg5.view.read (Elt F) f5) := by
  have hw : View.readAt (Elt F) arg5.view (Rect.unit (s := S16384x128) ![0, 0] S16384x128.size inb_S16384x128_S16384x128_0_0).toLoadRect f5
      = arg5.view.read (Elt F) f5 := by
    funext y
    refine congrArg (arg5.view.read (Elt F) f5) (funext fun a => Fin.ext ?_)
    match a with
    | 0 => show 0 + 1 * (y 0).val = (y 0).val; omega
    | 1 => show 0 + 1 * (y 1).val = (y 1).val; omega
  rw [read_cols, hw]; rfl

/-- What the loads after the loop read: the first half of the queries, -/
theorem read_q0 (f3 : arg3.view.ty.Contents (Elt F)) :
    View.readAt (Elt F) arg3.view (Rect.unit (s := S1024x256) ![0, 0] S512x256.size inb_S1024x256_S512x256_0_0).toLoadRect f3 = qRows (arg3.view.read (Elt F) f3) 0 :=
  qRows_eq (arg3.view.read (Elt F) f3) 0 ![0, 0] rfl inb_S1024x256_S512x256_0_0

/-- the second half of the queries, -/
theorem read_q1 (f3 : arg3.view.ty.Contents (Elt F)) :
    View.readAt (Elt F) arg3.view (Rect.unit (s := S1024x256) ![512, 0] S512x256.size inb_S1024x256_S512x256_512_0).toLoadRect f3 = qRows (arg3.view.read (Elt F) f3) 1 :=
  qRows_eq (arg3.view.read (Elt F) f3) 1 ![512, 0] rfl inb_S1024x256_S512x256_512_0

/-- the first block of keys, -/
theorem read_k0 (f4 : arg4.view.ty.Contents (Elt F)) :
    View.readAt (Elt F) arg4.view (Rect.unit (s := S32x256x512) ![0, 0, 0] S1x256x512.size inb_S32x256x512_S1x256x512_0_0_0).toLoadRect f4 = ktBlk (arg4.view.read (Elt F) f4) 0 :=
  ktBlk_eq (arg4.view.read (Elt F) f4) 0 (by omega) ![0, 0, 0] rfl inb_S32x256x512_S1x256x512_0_0_0

/-- the last block of keys, -/
theorem read_k9 (f4 : arg4.view.ty.Contents (Elt F)) :
    View.readAt (Elt F) arg4.view (Rect.unit (s := S32x256x512) (k0_off9 i) S1x256x512.size (k0_off9_inb i)).toLoadRect f4 = ktBlk (arg4.view.read (Elt F) f4) (2 * (i 1).val + 1) :=
  ktBlk_eq (arg4.view.read (Elt F) f4) (2 * (i 1).val + 1) (by have : (i 1).val < 16 := (i 1).isLt; omega) _ (k0_off9_eq i) (k0_off9_inb i)

/-- the bases of the two halves' blocks, -/
theorem read_r10 (f2 : arg2.view.ty.Contents (Elt F)) (y) :
    View.readAt (Elt F) arg2.view (Rect.unit (s := S32x128) (k0_off10 i 0#32) S1x1.size (k0_off10_inb i 0)).toLoadRect f2 y = rAt (arg2.view.read (Elt F) f2) (2 * (i 1).val) (i 0).val :=
  rAt_eq (arg2.view.read (Elt F) f2) (2 * (i 1).val) (i 0).val (by have : (i 1).val < 16 := (i 1).isLt; omega) (by have : (i 0).val < 16 := (i 0).isLt; omega) _ (k0_off10_eq i 0) (k0_off10_inb i 0) y

/-- (the second of these) -/
theorem read_r10' (f2 : arg2.view.ty.Contents (Elt F)) (y) :
    View.readAt (Elt F) arg2.view (Rect.unit (s := S32x128) (k0_off10 i 1#32) S1x1.size (k0_off10_inb i 1)).toLoadRect f2 y = rAt (arg2.view.read (Elt F) f2) (2 * (i 1).val + 1) (i 0).val :=
  rAt_eq (arg2.view.read (Elt F) f2) (2 * (i 1).val + 1) (i 0).val (by have : (i 1).val < 16 := (i 1).isLt; omega) (by have : (i 0).val < 16 := (i 0).isLt; omega) _ (k0_off10_eq i 1) (k0_off10_inb i 1) y

/-- the base of the block before the last, -/
theorem read_r11 (f2 : arg2.view.ty.Contents (Elt F)) (y) :
    View.readAt (Elt F) arg2.view (Rect.unit (s := S32x128) (k0_off11 i) S1x1.size (k0_off11_inb i)).toLoadRect f2 y = rAt (arg2.view.read (Elt F) f2) (2 * (i 1).val) (i 0).val :=
  rAt_eq (arg2.view.read (Elt F) f2) (2 * (i 1).val) (i 0).val (by have : (i 1).val < 16 := (i 1).isLt; omega) (by have : (i 0).val < 16 := (i 0).isLt; omega) _ (k0_off11_eq i) (k0_off11_inb i) y

/-- the values of the block before the last, -/
theorem read_v12 (f7 : arg7.view.ty.Contents (Elt F)) :
    View.readAt (Elt F) arg7.view (Rect.unit (s := S16384x256) (k0_off12 i) S512x256.size (k0_off12_inb i)).toLoadRect f7 = vBlk (arg7.view.read (Elt F) f7) (2 * (i 1).val) :=
  vBlk_eq (arg7.view.read (Elt F) f7) (2 * (i 1).val) (by have : (i 1).val < 16 := (i 1).isLt; omega) _ ((k0_off12_eq i).trans (by simp; omega)) (k0_off12_inb i)

/-- and those of the last block. -/
theorem read_v13 (f7 : arg7.view.ty.Contents (Elt F)) :
    View.readAt (Elt F) arg7.view (Rect.unit (s := S16384x256) (k0_off13 i) S512x256.size (k0_off13_inb i)).toLoadRect f7 = vBlk (arg7.view.read (Elt F) f7) (2 * (i 1).val + 1) :=
  vBlk_eq (arg7.view.read (Elt F) f7) (2 * (i 1).val + 1) (by have : (i 1).val < 16 := (i 1).isLt; omega) _ ((k0_off13_eq i).trans (by simp; omega)) (k0_off13_inb i)

/-- The body at a point where a head begins: it fills the value buffer and leaves `outF` of the blocks in the output block. -/
theorem runA (hc0 : starts i)
    (X0 : Vec F S32x128 .f32) (X1 : Vec F S1024x256 .bf16) (X2 : Vec F S32x256x512 .bf16) (X3 : Vec F S16384x128 .bf16)
    (K : PUnit → sProp 𝕄) :
    iprop(owns (c : Thread nD τ) arg2 fullShare X0 ∗ owns (c : Thread nD τ) arg3 fullShare X1 ∗ owns (c : Thread nD τ) arg4 fullShare X2 ∗ owns (c : Thread nD τ) arg5 fullShare X3
        ∗ (∃ d, owns (c : Thread nD τ) arg6 fullShare d) ∗ (∃ d, owns (c : Thread nD τ) arg7 fullShare d)
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare X0 ∗ owns (c : Thread nD τ) arg3 fullShare X1 ∗ owns (c : Thread nD τ) arg4 fullShare X2 ∗ owns (c : Thread nD τ) arg5 fullShare X3
          ∗ owns (c : Thread nD τ) arg6 fullShare (outF X0 X1 X2 (vFill X3) (i 0).val (i 1).val) ∗ owns (c : Thread nD τ) arg7 fullShare (vFill X3)
          ∗ (∃ d, owns (c : Thread nD τ) arg8 fullShare d) ∗ (∃ d, owns (c : Thread nD τ) arg9 fullShare d) ∗ (∃ d, owns (c : Thread nD τ) arg10 fullShare d)) -∗ K ⟨⟩))
      ⊢ wp frame (wpE (defs₀ (F := F)) Variants.none c none) Set.univ (cc0_fox_attn i arg2 harg2 arg3 harg3 arg4 harg4 arg5 harg5 arg6 harg6 arg7 harg7 arg8 harg8 arg9 harg9 arg10 harg10) K := by
  have htr : (k0_t2_loop i).trips = 0 := Nat.le_zero.1 (k0_t2_abs i).2.1
  simp only [cc0_fox_attn_eq_skeleton]; unfold cc0_fox_attn_skel
  simp only [k0_part13_eq_skeleton, k0_part14_eq_skeleton, k0_part15_eq_skeleton, k0_part16_eq_skeleton, k0_part17_eq_skeleton]
  unfold owns
  iintro ⟨⟨%f2, %hf2, H0⟩, ⟨%f3, %hf3, H1⟩, ⟨%f4, %hf4, H2⟩, ⟨%f5, %hf5, H3⟩, ⟨%d6, %f6, -, H4⟩, ⟨%d7, %f7, -, HS0⟩, ⟨%d8, %f8, -, H8⟩, ⟨%d9, %f9, -, H9⟩, ⟨%d10, %f10, -, H10⟩, Hk⟩
  subst hf2 hf3 hf4 hf5
  sl_exec (disch := first | sl_exact hc0)
  iapply (loop_bind c i arg2 harg2 arg3 harg3 arg4 harg4 arg5 harg5 arg6 harg6 arg7 harg7 arg8 harg8 arg9 harg9 arg10 harg10 _ _ _ _ _ f2 f3 f4 _ (st0 (arg3.view.read (Elt F) f3) (arg4.view.read (Elt F) f4))) $$ [H0 H1 H2 HS0 H8 H9 H10]
  · unfold inv
    isplitl [H0]; · iexact H0
    isplitl [H1]; · iexact H1
    isplitl [H2]; · iexact H2
    isplitl [HS0]; · iexact HS0
    iexists _, _, _
    isplitl [H8]; · iexact H8
    isplitl [H9]; · iexact H9
    isplitl [H10]; · iexact H10
    ipureintro
    show _ = st0 _ _
    delta runA.sl.r runA.sl.H9_1 runA.sl.H10_1
    unfold stOf st0
    congr 1
    · rw [readAt_miss _ _ _ _ _ _ (by decide), readAt_hit, read_q0, read_k0]; rfl
    · rw [readAt_hit, read_q1, read_k0]; rfl
    · exact readAt_const _ _ _ _ _ _ _ rfl (by decide)
    · exact readAt_const _ _ _ _ _ _ _ rfl (by decide)
    · exact readAt_const _ _ _ _ _ _ _ rfl (by decide)
    · exact readAt_const _ _ _ _ _ _ _ rfl (by decide)
  iintro %acc HI
  unfold inv
  icases HI with ⟨H0, H1, H2, HS0, ⟨%g8, %g9, %g10, H8, H9, H10, %hst⟩⟩
  sl_exec
  sl_step
  have hv : arg7.view.read (Elt F) (arg7.view.writes (Elt F) arg7.view.junk (runA.sl.HS0_2 c arg5 f5)) = vFill (arg5.view.read (Elt F) f5) := read_fill arg5 arg7 f5 _ _ _
  iapply Hk
  isplitl [H0]; · iexists _; isplitr; swap; (iexact H0); ipureintro; rfl
  isplitl [H1]; · iexists _; isplitr; swap; (iexact H1); ipureintro; rfl
  isplitl [H2]; · iexists _; isplitr; swap; (iexact H2); ipureintro; rfl
  isplitl [H3]; · iexists _; isplitr; swap; (iexact H3); ipureintro; rfl
  isplitl [H4]
  · iexists _; isplitr; swap; (iexact H4)
    ipureintro
    rw [read_rows]
    delta runA.sl.v186 runA.sl.v178 runA.sl.H10_3 runA.sl.r_7 runA.sl.r_6 runA.sl.v167 runA.sl.v147 runA.sl.H9_2 runA.sl.H10_2 runA.sl.v133 runA.sl.H8_1 runA.sl.r_4 runA.sl.r_5 runA.sl.r_3 runA.sl.r_2 runA.sl.r_1 runA.sl.v120 runA.sl.v100 runA.sl.v89 runA.sl.v43 runA.sl.v42 runA.sl.v31 runA.sl.v30 runA.sl.v29 runA.sl.v27 runA.sl.v12 runA.sl.v11
    unfold outF
    rw [← hv]; rw [← hst]
    unfold end0 end1 foldAd foldM foldA stOf
    have eq1 := read_q1 arg3 f3
    have ek9 := read_k9 i arg4 f4
    have er0 := read_r10 i arg2 f2
    have er1 := read_r10' i arg2 f2
    have er2 := read_r11 i arg2 f2
    have ev0 := read_v12 i arg7 (arg7.view.writes (Elt F) arg7.view.junk (runA.sl.HS0_2 c arg5 f5))
    have ev1 := read_v13 i arg7 (arg7.view.writes (Elt F) arg7.view.junk (runA.sl.HS0_2 c arg5 f5))
    simp (disch := decide) only [readCov_hit, readCov_miss, eq1, ek9, er0, er1, er2, ev0, ev1]
    rfl
  isplitl [HS0]
  · iexists _; isplitr; swap; (iexact HS0)
    ipureintro; exact hv
  isplitl [H8]; · iexists _, _; isplitr; swap; (iexact H8); ipureintro; rfl
  isplitl [H9]; · iexists _, _; isplitr; swap; (iexact H9); ipureintro; rfl
  iexists _, _; isplitr; swap; (iexact H10)
  ipureintro; rfl

/-- The body at any other point: the value buffer stays as it was, and the output block gets `outF` of it. -/
theorem runB (hc0 : ¬ starts i)
    (X0 : Vec F S32x128 .f32) (X1 : Vec F S1024x256 .bf16) (X2 : Vec F S32x256x512 .bf16) (X3 : Vec F S16384x128 .bf16) (V : Vec F S16384x256 .bf16)
    (K : PUnit → sProp 𝕄) :
    iprop(owns (c : Thread nD τ) arg2 fullShare X0 ∗ owns (c : Thread nD τ) arg3 fullShare X1 ∗ owns (c : Thread nD τ) arg4 fullShare X2 ∗ owns (c : Thread nD τ) arg5 fullShare X3
        ∗ (∃ d, owns (c : Thread nD τ) arg6 fullShare d) ∗ owns (c : Thread nD τ) arg7 fullShare V
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare X0 ∗ owns (c : Thread nD τ) arg3 fullShare X1 ∗ owns (c : Thread nD τ) arg4 fullShare X2 ∗ owns (c : Thread nD τ) arg5 fullShare X3
          ∗ owns (c : Thread nD τ) arg6 fullShare (outF X0 X1 X2 V (i 0).val (i 1).val) ∗ owns (c : Thread nD τ) arg7 fullShare V
          ∗ (∃ d, owns (c : Thread nD τ) arg8 fullShare d) ∗ (∃ d, owns (c : Thread nD τ) arg9 fullShare d) ∗ (∃ d, owns (c : Thread nD τ) arg10 fullShare d)) -∗ K ⟨⟩))
      ⊢ wp frame (wpE (defs₀ (F := F)) Variants.none c none) Set.univ (cc0_fox_attn i arg2 harg2 arg3 harg3 arg4 harg4 arg5 harg5 arg6 harg6 arg7 harg7 arg8 harg8 arg9 harg9 arg10 harg10) K := by
  have htr : (k0_t2_loop i).trips = 0 := Nat.le_zero.1 (k0_t2_abs i).2.1
  simp only [cc0_fox_attn_eq_skeleton]; unfold cc0_fox_attn_skel
  simp only [k0_part13_eq_skeleton, k0_part14_eq_skeleton, k0_part15_eq_skeleton, k0_part16_eq_skeleton, k0_part17_eq_skeleton]
  unfold owns
  iintro ⟨⟨%f2, %hf2, H0⟩, ⟨%f3, %hf3, H1⟩, ⟨%f4, %hf4, H2⟩, ⟨%f5, %hf5, H3⟩, ⟨%d6, %f6, -, H4⟩, ⟨%f7, %hf7, HS0⟩, ⟨%d8, %f8, -, H8⟩, ⟨%d9, %f9, -, H9⟩, ⟨%d10, %f10, -, H10⟩, Hk⟩
  subst hf2 hf3 hf4 hf5 hf7
  sl_exec (disch := first | sl_exact hc0)
  iapply (loop_bind c i arg2 harg2 arg3 harg3 arg4 harg4 arg5 harg5 arg6 harg6 arg7 harg7 arg8 harg8 arg9 harg9 arg10 harg10 _ _ _ _ _ f2 f3 f4 _ (st0 (arg3.view.read (Elt F) f3) (arg4.view.read (Elt F) f4))) $$ [H0 H1 H2 HS0 H8 H9 H10]
  · unfold inv
    isplitl [H0]; · iexact H0
    isplitl [H1]; · iexact H1
    isplitl [H2]; · iexact H2
    isplitl [HS0]; · iexact HS0
    iexists _, _, _
    isplitl [H8]; · iexact H8
    isplitl [H9]; · iexact H9
    isplitl [H10]; · iexact H10
    ipureintro
    show _ = st0 _ _
    delta runB.sl.r runB.sl.H9_1 runB.sl.H10_1
    unfold stOf st0
    congr 1
    · rw [readAt_miss _ _ _ _ _ _ (by decide), readAt_hit, read_q0, read_k0]; rfl
    · rw [readAt_hit, read_q1, read_k0]; rfl
    · exact readAt_const _ _ _ _ _ _ _ rfl (by decide)
    · exact readAt_const _ _ _ _ _ _ _ rfl (by decide)
    · exact readAt_const _ _ _ _ _ _ _ rfl (by decide)
    · exact readAt_const _ _ _ _ _ _ _ rfl (by decide)
  iintro %acc HI
  unfold inv
  icases HI with ⟨H0, H1, H2, HS0, ⟨%g8, %g9, %g10, H8, H9, H10, %hst⟩⟩
  sl_exec
  sl_step
  iapply Hk
  isplitl [H0]; · iexists _; isplitr; swap; (iexact H0); ipureintro; rfl
  isplitl [H1]; · iexists _; isplitr; swap; (iexact H1); ipureintro; rfl
  isplitl [H2]; · iexists _; isplitr; swap; (iexact H2); ipureintro; rfl
  isplitl [H3]; · iexists _; isplitr; swap; (iexact H3); ipureintro; rfl
  isplitl [H4]
  · iexists _; isplitr; swap; (iexact H4)
    ipureintro
    rw [read_rows]
    delta runB.sl.v186 runB.sl.v178 runB.sl.H10_3 runB.sl.r_7 runB.sl.r_6 runB.sl.v167 runB.sl.v147 runB.sl.H9_2 runB.sl.H10_2 runB.sl.v133 runB.sl.H8_1 runB.sl.r_4 runB.sl.r_5 runB.sl.r_3 runB.sl.r_2 runB.sl.r_1 runB.sl.v120 runB.sl.v100 runB.sl.v89 runB.sl.v43 runB.sl.v42 runB.sl.v31 runB.sl.v30 runB.sl.v29 runB.sl.v27 runB.sl.v12 runB.sl.v11
    unfold outF
    rw [← hst]
    unfold end0 end1 foldAd foldM foldA stOf
    have eq1 := read_q1 arg3 f3
    have ek9 := read_k9 i arg4 f4
    have er0 := read_r10 i arg2 f2
    have er1 := read_r10' i arg2 f2
    have er2 := read_r11 i arg2 f2
    have ev0 := read_v12 i arg7 f7
    have ev1 := read_v13 i arg7 f7
    simp (disch := decide) only [readCov_hit, readCov_miss, eq1, ek9, er0, er1, er2, ev0, ev1]
    rfl
  isplitl [HS0]
  · iexists _; isplitr; swap; (iexact HS0)
    ipureintro; rfl
  isplitl [H8]; · iexists _, _; isplitr; swap; (iexact H8); ipureintro; rfl
  isplitl [H9]; · iexists _, _; isplitr; swap; (iexact H9); ipureintro; rfl
  iexists _, _; isplitr; swap; (iexact H10)
  ipureintro; rfl

end Cert.FoxIdeal.Attn
end
-- ==== Proof.FoxFrame.lean ====
module

public import proofs.«01_k».proof.Proof.FoxRun
public import proofs.«01_k».proof.Proof.Gen.FoxIdeal.Launch
public import proofs.«01_k».proof.Proof.Gen.FoxIdeal.Skeleton
public import proofs.«01_k».proof.Proof.Gen.FoxIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.ValueIdx
public import Idealize.ShloMosaic.Lib.Claim
public import Idealize.ShloMosaic.Lib.Pipeline.ValueKit

@[expose] public section

set_option maxRecDepth 16384
set_option warn.classDefReducibility false

noncomputable section

namespace Cert.FoxIdeal.Attn

open Cert.FoxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region and its blocks -/

/-- What core `c`'s buffers hold when the call begins: there is no operation before it. -/
abbrev V (c : Dev nD) (b : Ref sig .tc) : Buf (Elt F) ((c : Thread nD τ).loc b) := m ((c : Thread nD τ).loc b)

/-- The program is its one call. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main (fun c => main_chain c)

/-- Window `w`'s block at point `t`, as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The four scratch buffers: the values of the head, the scores, the running maxima, the running sums. -/
abbrev scM0 : Memref sig .tc .vmem S16384x256 .bf16 := Memref.whole cc0_scratch0
/-- (the scores) -/
abbrev scM1 : Memref sig .tc .vmem S2x2x512x512 .f32 := Memref.whole cc0_scratch1
/-- (the maxima) -/
abbrev scM2 : Memref sig .tc .vmem S2x512x1 .f32 := Memref.whole cc0_scratch2
/-- (the sums) -/
abbrev scM3 : Memref sig .tc .vmem S2x512x256 .f32 := Memref.whole cc0_scratch3

/-- The four scratch buffers as owned before the call, one by one. -/
theorem PhiA0_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d)) ∗ (∃ r, prngReg c r)) := by
  unfold Pipeline.ΦA; rw [scopedRest0_eq]; simp only [scM0, scM1, scM2, scM3, owns_whole]; try rfl

/-- The windows at every grid point: the head is the quotient by 16, the block of queries the remainder. -/
theorem idx : ∀ t : Fin cfg0.N, win0_0.index t = ![0, 0] ∧ win0_1.index t = ![t.val % 16, t.val / 16]
    ∧ win0_2.index t = ![0, t.val / 16, 0] ∧ win0_3.index t = ![0, 64 + t.val / 16] ∧ win0_4.index t = ![t.val % 16, t.val / 16] :=
  (by decide +kernel : ∀ t : Fin grid0.N, _)

/-- A point is the head and the block of queries. -/
theorem coords_val : ∀ t : Fin cfg0.N, (grid0.coords t 0).val = t.val / 16 ∧ (grid0.coords t 1).val = t.val % 16 :=
  (by decide +kernel : ∀ t : Fin grid0.N, _)

/-- The value window's block is the same at every point of a head. -/
theorem iblk3_head (c : Dev nD) (n : ℕ) (hn : n < cfg0.N) (hn' : n - 1 < cfg0.N) (h : ¬ n % 16 = 0) :
    iblk m c 3 ⟨n - 1, hn'⟩ = iblk m c 3 ⟨n, hn⟩ := by
  have e : (n - 1) / 16 = n / 16 := by omega
  funext y
  unfold iblk
  show V m c main_arg3 (((cfg0.win 3).blk ⟨n - 1, hn'⟩).view.emb y) = V m c main_arg3 (((cfg0.win 3).blk ⟨n, hn⟩).view.emb y)
  refine congrArg (V m c main_arg3) ?_
  blk_ext [idx ⟨n - 1, hn'⟩, idx ⟨n, hn⟩, e]

/-- What holds between the points: after point `n` the value buffer is the one of that point's head. -/
def PhiS (c : Dev nD) : (n : ℕ) → n ≤ cfg0.N → sProp 𝕄
  | 0, _ => Pipeline.ΦA spec0 c
  | n + 1, hn => iprop(iprop(owns (c : Thread nD τ) scM0 fullShare (vFill (iblk m c 3 ⟨n, hn⟩)) ∗ (∃ d, owns (c : Thread nD τ) scM1 fullShare d) ∗ (∃ d, owns (c : Thread nD τ) scM2 fullShare d) ∗ (∃ d, owns (c : Thread nD τ) scM3 fullShare d)) ∗ (∃ r, prngReg c r))

/-- Before any point the four buffers hold something. -/
theorem PhiS_any (c : Dev nD) (n : ℕ) (h : n ≤ cfg0.N) : PhiS m c n h ⊢ Pipeline.ΦA spec0 c := by
  cases n with
  | zero => exact .rfl
  | succ n =>
    rw [PhiA0_eq]; unfold PhiS
    iintro ⟨⟨H0, H1, H2, H3⟩, Hg⟩
    isplitl [H0 H1 H2 H3]
    · isplitl [H0]; · iexists _; iexact H0
      isplitl [H1]; · iexact H1
      isplitl [H2]; · iexact H2
      iexact H3
    iexact Hg

/-- Before a point that does not begin a head the value buffer is the head's. -/
theorem PhiS_head (c : Dev nD) (t : Fin cfg0.N) (h : ¬ t.val % 16 = 0) :
    PhiS m c t.val (Nat.le_of_lt t.isLt) = iprop(iprop(owns (c : Thread nD τ) scM0 fullShare (vFill (iblk m c 3 t)) ∗ (∃ d, owns (c : Thread nD τ) scM1 fullShare d) ∗ (∃ d, owns (c : Thread nD τ) scM2 fullShare d) ∗ (∃ d, owns (c : Thread nD τ) scM3 fullShare d)) ∗ (∃ r, prngReg c r)) := by
  obtain ⟨n, hn⟩ := t
  cases n with
  | zero => exact absurd rfl h
  | succ n => rw [← iblk3_head m c (n + 1) hn (Nat.lt_of_succ_lt hn) h]; rfl

/-! ## The pipeline's proof data -/

/-- The contents of the output block after point `t`. -/
def outAt (c : Dev nD) (t : Fin cfg0.N) : Vec F S1024x128 .bf16 :=
  outF (iblk m c 0 t) (iblk m c 1 t) (iblk m c 2 t) (vFill (iblk m c 3 t)) (grid0.coords t 0).val (grid0.coords t 1).val

/-- What every window holds before and after every point, and what the value buffer carries between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := PhiS m c t.val (Nat.le_of_lt_succ t.isLt)
  q _ := fullShare
  owed _ := 0

/-- A window's array at the start is its argument. -/
theorem A_eq (c : Dev nD) (w : Fin cfg0.W) : (dats m 0 c).A w = V m c (Pipeline.arrRef spec0 w) := by
  dsimp only [dats]

/-- The carried buffers at a point are those after the point before. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- The five windows after a point: the operands as they were, the output at `outAt`. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outAt m c t := by dsimp only [dats]

/-- The four operands' blocks before a point, whatever was there. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)

/-! ## The body at a point -/

/-- What the body owns at a point before it runs, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and after. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: a point that begins a head fills the value buffer, the others find it filled. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3, after0_4, PhiS_castSucc,
    show (dats m 0 c).Φ t.succ = iprop(iprop(owns (c : Thread nD τ) scM0 fullShare (vFill (iblk m c 3 t)) ∗ (∃ d, owns (c : Thread nD τ) scM1 fullShare d) ∗ (∃ d, owns (c : Thread nD τ) scM2 fullShare d) ∗ (∃ d, owns (c : Thread nD τ) scM3 fullShare d)) ∗ (∃ r, prngReg c r)) from rfl]
  by_cases h : t.val % 16 = 0
  · have hany := PhiS_any m c t.val (Nat.le_of_lt t.isLt)
    rw [PhiA0_eq] at hany
    refine (sep_mono_left hany).trans ?_
    iintro ⟨⟨⟨HS0, HS1, HS2, HS3⟩, Hg⟩, Ho, ⟨%d0, H0⟩, ⟨%d1, H1⟩, ⟨%d2, H2⟩, ⟨%d3, H3⟩, ⟨%d4, H4⟩⟩
    iapply (runA c (grid0.coords t) _ _ _ _ _ _ _ _ _ _ _ _ _ _ _ _ _ _ ((starts_iff t).2 h) (iblk m c 0 t) (iblk m c 1 t) (iblk m c 2 t) (iblk m c 3 t) _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    isplitl [HS3]; · iexact HS3
    iintro ⟨H0, H1, H2, H3, H4, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    unfold outAt; iexact H4
  · rw [PhiS_head m c t h]
    iintro ⟨⟨⟨HS0, HS1, HS2, HS3⟩, Hg⟩, Ho, ⟨%d0, H0⟩, ⟨%d1, H1⟩, ⟨%d2, H2⟩, ⟨%d3, H3⟩, ⟨%d4, H4⟩⟩
    iapply (runB c (grid0.coords t) _ _ _ _ _ _ _ _ _ _ _ _ _ _ _ _ _ _ (fun e => h ((starts_iff t).1 e)) (iblk m c 0 t) (iblk m c 1 t) (iblk m c 2 t) (iblk m c 3 t) (vFill (iblk m c 3 t)) _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    isplitl [HS3]; · iexact HS3
    iintro ⟨H0, H1, H2, H3, H4, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    unfold outAt; iexact H4

/-- The body table has the kernel at its label. -/
theorem defs₀_row (t : Fin cfg0.N) :
    defs₀ (F := F) .tc cfg0.body (cfg0.bodyArgs t (cfg0.slots t)) = bodyAt0 t := by
  unfold defs₀; rw [Defs.onTc_tc]

/-- At every point the body takes what it owns before to what it owns after. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
set_option maxHeartbeats 800000 in
/-- Every fair execution ends, with each array as the proof data say and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => .rfl) (hout := fun c => PhiS_any m c cfg0.N le_rfl)

/-- The four arguments end as they began, and the result array is what the blocks written make of it. -/
theorem run_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_v0) = (dats m 0 c).arrAt 4 cfg0.N)
      ∧ r.2.sem = fun _ => 0) :=
  (θ_run defs _ _).mono (fun _ h => ⟨fun c => ⟨((h.1 c).1 1).trans (((dats m 0 c).arrAt_in 1 rfl _).trans (A_eq m c 1)),
      ((h.1 c).1 2).trans (((dats m 0 c).arrAt_in 2 rfl _).trans (A_eq m c 2)),
      ((h.1 c).1 0).trans (((dats m 0 c).arrAt_in 0 rfl _).trans (A_eq m c 0)),
      ((h.1 c).1 3).trans (((dats m 0 c).arrAt_in 3 rfl _).trans (A_eq m c 3)),
      (h.1 c).1 4⟩, h.2⟩) (run_main_quiescent m ρ)

end Cert.FoxIdeal.Attn
end
-- ==== Proof.FoxBits.lean ====
/- The attention call's frame, at words. -/
module

public import proofs.«01_k».proof.Defs
public import proofs.«01_k».proof.Proof.Gen.Fox
public import proofs.«01_k».proof.Proof.FoxFrame

@[expose] public section

set_option maxRecDepth 200000
set_option maxHeartbeats 1000000

noncomputable section

namespace Cert.Proof

open Idealize.ShloMosaic Idealize.SL.Sem

/-- The call's kernel and the idealized call's are one function. -/
theorem fox_kernel_eq : @Cert.Fox.cc0_fox_attn Bits _ _ = @Cert.FoxIdeal.cc0_fox_attn Bits _ _ := rfl

/-- So their body tables are one: each has the kernel at its only label. -/
theorem fox_bodies_eq : Cert.Fox.defs₀ (F := Bits) = Cert.FoxIdeal.defs₀ (F := Bits) := by
  refine congrArg Defs.onTc (funext fun l => ?_)
  match l with
  | 0 =>
    funext a
    obtain ⟨t, s⟩ := a
    show Cert.Fox.cc0_fox_attn _ _ _ _ _ _ _ _ _ _ _ _ _ _ _ _ _ _ _ = _
    rw [fox_kernel_eq]
    rfl

/-- So are the two tables with the pipeline's entries. -/
theorem fox_defs_eq : Cert.Fox.defs (F := Bits) = Cert.FoxIdeal.defs (F := Bits) :=
  congrArg (Pipeline.defs (Cert.FoxIdeal.pcfgs (F := Bits))) fox_bodies_eq

/-- The attention call runs and leaves its arguments as they were: the run does not depend on what numbers are. -/
theorem fox_frame : Cert.quiescent_Fox := by
  intro m g _
  rw [fox_defs_eq]
  exact (θ_run Cert.FoxIdeal.defs _ _).mono
    (fun _ h => ⟨fun c => ⟨(h.1 c).1, (h.1 c).2.1, (h.1 c).2.2.1, (h.1 c).2.2.2.1⟩, h.2⟩)
    (Cert.FoxIdeal.Attn.run_main (F := Bits) m g)

end Cert.Proof

end
-- ==== Proof.FoxRow.lean ====
/- One row of the attention over the extended reals: folding the keys in block by block gives the softmax over all of them. -/
module

public import Idealize.ShloMosaic.PureOps.Ideal
public import Mathlib.Data.EReal.Inv
public import Mathlib.Algebra.BigOperators.Fin

@[expose] public section

noncomputable section

open Idealize.ShloMosaic Finset

namespace Cert.FoxRow

/-- A score: a real number, or minus infinity where the key is masked. -/
def Score (x : EReal) : Prop := x ≠ ⊤

/-- A score is −∞ or a real number. -/
theorem Score.cases {x : EReal} (h : Score x) : x = ⊥ ∨ ∃ r : ℝ, x = r := by
  induction x with
  | bot => exact .inl rfl
  | top => exact absurd rfl h
  | coe r => exact .inr ⟨r, rfl⟩

/-- The maximum of finitely many scores is a score. -/
theorem sup_score {ι : Type} (J : Finset ι) (S : ι → EReal) (h : ∀ j, Score (S j)) : Score (J.sup S) :=
  ((Finset.sup_lt_iff (bot_lt_top (α := EReal))).2 fun j _ => lt_top_iff_ne_top.2 (h j)).ne

/-- −∞ less anything is −∞. -/
theorem bot_sub (x : EReal) : (⊥ : EReal) - x = ⊥ := by rw [sub_eq_add_neg, EReal.bot_add]

/-- The power of two of an extended real that is not plus infinity is a real number, not negative. -/
theorem exp2_nonneg {x : EReal} (h : Score x) : ∃ r : ℝ, 0 ≤ r ∧ Ideal.exp2 x = r := by
  rcases h.cases with rfl | ⟨r, rfl⟩
  · exact ⟨0, le_rfl, rfl⟩
  · exact ⟨Real.rpow 2 r, Real.rpow_nonneg (by norm_num) _, rfl⟩

/-- The power of two is `exp2`. -/
theorem pow_two (x : EReal) : Ideal.pow ((2 : ℝ) : EReal) x = Ideal.exp2 x := by
  induction x with
  | bot => show (if (2 : ℝ) < 0 then (⊥ : EReal) else if (1 : ℝ) < 2 then 0 else _) = 0; norm_num
  | top => show (if (2 : ℝ) < 0 then (⊥ : EReal) else if (1 : ℝ) < 2 then ⊤ else _) = ⊤; norm_num
  | coe r => rfl

/-- A finite factor that is not negative goes into a sum, whatever the summands are. -/
theorem mul_sum {ι : Type} (J : Finset ι) (c : ℝ) (hc : 0 ≤ c) (f : ι → EReal) : (c : EReal) * ∑ j ∈ J, f j = ∑ j ∈ J, (c : EReal) * f j := by
  classical
  induction J using Finset.induction_on with
  | empty => simp
  | insert a s ha ih => rw [Finset.sum_insert ha, Finset.sum_insert ha, ← ih, EReal.left_distrib_of_nonneg_of_ne_top (EReal.coe_nonneg.2 hc) (EReal.coe_ne_top c)]

/-- Where the maximum is at least the score, the powers of two compose. -/
theorem exp2_shift {s m m' : EReal} (hm : Score m) (hm' : Score m') (hs : s ≤ m) (hmm : m ≤ m') :
    Ideal.exp2 (m - m') * Ideal.exp2 (s - m) = Ideal.exp2 (s - m') := by
  rcases hm.cases with rfl | ⟨r, rfl⟩
  · obtain rfl := le_bot_iff.1 hs
    rw [bot_sub, bot_sub]; show (0 : EReal) * 0 = 0; simp
  rcases hm'.cases with rfl | ⟨r', rfl⟩
  · exact absurd (le_bot_iff.1 hmm) (EReal.coe_ne_bot r)
  rcases (show Score s from (lt_of_le_of_lt hs (EReal.coe_lt_top r)).ne).cases with rfl | ⟨x, rfl⟩
  · rw [bot_sub, bot_sub]; show _ * (0 : EReal) = 0; simp
  · rw [← EReal.coe_sub, ← EReal.coe_sub, ← EReal.coe_sub]
    show ((Real.rpow 2 (r - r') : ℝ) : EReal) * ((Real.rpow 2 (x - r) : ℝ) : EReal) = ((Real.rpow 2 (x - r') : ℝ) : EReal)
    rw [← EReal.coe_mul]
    refine congrArg _ ?_
    show (2 : ℝ) ^ (r - r') * (2 : ℝ) ^ (x - r) = (2 : ℝ) ^ (x - r')
    rw [← Real.rpow_add (by norm_num)]; congr 1; ring

/-- A score less a score that is not −∞ is a score. -/
theorem sub_score {s m : EReal} (hs : Score s) (hm : m ≠ ⊥) : Score (s - m) := by
  intro h
  rw [sub_eq_add_neg] at h
  induction s <;> induction m <;> simp_all [Score]
  exact absurd h (EReal.coe_ne_top _)

/-! ## Folding a block of keys in -/

section fold
variable (S v : ℕ → EReal) (n B : ℕ) (s : Fin B → EReal) (δ : ℝ)

/-- The maximum of the first `n + B` numbers, split at `n`. -/
theorem sup_range_add : (range (n + B)).sup S = max ((range n).sup S) (univ.sup fun k : Fin B => S (n + k.val)) := by
  apply le_antisymm
  · refine Finset.sup_le fun j hj => ?_
    rw [mem_range] at hj
    by_cases h : j < n
    · exact le_max_of_le_left (Finset.le_sup (f := S) (mem_range.2 h))
    · refine le_max_of_le_right ?_
      have := Finset.le_sup (f := fun k : Fin B => S (n + k.val)) (mem_univ (⟨j - n, by omega⟩ : Fin B))
      rwa [show n + (j - n) = j by omega] at this
  · refine max_le (Finset.sup_le fun j hj => ?_) (Finset.sup_le fun k _ => ?_)
    · exact Finset.le_sup (f := S) (mem_range.2 (by have := mem_range.1 hj; omega))
    · exact Finset.le_sup (f := S) (mem_range.2 (by have := k.isLt; omega))

/-- The running maximum after a block: the block's scores are the pure scores `s` shifted by `δ`. -/
theorem fold_max (hS : ∀ k : Fin B, S (n + k.val) = s k + (δ : EReal)) :
    max ((range n).sup S) (univ.sup s + (δ : EReal)) = (range (n + B)).sup S := by
  rw [sup_range_add]
  refine congrArg _ ?_
  rw [Finset.apply_sup_eq_sup_comp_of_linearOrder (fun x : EReal => x + (δ : EReal)) (fun a b h => add_le_add_left h _) (EReal.bot_add _)]
  exact Finset.sup_congr rfl fun k _ => (hS k).symm

/-- The running sum after a block. -/
theorem fold_sum (hs : ∀ j, Score (S j)) (hS : ∀ k : Fin B, S (n + k.val) = s k + (δ : EReal)) :
    Ideal.exp2 ((range n).sup S - (range (n + B)).sup S) * (∑ j ∈ range n, Ideal.exp2 (S j - (range n).sup S) * v j)
        + ∑ k : Fin B, Ideal.exp2 (s k - ((range (n + B)).sup S - (δ : EReal))) * v (n + k.val)
      = ∑ j ∈ range (n + B), Ideal.exp2 (S j - (range (n + B)).sup S) * v j := by
  have hm := sup_score (range n) S hs
  have hm' := sup_score (range (n + B)) S hs
  have hle : (range n).sup S ≤ (range (n + B)).sup S := Finset.sup_mono (range_mono (by omega))
  rw [Finset.sum_range_add]
  refine congrArg₂ (· + ·) ?_ ?_
  · have hx : Score ((range n).sup S - (range (n + B)).sup S) := by
      rcases hm.cases with h | ⟨r, h⟩
      · rw [h, bot_sub]; exact bot_ne_top
      · refine sub_score hm fun h' => ?_
        rw [h', h] at hle; exact EReal.coe_ne_bot r (le_bot_iff.1 hle)
    obtain ⟨c, hc, he⟩ := exp2_nonneg hx
    rw [he, mul_sum _ c hc]
    refine Finset.sum_congr rfl fun j hj => ?_
    rw [← mul_assoc, ← he, exp2_shift hm hm' (Finset.le_sup hj) hle]
  · rw [← Fin.sum_univ_eq_sum_range (fun k => Ideal.exp2 (S (n + k) - (range (n + B)).sup S) * v (n + k))]
    refine Finset.sum_congr rfl fun k _ => ?_
    refine congrArg (Ideal.exp2 · * _) ?_
    have hk := hS k
    have hle' : S (n + k.val) ≤ (range (n + B)).sup S := Finset.le_sup (f := S) (mem_range.2 (by have := k.isLt; omega))
    generalize (range (n + B)).sup S = M at *
    rcases (show Score (s k) from fun h => by rw [h, EReal.top_add_coe] at hk; exact hs _ hk).cases with h | ⟨r, h⟩
    · rw [hk, h, EReal.bot_add, bot_sub, bot_sub]
    · rcases hm'.cases with rfl | ⟨r', rfl⟩
      · rw [hk, h, ← EReal.coe_add] at hle'
        exact absurd (le_bot_iff.1 hle') (EReal.coe_ne_bot _)
      · rw [hk, h, ← EReal.coe_add, ← EReal.coe_sub, ← EReal.coe_sub, ← EReal.coe_sub]
        congr 1; ring

end fold

/-! ## The whole row -/

/-- A sum of reals, taken on the extended reals. -/
theorem coe_sum (J : Finset ℕ) (p : ℕ → ℝ) : ((∑ j ∈ J, p j : ℝ) : EReal) = ∑ j ∈ J, (p j : EReal) := by
  classical
  induction J using Finset.induction_on with
  | empty => simp
  | insert a s ha ih => rw [Finset.sum_insert ha, Finset.sum_insert ha, EReal.coe_add, ih]

/-- The same over a whole finite type. -/
theorem coe_sum_univ {ι : Type} [Fintype ι] (p : ι → ℝ) : ((∑ j, p j : ℝ) : EReal) = ∑ j, (p j : EReal) := by
  classical
  refine Finset.induction_on (Finset.univ : Finset ι) (by simp) fun a s ha ih => ?_
  rw [Finset.sum_insert ha, Finset.sum_insert ha, EReal.coe_add, ih]

/-- A maximum over `N` numbers that are −∞ from `n` on is the one of the first `n`. -/
theorem sup_fin (S : ℕ → EReal) (n N : ℕ) (hN : n ≤ N) (hb : ∀ j, n ≤ j → S j = ⊥) : (univ.sup fun j : Fin N => S j.val) = (range n).sup S := by
  apply le_antisymm
  · refine Finset.sup_le fun j _ => ?_
    by_cases h : j.val < n
    · exact Finset.le_sup (f := S) (mem_range.2 h)
    · rw [hb j.val (by omega)]; exact bot_le
  · refine Finset.sup_le fun j hj => ?_
    exact Finset.le_sup (f := fun j : Fin N => S j.val) (mem_univ (⟨j, by have := mem_range.1 hj; omega⟩ : Fin N))

/-- A sum of `N` numbers that are 0 from `n` on is the one of the first `n`. -/
theorem sum_fin (f : ℕ → EReal) (n N : ℕ) (hN : n ≤ N) (hb : ∀ j, n ≤ j → f j = 0) : ∑ j : Fin N, f j.val = ∑ j ∈ range n, f j := by
  rw [Fin.sum_univ_eq_sum_range f N]
  exact (Finset.sum_subset (range_mono hN) fun j _ h => hb j (by simpa using h)).symm

/-- The quotient of the two running sums is the softmax of the scores against the values. -/
theorem softmax_row (S v : ℕ → EReal) (n N : ℕ) (hn : 0 < n) (hN : n ≤ N) (hs : ∀ j, Score (S j)) (hb : ∀ j, n ≤ j → S j = ⊥)
    (h0 : S 0 ≠ ⊥) :
    Ideal.div (∑ j ∈ range n, Ideal.exp2 (S j - (range n).sup S) * v j) (∑ j ∈ range n, Ideal.exp2 (S j - (range n).sup S) * 1)
      = ∑ j : Fin N, v j.val * Ideal.div (Ideal.exp2 (S j.val - univ.sup fun i : Fin N => S i.val))
          (∑ l : Fin N, Ideal.exp2 (S l.val - univ.sup fun i : Fin N => S i.val)) := by
  rw [sup_fin S n N hN hb, sum_fin (fun l => Ideal.exp2 (S l - (range n).sup S)) n N hN fun j hj => by rw [hb j hj, bot_sub]; rfl]
  simp only [mul_one]
  have hm : (range n).sup S ≠ ⊥ := fun h => h0 (le_bot_iff.1 (h ▸ Finset.le_sup (f := S) (mem_range.2 hn)))
  have hMs := sup_score (range n) S hs
  have hle0 := Finset.le_sup (f := S) (mem_range.2 hn)
  generalize (range n).sup S = M at *
  choose p hp0 hp using fun j => exp2_nonneg (sub_score (hs j) hm)
  have hL : ∑ j ∈ range n, Ideal.exp2 (S j - M) = ((∑ j ∈ range n, p j : ℝ) : EReal) :=
    (Finset.sum_congr rfl fun j _ => hp j).trans (coe_sum _ _).symm
  have hpos : 0 < ∑ j ∈ range n, p j := by
    refine Finset.sum_pos' (fun j _ => hp0 j) ⟨0, mem_range.2 hn, ?_⟩
    rcases (hs 0).cases with h | ⟨r, h⟩
    · exact absurd h h0
    have hle : S 0 ≤ M := hle0
    rcases (show Score M from hMs).cases with h' | ⟨r', h'⟩
    · exact absurd h' hm
    have := hp 0
    rw [h, h', ← EReal.coe_sub] at this
    have e : Real.rpow 2 (r - r') = p 0 := EReal.coe_eq_coe_iff.1 this
    rw [← e]; exact Real.rpow_pos_of_pos (by norm_num) _
  rw [hL]
  generalize hq : ∑ j ∈ range n, p j = L at *
  have hL0 : (L : EReal) ≠ 0 := fun h => hpos.ne' (EReal.coe_eq_zero.1 h)
  simp only [Ideal.div, if_neg hL0]
  rw [sum_fin (fun j => v j * (Ideal.exp2 (S j - M) * (L : EReal)⁻¹)) n N hN fun j hj => by rw [hb j hj, bot_sub]; show v j * ((0 : EReal) * _) = 0; simp,
    ← EReal.coe_inv, mul_comm, mul_sum _ _ (inv_nonneg.2 hpos.le)]
  exact Finset.sum_congr rfl fun j _ => by rw [mul_comm, mul_comm (Ideal.exp2 _) (v j), mul_assoc]

end Cert.FoxRow
end
-- ==== Proof.FoxAt.lean ====
module

public import proofs.«01_k».proof.Proof.FoxFrame
public import proofs.«01_k».proof.Proof.FoxRow
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.FoxIdeal.Attn

open Cert.FoxIdeal Cert.FoxIdeal.Gen Cert.FoxRow

/-- The word of minus infinity. -/
theorem word_neg_inf : Ideal.ofBits .f32 4286578688#32 = (⊥ : EReal) := by simp [Ideal.ofBits, Ideal.ieee]

/-- A score of the block: a row of queries times a column of the transposed keys. -/
theorem scores_at (q : Vec Ideal S512x256 .bf16) (kt : Vec Ideal S1x256x512 .bf16) (x k : Fin 512) :
    k0_pay5 q kt (ix4 0 0 x k) = ∑ e : Fin 256, q (ix2 x e) * kt (ix3 0 e k) := by
  pointwise [k0_pay5]

/-- A block off the diagonal is taken as it is. -/
theorem plain_at (s : Vec Ideal S1x1x512x512 .f32) (x k : Fin 512) : k0_pay7 s (ix2 x k) = s (ix4 0 0 x k) := by
  pointwise [k0_pay7]

/-- The block on the diagonal: a key behind the query is masked. -/
theorem masked_at (s : Vec Ideal S1x1x512x512 .f32) (x k : Fin 512) :
    k0_pay69 (iota .tc S512x512 32 [0] iota_S512x512_d0_w32) (iota .tc S512x512 32 [1] iota_S512x512_d1_w32) s (ix2 x k)
      = if k.val ≤ x.val then s (ix4 0 0 x k) else (⊥ : EReal) := by
  pointwise [k0_pay69]
  have hk := k.isLt
  have hx := x.isLt
  rw [word_neg_inf, WordCmp.cmpi_sle_ofNat (by omega) (by omega)]
  by_cases h : k.val ≤ x.val
  · simp [Scalar.select, h]
  · simp [Scalar.select, h]

/-- The running maximum after a block. -/
theorem max_at (w : FVec Ideal S512x512 .f32) (dq dk : Elt Ideal .f32) (m : Vec Ideal S1x512x1 .f32) (x : Fin 512) :
    k0_pay12 w dq dk m (ix3 0 x 0) = max (m (ix3 0 x 0) : EReal) ((Finset.univ.sup fun k : Fin 512 => (w (ix2 x k) : EReal)) + ((dq : EReal) - (dk : EReal))) := by
  pointwise [k0_pay12, k0_pay10, k0_pay9, k0_pay8]
  rw [word_neg_inf]; rfl

/-- The running sums after a block. -/
theorem sum_at (w : FVec Ideal S512x512 .f32) (dq dk : Elt Ideal .f32) (m : Vec Ideal S1x512x1 .f32) (v : Vec Ideal S512x256 .bf16) (a : Vec Ideal S1x512x256 .f32) (x : Fin 512) (d : Fin 256) :
    (k0_pay11 w dq dk m v a (ix3 0 x d) : EReal)
     = Ideal.exp2 ((m (ix3 0 x 0) : EReal) - (k0_pay12 w dq dk m (ix3 0 x 0) : EReal)) * (a (ix3 0 x d) : EReal)
      + ∑ k : Fin 512, Ideal.exp2 ((w (ix2 x k) : EReal) - ((k0_pay12 w dq dk m (ix3 0 x 0) : EReal) - ((dq : EReal) - (dk : EReal)))) * (v (ix2 k d) : EReal) := by
  pointwise [k0_pay11, k0_pay12, k0_pay10, k0_pay9, k0_pay8]
  rfl

/-- The last step: each column divided by the column of counts. -/
theorem quot_at (a : Vec Ideal S1x512x256 .f32) (x : Fin 512) (d : Fin 128) :
    (k0_pay3 a (ix2 x d) : EReal) = Ideal.div (a (ix3 0 x (⟨d.val, by omega⟩ : Fin 256))) (a (ix3 0 x (128 : Fin 256))) := by
  pointwise [k0_pay3]

/-- The value buffer's first half is the head's values, -/
theorem fill_at (X : Vec Ideal S16384x128 .bf16) (j : Fin 16384) (d : Fin 128) : (vFill X (ix2 j (⟨d.val, by omega⟩ : Fin 256)) : EReal) = X (ix2 j d) := by
  unfold vFill
  have h : d.val < 128 := d.isLt
  rw [dif_pos (show ((ix2 j (⟨d.val, by omega⟩ : Fin 256) : S16384x256.Idx) 1).val < 128 from h)]
  pointwise [k0_pay59]
  rfl

/-- and column 128 is ones. -/
theorem fill_count (X : Vec Ideal S16384x128 .bf16) (j : Fin 16384) : (vFill X (ix2 j (128 : Fin 256)) : EReal) = 1 := by
  unfold vFill
  rw [dif_neg (show ¬ ((ix2 j (128 : Fin 256) : S16384x256.Idx) 1).val < 128 from by show ¬ 128 < 128; omega)]
  pointwise [k0_pay60]

end Cert.FoxIdeal.Attn
end
-- ==== Proof.FoxFold.lean ====
module

public import proofs.«01_k».proof.Proof.FoxAt

@[expose] public section

set_option maxRecDepth 16384

noncomputable section

open Idealize.ShloMosaic Idealize.ShloMosaic.TcCoe Idealize.SL.Sem
open Finset (range univ)

namespace Cert.FoxIdeal.Attn

open Cert.FoxIdeal Cert.FoxIdeal.Gen Cert.FoxRow

/-! ## The running maximum and sums -/

/-- After `n` blocks of keys: the maxima `m` are those of the scores `S` of the first `512 n` keys, and the sums `a` are
    those keys' weights against the columns `v`. -/
def Inv (S : Fin 512 → ℕ → EReal) (v : Fin 256 → ℕ → EReal) (n : ℕ) (m : Vec Ideal S1x512x1 .f32) (a : Vec Ideal S1x512x256 .f32) : Prop :=
  ∀ x : Fin 512, (m (ix3 0 x 0) : EReal) = (range (512 * n)).sup (S x)
    ∧ ∀ d : Fin 256, (a (ix3 0 x d) : EReal) = ∑ j ∈ range (512 * n), Ideal.exp2 (S x j - (range (512 * n)).sup (S x)) * v d j

/-- One more block. -/
theorem Inv.step {S : Fin 512 → ℕ → EReal} {v : Fin 256 → ℕ → EReal} {n : ℕ} {m : Vec Ideal S1x512x1 .f32} {a : Vec Ideal S1x512x256 .f32}
    (hI : Inv S v n m a) (hs : ∀ x j, Score (S x j)) (w : FVec Ideal S512x512 .f32) (dq dk : Elt Ideal .f32) (δ : ℝ) (hd : (dq : EReal) - (dk : EReal) = (δ : EReal))
    (hw : ∀ x k : Fin 512, S x (512 * n + k.val) = (w (ix2 x k) : EReal) + (δ : EReal)) (vb : Vec Ideal S512x256 .bf16)
    (hv : ∀ (k : Fin 512) (d : Fin 256), (vb (ix2 k d) : EReal) = v d (512 * n + k.val)) :
    Inv S v (n + 1) (k0_pay12 w dq dk m) (k0_pay11 w dq dk m vb a) := by
  intro x
  have hm : (k0_pay12 w dq dk m (ix3 0 x 0) : EReal) = (range (512 * n + 512)).sup (S x) := by
    rw [max_at, hd, (hI x).1]
    exact fold_max (S x) (512 * n) 512 (fun k => w (ix2 x k)) δ (hw x)
  refine ⟨hm, fun d => ?_⟩
  rw [sum_at, hm, hd, (hI x).1, (hI x).2 d]
  simp only [hv]
  exact fold_sum (S x) (v d) (512 * n) 512 (fun k => w (ix2 x k)) δ (hs x) (hw x)

/-! ## One grid point's two halves -/

section point
variable (X0 : Vec Ideal S32x128 .f32) (X1 : Vec Ideal S1024x256 .bf16) (X2 : Vec Ideal S32x256x512 .bf16) (V : Vec Ideal S16384x256 .bf16) (h qi : ℕ)

/-- A query of half `c` times a key. -/
def raw (c : Fin 2) (x : Fin 512) (j : ℕ) : EReal :=
  ∑ e : Fin 256, (X1 (ix2 (⟨512 * c.val + x.val, by omega⟩ : Fin 1024) e) : EReal) * (X2 (ix3 (Fin.ofNat 32 (j / 512) : Fin 32) e (Fin.ofNat 512 (j % 512) : Fin 512)) : EReal)

/-- The score of a query of half `c` against key `j`. -/
def sc (c : Fin 2) (x : Fin 512) (j : ℕ) : EReal :=
  if j ≤ 1024 * qi + 512 * c.val + x.val then raw X1 X2 c x j + ((rAt X0 (2 * qi + c.val) h : EReal) - (rAt X0 (j / 512) h : EReal)) else ⊥

/-- A column of the value buffer. -/
def col (d : Fin 256) (j : ℕ) : EReal := V (ix2 (Fin.ofNat 16384 j : Fin 16384) d)

/-- The block of scores at key block `b`, read at a place. -/
theorem block_at (c : Fin 2) (b : ℕ) (x k : Fin 512) : (k0_pay5 (qRows X1 c) (ktBlk X2 b) (ix4 0 0 x k) : EReal) = raw X1 X2 c x (512 * b + k.val) := by
  rw [scores_at]
  have e1 : (512 * b + k.val) / 512 = b := by omega
  have e2 : (Fin.ofNat 512 ((512 * b + k.val) % 512) : Fin 512) = k := by
    refine Fin.ext ?_; show (512 * b + k.val) % 512 % 512 = k.val; omega
  unfold raw
  rw [e1, e2]
  rfl

variable (h0 : ∀ i, ∃ r : ℝ, (X0 i : EReal) = (r : EReal)) (h1 : ∀ i, ∃ r : ℝ, (X1 i : EReal) = (r : EReal)) (h2 : ∀ i, ∃ r : ℝ, (X2 i : EReal) = (r : EReal))

include h0 in
/-- The difference of two decay numbers is a real number. -/
theorem shift_real (a b : ℕ) : ∃ δ : ℝ, (rAt X0 a h : EReal) - (rAt X0 b h : EReal) = (δ : EReal) := by
  obtain ⟨r, hr⟩ := h0 (ValueIdx.ix2 (Fin.ofNat 32 a : Fin 32) (Fin.ofNat 128 h : Fin 128))
  obtain ⟨s, hs⟩ := h0 (ValueIdx.ix2 (Fin.ofNat 32 b : Fin 32) (Fin.ofNat 128 h : Fin 128))
  refine ⟨r - s, ?_⟩
  unfold rAt; rw [hr, hs]; exact (EReal.coe_sub r s).symm

include h1 h2 in
/-- A product of a query and a key is a real number. -/
theorem raw_real (c : Fin 2) (x : Fin 512) (j : ℕ) : ∃ r : ℝ, raw X1 X2 c x j = (r : EReal) := by
  choose p hp using h1
  choose q hq using h2
  refine ⟨∑ e : Fin 256, p (ix2 (⟨512 * c.val + x.val, by omega⟩ : Fin 1024) e) * q (ix3 (Fin.ofNat 32 (j / 512) : Fin 32) e (Fin.ofNat 512 (j % 512) : Fin 512)), ?_⟩
  unfold raw
  simp only [hp, hq, ← EReal.coe_mul]
  exact (coe_sum_univ _).symm

include h0 h1 h2 in
/-- Every such score is −∞ or a real number. -/
theorem sc_score (c : Fin 2) (x : Fin 512) (j : ℕ) : Score (sc X0 X1 X2 h qi c x j) := by
  unfold sc
  obtain ⟨r, hr⟩ := raw_real X1 X2 h1 h2 c x j
  obtain ⟨δ, hδ⟩ := shift_real X0 h h0 (2 * qi + c.val) (j / 512)
  split
  · rw [hr, hδ, ← EReal.coe_add]; exact EReal.coe_ne_top _
  · exact bot_ne_top

include h0 h1 h2 in
/-- A block before the diagonal folded into half `c`. -/
theorem fold_plain (c : Fin 2) (b : ℕ) (hb : b < 2 * qi + c.val) {m : Vec Ideal S1x512x1 .f32} {a : Vec Ideal S1x512x256 .f32}
    (hI : Inv (sc X0 X1 X2 h qi c) (col V) b m a) :
    Inv (sc X0 X1 X2 h qi c) (col V) (b + 1) (foldM (k0_pay5 (qRows X1 c) (ktBlk X2 b)) (rAt X0 (2 * qi + c.val) h) (rAt X0 b h) m)
      (foldA (k0_pay5 (qRows X1 c) (ktBlk X2 b)) (rAt X0 (2 * qi + c.val) h) (rAt X0 b h) m (vBlk V b) a) := by
  obtain ⟨δ, hδ⟩ := shift_real X0 h h0 (2 * qi + c.val) b
  refine hI.step (sc_score X0 X1 X2 h qi h0 h1 h2 c) _ _ _ δ hδ (fun x k => ?_) _ fun k d => rfl
  rw [plain_at, block_at]
  unfold sc
  rw [if_pos (by omega), show (512 * b + k.val) / 512 = b by omega, hδ]

include h0 h1 h2 in
/-- The block on the diagonal folded into half `c`: the key behind the query is masked. -/
theorem fold_diag (c : Fin 2) {m : Vec Ideal S1x512x1 .f32} {a : Vec Ideal S1x512x256 .f32}
    (hI : Inv (sc X0 X1 X2 h qi c) (col V) (2 * qi + c.val) m a) :
    ∃ m', Inv (sc X0 X1 X2 h qi c) (col V) (2 * qi + c.val + 1) m'
      (foldAd (k0_pay5 (qRows X1 c) (ktBlk X2 (2 * qi + c.val))) (rAt X0 (2 * qi + c.val) h) (rAt X0 (2 * qi + c.val) h) m (vBlk V (2 * qi + c.val)) a) := by
  obtain ⟨δ, hδ⟩ := shift_real X0 h h0 (2 * qi + c.val) (2 * qi + c.val)
  refine ⟨_, hI.step (sc_score X0 X1 X2 h qi h0 h1 h2 c) _ _ _ δ hδ (fun x k => ?_) _ fun k d => rfl⟩
  rw [masked_at, block_at]
  unfold sc
  rw [show (512 * (2 * qi + c.val) + k.val) / 512 = 2 * qi + c.val by omega, hδ]
  by_cases hk : k.val ≤ x.val
  · rw [if_pos hk, if_pos (by omega)]
  · rw [if_neg hk, if_neg (by omega), EReal.bot_add]

/-- Before the first block. -/
theorem inv_zero (S : Fin 512 → ℕ → EReal) (v : Fin 256 → ℕ → EReal) :
    Inv S v 0 (fun _ => Scalar.ofBits (F := Ideal) .f32 0xFF800000#32) (fun _ => Scalar.ofBits (F := Ideal) .f32 0x00000000#32) := by
  refine fun x => ⟨word_neg_inf, fun d => ?_⟩
  show Ideal.ofBits .f32 0#32 = (0 : EReal)
  simp [Ideal.ofBits, Ideal.ieee]

include h0 h1 h2 in
/-- The carried values after `n` trips. -/
theorem trips_inv : ∀ n, n ≤ qi →
    (stepN X0 X1 X2 V h qi (st0 X1 X2) n).s0 = k0_pay5 (qRows X1 0) (ktBlk X2 (2 * n))
    ∧ (stepN X0 X1 X2 V h qi (st0 X1 X2) n).s1 = k0_pay5 (qRows X1 1) (ktBlk X2 (2 * n))
    ∧ Inv (sc X0 X1 X2 h qi 0) (col V) (2 * n) (stepN X0 X1 X2 V h qi (st0 X1 X2) n).m0 (stepN X0 X1 X2 V h qi (st0 X1 X2) n).a0
    ∧ Inv (sc X0 X1 X2 h qi 1) (col V) (2 * n) (stepN X0 X1 X2 V h qi (st0 X1 X2) n).m1 (stepN X0 X1 X2 V h qi (st0 X1 X2) n).a1
  | 0, _ => ⟨rfl, rfl, inv_zero _ _, inv_zero _ _⟩
  | n + 1, hn => by
    obtain ⟨e0, e1, i0, i1⟩ := trips_inv n (by omega)
    refine ⟨rfl, rfl, ?_, ?_⟩
    · have f := fold_plain X0 X1 X2 V h qi h0 h1 h2 0 (2 * n) (by omega) i0
      have g := fold_plain X0 X1 X2 V h qi h0 h1 h2 0 (2 * n + 1) (by omega) f
      rw [← e0] at g; exact g
    · have f := fold_plain X0 X1 X2 V h qi h0 h1 h2 1 (2 * n) (by omega) i1
      have g := fold_plain X0 X1 X2 V h qi h0 h1 h2 1 (2 * n + 1) (by omega) f
      rw [← e1] at g; exact g

include h0 h1 h2 in
/-- The sums of half 0 at the end, -/
theorem end0_inv : ∃ m', Inv (sc X0 X1 X2 h qi 0) (col V) (2 * qi + 1) m' (end0 X0 V h qi (stepN X0 X1 X2 V h qi (st0 X1 X2) qi)) := by
  obtain ⟨e0, e1, i0, i1⟩ := trips_inv X0 X1 X2 V h qi h0 h1 h2 qi le_rfl
  have g := fold_diag X0 X1 X2 V h qi h0 h1 h2 0 i0
  unfold end0
  rw [e0]; exact g

include h0 h1 h2 in
/-- and of half 1. -/
theorem end1_inv : ∃ m', Inv (sc X0 X1 X2 h qi 1) (col V) (2 * qi + 2) m' (end1 X0 X1 X2 V h qi (stepN X0 X1 X2 V h qi (st0 X1 X2) qi)) := by
  obtain ⟨e0, e1, i0, i1⟩ := trips_inv X0 X1 X2 V h qi h0 h1 h2 qi le_rfl
  have f := fold_plain X0 X1 X2 V h qi h0 h1 h2 1 (2 * qi) (by simp) i1
  have g := fold_diag X0 X1 X2 V h qi h0 h1 h2 1 f
  unfold end1
  rw [e1]; exact g

include h0 h1 h2 in
/-- The quotient of the sums is the softmax of the whole row, once column 128 of the value buffer counts. -/
theorem row_at (c : Fin 2) (hq : qi < 16) (hc : ∀ j, V (ix2 j (128 : Fin 256)) = (1 : EReal)) {m : Vec Ideal S1x512x1 .f32} {a : Vec Ideal S1x512x256 .f32}
    (hI : Inv (sc X0 X1 X2 h qi c) (col V) (2 * qi + c.val + 1) m a) (x : Fin 512) (d : Fin 128) :
    (k0_pay3 a (ix2 x d) : EReal) = ∑ j : Fin 16384, col V ⟨d.val, by omega⟩ j.val
      * Ideal.div (Ideal.exp2 (sc X0 X1 X2 h qi c x j.val - univ.sup fun i : Fin 16384 => sc X0 X1 X2 h qi c x i.val))
          (∑ l : Fin 16384, Ideal.exp2 (sc X0 X1 X2 h qi c x l.val - univ.sup fun i : Fin 16384 => sc X0 X1 X2 h qi c x i.val)) := by
  rw [quot_at, (hI x).2, (hI x).2]
  have e : ∀ j, col V (128 : Fin 256) j = 1 := fun j => hc _
  simp only [e]
  refine softmax_row (sc X0 X1 X2 h qi c x) (col V ⟨d.val, by omega⟩) (512 * (2 * qi + c.val + 1)) 16384 (by omega) (by omega)
    (sc_score X0 X1 X2 h qi h0 h1 h2 c x) (fun j hj => if_neg (by omega)) ?_
  obtain ⟨r, hr⟩ := raw_real X1 X2 h1 h2 c x 0
  obtain ⟨δ, hδ⟩ := shift_real X0 h h0 (2 * qi + c.val) (0 / 512)
  unfold sc
  rw [if_pos (by omega), hr, hδ, ← EReal.coe_add]; exact EReal.coe_ne_bot _

end point

end Cert.FoxIdeal.Attn
end
-- ==== Proof.FoxRef.lean ====
module

public import proofs.«01_k».proof.Proof.Gen.FoxRefIdeal.Read
public import proofs.«01_k».proof.Proof.FoxRow
public import Idealize.ShloMosaic.Lib.Pipeline.ValueKit
public import Idealize.ShloMosaic.Lib.WordCmp

@[expose] public section

set_option maxRecDepth 16384

noncomputable section

open Idealize.ShloMosaic Idealize.ShloMosaic.TcCoe Idealize.SL.Sem

namespace Cert.FoxRefIdeal.Row

open Cert.FoxRefIdeal Cert.FoxRefIdeal.Gen Cert.FoxRefIdeal.Read Cert.FoxRow

/-- The word of minus infinity, -/
theorem word_neg_inf : Ideal.ofBits .f32 4286578688#32 = (⊥ : EReal) := by simp [Ideal.ofBits, Ideal.ieee]

/-- and the word of two. -/
theorem word_two : Ideal.ofBits .f32 1073741824#32 = ((2 : ℝ) : EReal) := by
  simp [Ideal.ofBits, Ideal.ieee, -EReal.coe_mul]; norm_num

variable (x0 : FVec Ideal S16384x4096 .bf16) (x1 : FVec Ideal S32x4096x512 .bf16) (x2 : FVec Ideal S32x128 .f32) (x3 : FVec Ideal S16384x10240 .bf16)

/-- A score before the mask. -/
theorem score_at (h : Fin 16) (t s : Fin 16384) : (val_main_v18 (F := Ideal) x0 x1 x2 (ix3 h t s) : EReal)
    = (∑ e : Fin 256, x0 (ix2 t (⟨h.val * 256 + e.val, by omega⟩ : Fin 4096)) * x1 (ix3 (⟨s.val / 512, by omega⟩ : Fin 32) (⟨h.val * 256 + e.val, by omega⟩ : Fin 4096) (⟨s.val % 512, by omega⟩ : Fin 512)))
      + x2 (ix2 (⟨t.val / 512, by omega⟩ : Fin 32) (⟨h.val, by omega⟩ : Fin 128)) - x2 (ix2 (⟨s.val / 512, by omega⟩ : Fin 32) (⟨h.val, by omega⟩ : Fin 128)) := by
  pointwise [val_main_v18, val_main_v17, val_main_v16, val_main_v15, val_main_v14, val_main_v13, val_main_v12, val_main_v11, val_main_v10, val_main_v9, val_main_v8, val_main_v4, val_main_v3, val_main_v2, val_main_v1, val_main_v0]

/-- A score after the mask. -/
theorem masked_at (h : Fin 16) (t s : Fin 16384) : (val_main_v25 (F := Ideal) x0 x1 x2 (ix3 h t s) : EReal)
    = if s.val ≤ t.val then val_main_v18 (F := Ideal) x0 x1 x2 (ix3 h t s) else (⊥ : EReal) := by
  pointwise [val_main_v25, val_main_call0_v1, val_main_call0_v2, val_main_v24, val_main_v23, val_main_v22, val_main_v21, val_main_v20, val_main_v19, val_main_call0_v0, val_main_cst]
  have hs := s.isLt
  have ht := t.isLt
  rw [WordCmp.cmpi_sle_ofNat (by omega) (by omega)]
  have hw : (id (constant S_ .f32 4286578688#32 : FVec Ideal S_ .f32) ix0 : EReal) = ⊥ := word_neg_inf
  by_cases h : s.val ≤ t.val
  · simp [Scalar.select, h]
  · rw [hw]; simp [Scalar.select, h]

/-- The maximum of a row. -/
theorem max_at (h : Fin 16) (t : Fin 16384) : (val_main_v26 (F := Ideal) x0 x1 x2 (ix2 h t) : EReal)
    = Finset.univ.sup fun s : Fin 16384 => (val_main_v25 (F := Ideal) x0 x1 x2 (ix3 h t s) : EReal) := by
  pointwise [val_main_v26, val_main_cst_0]
  rw [word_neg_inf]; rfl

/-- A weight before it is divided. -/
theorem pow_at (h : Fin 16) (t s : Fin 16384) : (val_main_v31 (F := Ideal) x0 x1 x2 (ix3 h t s) : EReal)
    = Ideal.exp2 (val_main_v25 (F := Ideal) x0 x1 x2 (ix3 h t s) - val_main_v26 (F := Ideal) x0 x1 x2 (ix2 h t)) := by
  rw [← pow_two]
  pointwise [val_main_v31, val_main_v30, val_main_v29, val_main_v28, val_main_v27, val_main_cst_1]
  rw [word_two]

/-- An element of the result, read at its place. -/
theorem out_at (t : Fin 16384) (y : Fin 2048) : (val_main_v39 (F := Ideal) x0 x1 x2 x3 (ix2 t y) : EReal)
    = ∑ s : Fin 16384, x3 (ix2 s (⟨8192 + y.val, by omega⟩ : Fin 10240))
      * Ideal.div (val_main_v31 (F := Ideal) x0 x1 x2 (ix3 (⟨y.val / 128, by omega⟩ : Fin 16) t s)) (∑ l : Fin 16384, (val_main_v31 (F := Ideal) x0 x1 x2 (ix3 (⟨y.val / 128, by omega⟩ : Fin 16) t l) : EReal)) := by
  pointwise [val_main_v39, val_main_v38, val_main_v37, val_main_v36, val_main_v35, val_main_v34, val_main_v33, val_main_v32, val_main_cst_2, val_main_v7, val_main_v6, val_main_v5]

/-- The score of query `t` against key `j` for head `h`: minus infinity for a later key. -/
def score (h : Fin 16) (t : Fin 16384) (j : ℕ) : EReal := if j ≤ t.val then
    (∑ e : Fin 256, x0 (ix2 t (⟨h.val * 256 + e.val, by omega⟩ : Fin 4096)) * x1 (ix3 (Fin.ofNat 32 (j / 512) : Fin 32) (⟨h.val * 256 + e.val, by omega⟩ : Fin 4096) (Fin.ofNat 512 (j % 512) : Fin 512)))
      + x2 (ix2 (Fin.ofNat 32 (t.val / 512) : Fin 32) (⟨h.val, by omega⟩ : Fin 128)) - x2 (ix2 (Fin.ofNat 32 (j / 512) : Fin 32) (⟨h.val, by omega⟩ : Fin 128))
  else ⊥

/-- The masked scores are those. -/
theorem score_eq (h : Fin 16) (t s : Fin 16384) : (val_main_v25 (F := Ideal) x0 x1 x2 (ix3 h t s) : EReal) = score x0 x1 x2 h t s.val := by
  have hs := s.isLt
  have ht := t.isLt
  have e1 : (Fin.ofNat 32 (s.val / 512) : Fin 32) = ⟨s.val / 512, by omega⟩ := Fin.ext (Nat.mod_eq_of_lt (by omega))
  have e2 : (Fin.ofNat 512 (s.val % 512) : Fin 512) = ⟨s.val % 512, by omega⟩ := Fin.ext (Nat.mod_eq_of_lt (by omega))
  have e3 : (Fin.ofNat 32 (t.val / 512) : Fin 32) = ⟨t.val / 512, by omega⟩ := Fin.ext (Nat.mod_eq_of_lt (by omega))
  rw [masked_at, score_at]
  simp only [score, e1, e2, e3]

/-- The values of one column. -/
def value (y : Fin 2048) (j : ℕ) : EReal := x3 (ix2 (Fin.ofNat 16384 j : Fin 16384) (⟨8192 + y.val, by omega⟩ : Fin 10240))

/-- An entry of the value columns. -/
theorem value_eq (y : Fin 2048) (s : Fin 16384) : x3 (ix2 s (⟨8192 + y.val, by omega⟩ : Fin 10240)) = value x3 y s.val := by
  unfold value
  rw [show (Fin.ofNat 16384 s.val : Fin 16384) = s from Fin.ext (Nat.mod_eq_of_lt s.isLt)]

/-- An element of the reference: the softmax of a row of scores against a column of values. -/
theorem out_row (t : Fin 16384) (y : Fin 2048) : (val_main_v39 (F := Ideal) x0 x1 x2 x3 (ix2 t y) : EReal)
    = ∑ j : Fin 16384, value x3 y j.val
      * Ideal.div (Ideal.exp2 (score x0 x1 x2 (⟨y.val / 128, by omega⟩ : Fin 16) t j.val - Finset.univ.sup fun i : Fin 16384 => score x0 x1 x2 (⟨y.val / 128, by omega⟩ : Fin 16) t i.val))
        (∑ l : Fin 16384, Ideal.exp2 (score x0 x1 x2 (⟨y.val / 128, by omega⟩ : Fin 16) t l.val - Finset.univ.sup fun i : Fin 16384 => score x0 x1 x2 (⟨y.val / 128, by omega⟩ : Fin 16) t i.val)) := by
  rw [out_at]
  simp only [pow_at, max_at, score_eq, value_eq]

end Cert.FoxRefIdeal.Row
end
-- ==== Proof.FoxValue.lean ====
module

public import proofs.«01_k».proof.Proof.FoxFold
public import proofs.«01_k».proof.Proof.FoxRef
public import proofs.«01_k».proof.Pre_scores_finite
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Finset (range univ)

namespace Cert.Pre_scores_finite

/-- The precondition's side conditions. -/
theorem facts : Facts where
  bitsLt_bf16_f32 := by decide
  bcast_S_S16384x4096 := by decide +kernel
  bcast_S_S32x4096x512 := by decide +kernel
  bcast_S_S32x128 := by decide +kernel

/-- A number whose absolute value is less than infinity is a real number. -/
theorem real_of_lt {x : EReal} (h : BitVec.ofBool (decide (max x (-x) < Ideal.ofBits .f32 2139095040#32)) = 1#1) : ∃ r : ℝ, x = r := by
  have hi : Ideal.ofBits .f32 2139095040#32 = (⊤ : EReal) := by simp [Ideal.ofBits, Ideal.ieee]
  rw [hi] at h
  induction x using EReal.rec with
  | bot => simp at h
  | top => simp at h
  | coe r => exact ⟨r, rfl⟩

variable [Facts] (x0 : FVec Ideal S16384x4096 .bf16) (x1 : FVec Ideal S32x4096x512 .bf16) (x2 : FVec Ideal S32x128 .f32) (x3 : FVec Ideal S16384x10240 .bf16)

/-- Under the precondition the queries are real numbers, -/
theorem real0 (h : (fn (F := Ideal) x0 x1 x2 x3).1 = fun _ => 1#1) (i : S16384x4096.Idx) : ∃ r : ℝ, (x0 i : EReal) = r := by
  have e := congrFun h i
  simp only [fn] at e
  pointwise at e
  exact real_of_lt e

/-- the keys too, -/
theorem real1 (h : (fn (F := Ideal) x0 x1 x2 x3).2.1 = fun _ => 1#1) (i : S32x4096x512.Idx) : ∃ r : ℝ, (x1 i : EReal) = r := by
  have e := congrFun h i
  simp only [fn] at e
  pointwise at e
  exact real_of_lt e

/-- and the decay numbers. -/
theorem real2 (h : (fn (F := Ideal) x0 x1 x2 x3).2.2 = fun _ => 1#1) (i : S32x128.Idx) : ∃ r : ℝ, (x2 i : EReal) = r := by
  have e := congrFun h i
  simp only [fn] at e
  pointwise at e
  exact real_of_lt e

end Cert.Pre_scores_finite

namespace Cert.FoxIdeal.Attn

open Cert.FoxIdeal Cert.FoxIdeal.Gen Cert.FoxRow

variable (m : (ℓ : Loc nD τ sig) → Buf (Elt Ideal) ℓ)

/-- The arrays at their places. -/
abbrev A0 (c : Dev nD) : FVec Ideal S16384x4096 .bf16 := m ((c : Thread nD τ).loc main_arg0)
/-- the keys, -/
abbrev A1 (c : Dev nD) : FVec Ideal S32x4096x512 .bf16 := m ((c : Thread nD τ).loc main_arg1)
/-- the bases, -/
abbrev A2 (c : Dev nD) : FVec Ideal S32x128 .f32 := m ((c : Thread nD τ).loc main_arg2)
/-- and the array the values lie in. -/
abbrev A3 (c : Dev nD) : FVec Ideal S16384x10240 .bf16 := m ((c : Thread nD τ).loc main_arg3)

variable (c : Dev nD) (t : Fin cfg0.N)

/-- The windows' blocks are parts of the arrays: the decay numbers whole, -/
theorem blk0 (i : Fin 32) (j : Fin 128) : iblk m c 0 t (ix2 i j) = A2 m c (ix2 i j) := by
  blk_simp [iblk]
  blk_ext [idx t]

/-- 1024 queries of one head, -/
theorem blk1 (i : Fin 1024) (e : Fin 256) : iblk m c 1 t (ix2 i e)
    = A0 m c (ix2 (⟨t.val % 16 * 1024 + i.val, by omega⟩ : Fin 16384) (⟨t.val / 16 * 256 + e.val, by have : t.val < 256 := t.isLt.trans_eq N_0; omega⟩ : Fin 4096)) := by
  blk_simp [iblk]
  blk_ext [idx t]

/-- one head's keys, -/
theorem blk2 (i : Fin 32) (e : Fin 256) (k : Fin 512) : iblk m c 2 t (ix3 i e k)
    = A1 m c (ix3 i (⟨t.val / 16 * 256 + e.val, by have : t.val < 256 := t.isLt.trans_eq N_0; omega⟩ : Fin 4096) k) := by
  blk_simp [iblk]
  blk_ext [idx t]

/-- and one head's value columns. -/
theorem blk3 (i : Fin 16384) (d : Fin 128) : iblk m c 3 t (ix2 i d)
    = A3 m c (ix2 i (⟨(64 + t.val / 16) * 128 + d.val, by have : t.val < 256 := t.isLt.trans_eq N_0; omega⟩ : Fin 10240)) := by
  blk_simp [iblk]
  blk_ext [idx t]

open Cert.FoxRefIdeal.Row (score value)

/-- A query times a key, in the arrays. -/
theorem raw_eq (hd : Fin 16) (hh : hd.val = t.val / 16) (k : Fin 2) (x : Fin 512) (r : Fin 16384) (hr : r.val = t.val % 16 * 1024 + (512 * k.val + x.val)) (j : ℕ) :
    raw (iblk m c 1 t) (iblk m c 2 t) k x j
      = ∑ e : Fin 256, (A0 m c (ix2 r (⟨hd.val * 256 + e.val, by omega⟩ : Fin 4096)) : EReal) * (A1 m c (ix3 (Fin.ofNat 32 (j / 512) : Fin 32) (⟨hd.val * 256 + e.val, by omega⟩ : Fin 4096) (Fin.ofNat 512 (j % 512) : Fin 512)) : EReal) := by
  unfold raw
  refine Finset.sum_congr rfl fun e _ => ?_
  rw [blk1, blk2]
  simp only [← hr, ← hh]

/-- A decay number, in the array. -/
theorem rAt_eq' (hd : Fin 16) (hh : hd.val = t.val / 16) (j : ℕ) :
    (rAt (iblk m c 0 t) j (t.val / 16) : EReal) = A2 m c (ix2 (Fin.ofNat 32 j : Fin 32) (⟨hd.val, by omega⟩ : Fin 128)) := by
  unfold rAt
  refine (blk0 m c t _ _).trans ?_
  have e : (Fin.ofNat 128 (t.val / 16) : Fin 128) = ⟨hd.val, by omega⟩ := by
    refine Fin.ext ?_; show t.val / 16 % 128 = hd.val; omega
  rw [e]

section finite
variable (h0 : ∀ i, ∃ r : ℝ, (A0 m c i : EReal) = r) (h1 : ∀ i, ∃ r : ℝ, (A1 m c i : EReal) = r) (h2 : ∀ i, ∃ r : ℝ, (A2 m c i : EReal) = r)

include h2 in
/-- The scores the kernel folds are the reference's: the real decay numbers are added in either order. -/
theorem sc_eq (hd : Fin 16) (hh : hd.val = t.val / 16) (k : Fin 2) (x : Fin 512) (r : Fin 16384) (hr : r.val = t.val % 16 * 1024 + (512 * k.val + x.val)) (j : ℕ) :
    sc (iblk m c 0 t) (iblk m c 1 t) (iblk m c 2 t) (t.val / 16) (t.val % 16) k x j = score (A0 m c) (A1 m c) (A2 m c) hd r j := by
  unfold sc score
  have e : (j ≤ 1024 * (t.val % 16) + 512 * k.val + x.val) = (j ≤ r.val) := by rw [hr]; congr 1; ring
  have e' : 2 * (t.val % 16) + k.val = r.val / 512 := by omega
  rw [raw_eq m c t hd hh k x r hr, rAt_eq' m c t hd hh, rAt_eq' m c t hd hh, e']
  simp only [e]
  obtain ⟨β, hβ⟩ := h2 (ix2 (Fin.ofNat 32 (r.val / 512) : Fin 32) (⟨hd.val, by omega⟩ : Fin 128))
  obtain ⟨γ, hγ⟩ := h2 (ix2 (Fin.ofNat 32 (j / 512) : Fin 32) (⟨hd.val, by omega⟩ : Fin 128))
  rw [hβ, hγ, sub_eq_add_neg, sub_eq_add_neg, add_assoc]

include h0 h1 h2 in
/-- What a point leaves at a place of the output block is the reference there. -/
theorem point4 (i : Fin 1024) (d : Fin 128) : (outAt m c t (ix2 i d) : EReal)
    = Cert.FoxRefIdeal.Read.val_main_v39 (F := Ideal) (A0 m c) (A1 m c) (A2 m c) (A3 m c)
        (ix2 (⟨t.val % 16 * 1024 + i.val, by omega⟩ : Fin 16384) (⟨t.val / 16 * 128 + d.val, by have : t.val < 256 := t.isLt.trans_eq N_0; omega⟩ : Fin 2048)) := by
  have ht : t.val < 256 := t.isLt.trans_eq N_0
  have f0 : ∀ z, ∃ r : ℝ, ((iblk m c 0 t : Vec Ideal S32x128 .f32) z : EReal) = (r : EReal) := fun z => h2 (((cfg0.win 0).blk t).view.emb z)
  have f1 : ∀ z, ∃ r : ℝ, ((iblk m c 1 t : Vec Ideal S1024x256 .bf16) z : EReal) = (r : EReal) := fun z => h0 (((cfg0.win 1).blk t).view.emb z)
  have f2 : ∀ z, ∃ r : ℝ, ((iblk m c 2 t : Vec Ideal S32x256x512 .bf16) z : EReal) = (r : EReal) := fun z => h1 (((cfg0.win 2).blk t).view.emb z)
  have key : ∀ (k : Fin 2) (x : Fin 512) (hx : i.val = 512 * k.val + x.val) (a : Vec Ideal S1x512x256 .f32),
      (∃ m', Inv (sc (iblk m c 0 t) (iblk m c 1 t) (iblk m c 2 t) (t.val / 16) (t.val % 16) k) (col (vFill (iblk m c 3 t))) (2 * (t.val % 16) + k.val + 1) m' a) →
      (k0_pay3 a (ix2 x d) : EReal) = Cert.FoxRefIdeal.Read.val_main_v39 (F := Ideal) (A0 m c) (A1 m c) (A2 m c) (A3 m c)
        (ix2 (⟨t.val % 16 * 1024 + i.val, by omega⟩ : Fin 16384) (⟨t.val / 16 * 128 + d.val, by omega⟩ : Fin 2048)) := by
    rintro k x hx a ⟨m', hI⟩
    rw [row_at _ _ _ _ _ _ f0 f1 f2 k (by omega) (fun j => fill_count _ j) hI x d, Cert.FoxRefIdeal.Row.out_row]
    have hh : (t.val / 16 * 128 + d.val) / 128 = t.val / 16 := by omega
    have hs : ∀ j, sc (iblk m c 0 t) (iblk m c 1 t) (iblk m c 2 t) (t.val / 16) (t.val % 16) k x j
        = score (A0 m c) (A1 m c) (A2 m c) ⟨(t.val / 16 * 128 + d.val) / 128, by omega⟩ (⟨t.val % 16 * 1024 + i.val, by omega⟩ : Fin 16384) j :=
      fun j => sc_eq m c t h2 _ hh k x _ (by simp [hx]) j
    have hv : ∀ j, col (vFill (iblk m c 3 t)) ⟨d.val, by omega⟩ j = value (A3 m c) (⟨t.val / 16 * 128 + d.val, by omega⟩ : Fin 2048) j := by
      intro j
      unfold col value
      refine (fill_at _ _ _).trans ((blk3 m c t _ d).trans ?_)
      refine congrArg (fun z : Fin 10240 => A3 m c (ix2 (Fin.ofNat 16384 j : Fin 16384) z)) (Fin.ext ?_)
      show (64 + t.val / 16) * 128 + d.val = 8192 + (t.val / 16 * 128 + d.val)
      ring
    simp only [hs, hv]
  unfold outAt outF
  rw [(coords_val t).1, (coords_val t).2]
  by_cases hi : i.val < 512
  · rw [dif_pos (show ((ix2 i d : S1024x128.Idx) 0).val < 512 from hi)]
    exact key 0 ⟨i.val, hi⟩ (by simp) _ (end0_inv _ _ _ _ _ _ f0 f1 f2)
  · rw [dif_neg (show ¬ ((ix2 i d : S1024x128.Idx) 0).val < 512 from hi)]
    exact key 1 ⟨i.val - 512, by omega⟩ (by simp; omega) _ (end1_inv _ _ _ _ _ _ f0 f1 f2)

include h0 h1 h2 in
/-- The array after the run is the reference's. -/
theorem final4 : (dats m 0 c).arrAt 4 (cfgs 0).N
    = Cert.FoxRefIdeal.Read.val_main_v39 (F := Ideal) (A0 m c) (A1 m c) (A2 m c) (A3 m c) := by
  refine (dats m 0 c).arrAt_eq_of_covers 4 _ (by decide +kernel) fun t _ y => ?_
  blk_simp
  rw [after0_4]
  obtain ⟨i, d, hy⟩ : ∃ (i : Fin 1024) (d : Fin 128), y = (ix2 i d : S1024x128.Idx) := ⟨y 0, y 1, by funext a; fin_cases a <;> rfl⟩
  subst hy
  refine (point4 m c t h0 h1 h2 i d).trans ?_
  refine congrArg (Cert.FoxRefIdeal.Read.val_main_v39 (F := Ideal) (A0 m c) (A1 m c) (A2 m c) (A3 m c)) ?_
  blk_ext [idx t]

end finite

end Cert.FoxIdeal.Attn
end
-- ==== Proof.lean ====
module

public import proofs.«01_k».proof.Defs
public import proofs.«01_k».proof.Proof.Gen.Swiglu.Frame
public import proofs.«01_k».proof.Proof.Gen.SwigluIdeal.Frame
public import proofs.«01_k».proof.Proof.Gen.SwigluIdeal.Value
public import proofs.«01_k».proof.Proof.Gen.SwigluRefIdeal.Run
public import proofs.«01_k».proof.Proof.Gen.SwigluRefIdeal.Read
public import proofs.«01_k».proof.Proof.Swiglu
public import proofs.«01_k».proof.Proof.Gen.FfnOut.Frame
public import proofs.«01_k».proof.Proof.Gen.FfnOutIdeal.Frame
public import proofs.«01_k».proof.Proof.Gen.FfnOutIdeal.Value
public import proofs.«01_k».proof.Proof.Gen.FfnOutRefIdeal.Run
public import proofs.«01_k».proof.Proof.Gen.FfnOutRefIdeal.Read
public import proofs.«01_k».proof.Proof.FfnOut
public import proofs.«01_k».proof.Proof.Gen.Merge.Frame
public import proofs.«01_k».proof.Proof.Gen.MergeIdeal.Frame
public import proofs.«01_k».proof.Proof.Gen.MergeIdeal.Value
public import proofs.«01_k».proof.Proof.Gen.MergeRefIdeal.Run
public import proofs.«01_k».proof.Proof.Gen.MergeRefIdeal.Read
public import proofs.«01_k».proof.Proof.Merge
public import proofs.«01_k».proof.Proof.Gen.InQ.Frame
public import proofs.«01_k».proof.Proof.Gen.InQIdeal.Frame
public import proofs.«01_k».proof.Proof.Gen.InQIdeal.Value
public import proofs.«01_k».proof.Proof.Gen.InQRefIdeal.Run
public import proofs.«01_k».proof.Proof.Gen.InQRefIdeal.Read
public import proofs.«01_k».proof.Proof.InQ
public import proofs.«01_k».proof.Proof.Gen.InF.Frame
public import proofs.«01_k».proof.Proof.Gen.InFIdeal.Frame
public import proofs.«01_k».proof.Proof.Gen.InFIdeal.Value
public import proofs.«01_k».proof.Proof.Gen.InFRefIdeal.Run
public import proofs.«01_k».proof.Proof.Gen.InFRefIdeal.Read
public import proofs.«01_k».proof.Proof.InF
public import proofs.«01_k».proof.Proof.Gen.InMain.Frame
public import proofs.«01_k».proof.Proof.Gen.InMainIdeal.Frame
public import proofs.«01_k».proof.Proof.Gen.InMainIdeal.Value
public import proofs.«01_k».proof.Proof.Gen.InMainRefIdeal.Run
public import proofs.«01_k».proof.Proof.Gen.InMainRefIdeal.Read
public import proofs.«01_k».proof.Proof.InMain
public import proofs.«01_k».proof.Proof.Gen.InGates.Frame
public import proofs.«01_k».proof.Proof.Gen.InGatesIdeal.Frame
public import proofs.«01_k».proof.Proof.Gen.InGatesIdeal.Value
public import proofs.«01_k».proof.Proof.Gen.InGatesRefIdeal.Run
public import proofs.«01_k».proof.Proof.Gen.InGatesRefIdeal.Read
public import proofs.«01_k».proof.Proof.InGates
public import proofs.«01_k».proof.Proof.Gen.OutProj.Frame
public import proofs.«01_k».proof.Proof.Gen.OutProjIdeal.Frame
public import proofs.«01_k».proof.Proof.Gen.OutProjIdeal.Value
public import proofs.«01_k».proof.Proof.Gen.OutProjRefIdeal.Run
public import proofs.«01_k».proof.Proof.Gen.OutProjRefIdeal.Read
public import proofs.«01_k».proof.Proof.OutProj
public import proofs.«01_k».proof.Proof.Gen.NormFfn.Frame
public import proofs.«01_k».proof.Proof.Gen.NormFfnIdeal.Frame
public import proofs.«01_k».proof.Proof.Gen.NormFfnIdeal.Value
public import proofs.«01_k».proof.Proof.Gen.NormFfnRefIdeal.Run
public import proofs.«01_k».proof.Proof.Gen.NormFfnRefIdeal.Read
public import proofs.«01_k».proof.Proof.NormFfn
public import proofs.«01_k».proof.Proof.Gen.NormMix.Frame
public import proofs.«01_k».proof.Proof.Gen.NormMixIdeal.Frame
public import proofs.«01_k».proof.Proof.Gen.NormMixIdeal.Value
public import proofs.«01_k».proof.Proof.Gen.NormMixRefIdeal.Run
public import proofs.«01_k».proof.Proof.Gen.NormMixRefIdeal.Read
public import proofs.«01_k».proof.Proof.NormMix
public import proofs.«01_k».proof.Proof.Gen.Ada.Frame
public import proofs.«01_k».proof.Proof.Gen.AdaIdeal.Frame
public import proofs.«01_k».proof.Proof.Gen.AdaIdeal.Value
public import proofs.«01_k».proof.Proof.Gen.AdaRefIdeal.Run
public import proofs.«01_k».proof.Proof.Gen.AdaRefIdeal.Read
public import proofs.«01_k».proof.Proof.Ada
public import proofs.«01_k».proof.Proof.Gen.Fox
public import proofs.«01_k».proof.Proof.Gen.FoxRefIdeal.Run
public import proofs.«01_k».proof.Proof.Gen.FoxRefIdeal.Read
public import proofs.«01_k».proof.Proof.FoxFrame
public import proofs.«01_k».proof.Proof.FoxBits
public import proofs.«01_k».proof.Proof.FoxValue
public import Idealize.ShloMosaic.Adequacy
public import Idealize.ShloMosaic.Init

@[expose] public section

set_option maxRecDepth 200000

noncomputable section

namespace Cert.Proof

open Idealize.ShloMosaic Idealize.SL.Sem

/-- The reference of the SwiGLU call runs and leaves its arguments as they were. -/
theorem swiglu_ref_frame : Cert.quiescent_SwigluRefIdeal := fun m g _ =>
  (θ_run Cert.SwigluRefIdeal.defs _ _).mono (fun r h => ⟨fun c => (h c).2, sem_eq_zero_of_no_sems (by decide) r.2⟩)
    (Cert.SwigluRefIdeal.Value.run m g)

/-- For the SwiGLU call, the idealized kernel and the idealized reference leave the same array. -/
theorem swiglu_value : Cert.algebraic_SwigluIdeal_SwigluRefIdeal := by
  pair_intro
  · run_from Cert.SwigluIdeal.Value.run_blocks m g
  · run_from Cert.SwigluRefIdeal.Value.run m' g'
    exact (Cert.SwigluIdeal.Value.final m c).symm

/-- The reference of the last output projection runs and leaves its arguments as they were. -/
theorem ffnOut_ref_frame : Cert.quiescent_FfnOutRefIdeal := fun m g _ =>
  (θ_run Cert.FfnOutRefIdeal.defs _ _).mono (fun r h => ⟨fun c => (h c).2, sem_eq_zero_of_no_sems (by decide) r.2⟩)
    (Cert.FfnOutRefIdeal.Value.run m g)

/-- For the last output projection, the idealized kernel and the idealized reference leave the same array. -/
theorem ffnOut_value : Cert.algebraic_FfnOutIdeal_FfnOutRefIdeal := by
  pair_intro
  · run_from Cert.FfnOutIdeal.Value.run_blocks m g
  · run_from Cert.FfnOutRefIdeal.Value.run m' g'
    exact (Cert.FfnOutIdeal.Value.final m c).symm

/-- The reference of the branch merge runs and leaves its arguments as they were. -/
theorem merge_ref_frame : Cert.quiescent_MergeRefIdeal := fun m g _ =>
  (θ_run Cert.MergeRefIdeal.defs _ _).mono (fun r h => ⟨fun c => (h c).2, sem_eq_zero_of_no_sems (by decide) r.2⟩)
    (Cert.MergeRefIdeal.Value.run m g)

/-- For the branch merge, the idealized kernel and the idealized reference leave the same array. -/
theorem merge_value : Cert.algebraic_MergeIdeal_MergeRefIdeal := by
  pair_intro
  · run_from Cert.MergeIdeal.Value.run_blocks m g
  · run_from Cert.MergeRefIdeal.Value.run m' g'
    exact (Cert.MergeIdeal.Value.final m c).symm

/-- The reference of the input projection for the recurrence's queries runs and leaves its arguments as they were. -/
theorem inQ_ref_frame : Cert.quiescent_InQRefIdeal := fun m g _ =>
  (θ_run Cert.InQRefIdeal.defs _ _).mono (fun r h => ⟨fun c => (h c).2.2, sem_eq_zero_of_no_sems (by decide) r.2⟩)
    (Cert.InQRefIdeal.Value.run m g)

/-- For the input projection for the recurrence's queries, the idealized kernel and the idealized reference leave the same arrays. -/
theorem inQ_value : Cert.algebraic_InQIdeal_InQRefIdeal := by
  pair_intro
  · run_from Cert.InQIdeal.Value.run_blocks m g
  · run_from Cert.InQRefIdeal.Value.run m' g'
    · exact (Cert.InQIdeal.Value.final3 m c).symm
    · exact (Cert.InQIdeal.Value.final4 m c).symm

/-- The reference of the input projection for the recurrence's forget gates runs and leaves its arguments as they were. -/
theorem inF_ref_frame : Cert.quiescent_InFRefIdeal := fun m g _ =>
  (θ_run Cert.InFRefIdeal.defs _ _).mono (fun r h => ⟨fun c => (h c).2.2, sem_eq_zero_of_no_sems (by decide) r.2⟩)
    (Cert.InFRefIdeal.Value.run m g)

/-- For the input projection for the recurrence's forget gates, the idealized kernel and the idealized reference leave the same arrays. -/
theorem inF_value : Cert.algebraic_InFIdeal_InFRefIdeal := by
  pair_intro
  · run_from Cert.InFIdeal.Value.run_blocks m g
  · run_from Cert.InFRefIdeal.Value.run m' g'
    · exact (Cert.InFIdeal.Value.final3 m c).symm
    · exact (Cert.InFIdeal.Value.final4 m c).symm

/-- The reference of the main input projection runs and leaves its arguments as they were. -/
theorem inMain_ref_frame : Cert.quiescent_InMainRefIdeal := fun m g _ =>
  (θ_run Cert.InMainRefIdeal.defs _ _).mono (fun r h => ⟨fun c => (h c).2.2.2.2.2, sem_eq_zero_of_no_sems (by decide) r.2⟩)
    (Cert.InMainRefIdeal.Value.run m g)

/-- For the main input projection, the idealized kernel and the idealized reference leave the same arrays. -/
theorem inMain_value : Cert.algebraic_InMainIdeal_InMainRefIdeal := by
  pair_intro
  · run_from Cert.InMainIdeal.Value.run_blocks m g
  · run_from Cert.InMainRefIdeal.Value.run m' g'
    · exact (Cert.InMainIdeal.Value.final8 m c).symm
    · exact (Cert.InMainIdeal.Value.final9 m c).symm
    · exact (Cert.InMainIdeal.Value.final10 m c).symm
    · exact (Cert.InMainIdeal.Value.final11 m c).symm
    · exact (Cert.InMainIdeal.Value.final12 m c).symm

/-- The reference of the input projection for the gates runs and leaves its arguments as they were. -/
theorem inGates_ref_frame : Cert.quiescent_InGatesRefIdeal := fun m g _ =>
  (θ_run Cert.InGatesRefIdeal.defs _ _).mono (fun r h => ⟨fun c => (h c).2.2, sem_eq_zero_of_no_sems (by decide) r.2⟩)
    (Cert.InGatesRefIdeal.Value.run m g)

/-- For the input projection for the gates, the idealized kernel and the idealized reference leave the same arrays. -/
theorem inGates_value : Cert.algebraic_InGatesIdeal_InGatesRefIdeal := by
  pair_intro
  · run_from Cert.InGatesIdeal.Value.run_blocks m g
  · run_from Cert.InGatesRefIdeal.Value.run m' g'
    · exact (Cert.InGatesIdeal.Value.final3 m c).symm
    · exact (Cert.InGatesIdeal.Value.final4 m c).symm

/-- The reference of the output projection runs and leaves its arguments as they were. -/
theorem outProj_ref_frame : Cert.quiescent_OutProjRefIdeal := fun m g _ =>
  (θ_run Cert.OutProjRefIdeal.defs _ _).mono (fun r h => ⟨fun c => (h c).2.2, sem_eq_zero_of_no_sems (by decide) r.2⟩)
    (Cert.OutProjRefIdeal.Value.run m g)

/-- For the output projection, the idealized kernel and the idealized reference leave the same arrays. -/
theorem outProj_value : Cert.algebraic_OutProjIdeal_OutProjRefIdeal := by
  pair_intro
  · run_from Cert.OutProjIdeal.Value.run_blocks m g
  · run_from Cert.OutProjRefIdeal.Value.run m' g'
    · exact (Cert.OutProjIdeal.Value.final5 m c).symm
    · exact (Cert.OutProjIdeal.Value.final6 m c).symm

/-- The reference of the norm before the feed-forward runs and leaves its arguments as they were. -/
theorem normFfn_ref_frame : Cert.quiescent_NormFfnRefIdeal := fun m g _ =>
  (θ_run Cert.NormFfnRefIdeal.defs _ _).mono (fun r h => ⟨fun c => (h c).2, sem_eq_zero_of_no_sems (by decide) r.2⟩)
    (Cert.NormFfnRefIdeal.Value.run m g)

/-- For the norm before the feed-forward, the idealized kernel and the idealized reference leave the same array. -/
theorem normFfn_value : Cert.algebraic_NormFfnIdeal_NormFfnRefIdeal := by
  pair_intro
  · run_from Cert.NormFfnIdeal.Value.run_blocks m g
  · run_from Cert.NormFfnRefIdeal.Value.run m' g'
    exact (Cert.NormFfnIdeal.Value.final4 m c).symm

/-- The reference of the norm before the mixers runs and leaves its arguments as they were. -/
theorem normMix_ref_frame : Cert.quiescent_NormMixRefIdeal := fun m g _ =>
  (θ_run Cert.NormMixRefIdeal.defs _ _).mono (fun r h => ⟨fun c => (h c).2.2.2, sem_eq_zero_of_no_sems (by decide) r.2⟩)
    (Cert.NormMixRefIdeal.Value.run m g)

/-- For the norm before the mixers, the idealized kernel and the idealized reference leave the same arrays. -/
theorem normMix_value : Cert.algebraic_NormMixIdeal_NormMixRefIdeal := by
  pair_intro
  · run_from Cert.NormMixIdeal.Value.run_blocks m g
  · run_from Cert.NormMixRefIdeal.Value.run m' g'
    · exact (Cert.NormMixIdeal.Value.final6 m c).symm
    · exact (Cert.NormMixIdeal.Value.final7 m c).symm
    · exact (Cert.NormMixIdeal.Value.final8 m c).symm

/-- The reference of the modulation runs and leaves its arguments as they were. -/
theorem ada_ref_frame : Cert.quiescent_AdaRefIdeal := fun m g _ =>
  (θ_run Cert.AdaRefIdeal.defs _ _).mono (fun r h => ⟨fun c => (h c).2, sem_eq_zero_of_no_sems (by decide) r.2⟩)
    (Cert.AdaRefIdeal.Value.run m g)

/-- For the modulation, the idealized kernel and the idealized reference leave the same array. -/
theorem ada_value : Cert.algebraic_AdaIdeal_AdaRefIdeal := by
  pair_intro
  · run_from Cert.AdaIdeal.Value.run_blocks m g
  · run_from Cert.AdaRefIdeal.Value.run m' g'
    exact (Cert.AdaIdeal.Value.final3 m c).symm

/-- The idealized attention call runs and leaves its arguments as they were. -/
theorem fox_ideal_frame : Cert.quiescent_FoxIdeal := fun m g _ =>
  (θ_run Cert.FoxIdeal.defs _ _).mono (fun _ h => ⟨fun c => ⟨(h.1 c).1, (h.1 c).2.1, (h.1 c).2.2.1, (h.1 c).2.2.2.1⟩, h.2⟩)
    (Cert.FoxIdeal.Attn.run_main (F := Ideal) m g)

/-- The reference of the attention call runs and leaves its arguments as they were. -/
theorem fox_ref_frame : Cert.quiescent_FoxRefIdeal := fun m g _ =>
  (θ_run Cert.FoxRefIdeal.defs _ _).mono (fun r h => ⟨fun c => (h c).2, sem_eq_zero_of_no_sems (by decide) r.2⟩)
    (Cert.FoxRefIdeal.Value.run m g)

instance : Cert.Pre_scores_finite.Facts := Cert.Pre_scores_finite.facts

/-- For the attention call, the idealized kernel and the idealized reference leave the same array, if queries, keys and decay
    numbers are finite. -/
theorem fox_value : Cert.algebraic_FoxIdeal_FoxRefIdeal_pre_scores_finite := by
  intro m g m' g' hp hag
  have hfin : ∀ c, (Cert.FoxIdeal.Attn.dats m 0 c).arrAt 4 (Cert.FoxIdeal.cfgs 0).N = _ := fun c =>
    Cert.FoxIdeal.Attn.final4 m c (Cert.Pre_scores_finite.real0 _ _ _ _ (hp c).1) (Cert.Pre_scores_finite.real1 _ _ _ _ (hp c).2.1)
      (Cert.Pre_scores_finite.real2 _ _ _ _ (hp c).2.2)
  refine ⟨fun c => (Cert.FoxIdeal.Attn.dats m 0 c).arrAt 4 (Cert.FoxIdeal.cfgs 0).N, ?_, ?_⟩
  · exact (θ_run Cert.FoxIdeal.defs _ _).mono
      (fun _ h c => ⟨(h.1 c).2.2.2.2, (h.1 c).1, (h.1 c).2.1, (h.1 c).2.2.1, (h.1 c).2.2.2.1⟩) (Cert.FoxIdeal.Attn.run_main (F := Ideal) m g)
  · refine (θ_run Cert.FoxRefIdeal.defs _ _).mono (fun _ h c => ⟨(h c).1.trans ?_, (h c).2⟩) (Cert.FoxRefIdeal.Value.run m' g')
    refine Eq.trans ?_ (hfin c).symm
    rw [Cert.FoxRefIdeal.Read.val_main_v39_eq, (hag c).1, (hag c).2.1, (hag c).2.2.1, (hag c).2.2.2]

/-- Everything claimed. -/
theorem claim : Cert.Claim :=
  ⟨Cert.Swiglu.Gen.facts, Cert.SwigluIdeal.Gen.facts, Cert.SwigluRefIdeal.Gen.facts,
   Cert.FfnOut.Gen.facts, Cert.FfnOutIdeal.Gen.facts, Cert.FfnOutRefIdeal.Gen.facts,
   Cert.Merge.Gen.facts, Cert.MergeIdeal.Gen.facts, Cert.MergeRefIdeal.Gen.facts,
   Cert.InQ.Gen.facts, Cert.InQIdeal.Gen.facts, Cert.InQRefIdeal.Gen.facts,
   Cert.InF.Gen.facts, Cert.InFIdeal.Gen.facts, Cert.InFRefIdeal.Gen.facts,
   Cert.InMain.Gen.facts, Cert.InMainIdeal.Gen.facts, Cert.InMainRefIdeal.Gen.facts,
   Cert.InGates.Gen.facts, Cert.InGatesIdeal.Gen.facts, Cert.InGatesRefIdeal.Gen.facts,
   Cert.OutProj.Gen.facts, Cert.OutProjIdeal.Gen.facts, Cert.OutProjRefIdeal.Gen.facts,
   Cert.NormFfn.Gen.facts, Cert.NormFfnIdeal.Gen.facts, Cert.NormFfnRefIdeal.Gen.facts,
   Cert.NormMix.Gen.facts, Cert.NormMixIdeal.Gen.facts, Cert.NormMixRefIdeal.Gen.facts,
   Cert.Ada.Gen.facts, Cert.AdaIdeal.Gen.facts, Cert.AdaRefIdeal.Gen.facts,
   Cert.Fox.Gen.facts, Cert.FoxIdeal.Gen.facts, Cert.FoxRefIdeal.Gen.facts, Cert.Pre_scores_finite.facts,
   fun m g _ => Cert.Swiglu.Gen.frame m g, fun m g _ => Cert.SwigluIdeal.Gen.frame m g, swiglu_ref_frame,
   fun m g _ => Cert.FfnOut.Gen.frame m g, fun m g _ => Cert.FfnOutIdeal.Gen.frame m g, ffnOut_ref_frame,
   fun m g _ => Cert.Merge.Gen.frame m g, fun m g _ => Cert.MergeIdeal.Gen.frame m g, merge_ref_frame,
   fun m g _ => Cert.InQ.Gen.frame m g, fun m g _ => Cert.InQIdeal.Gen.frame m g, inQ_ref_frame,
   fun m g _ => Cert.InF.Gen.frame m g, fun m g _ => Cert.InFIdeal.Gen.frame m g, inF_ref_frame,
   fun m g _ => Cert.InMain.Gen.frame m g, fun m g _ => Cert.InMainIdeal.Gen.frame m g, inMain_ref_frame,
   fun m g _ => Cert.InGates.Gen.frame m g, fun m g _ => Cert.InGatesIdeal.Gen.frame m g, inGates_ref_frame,
   fun m g _ => Cert.OutProj.Gen.frame m g, fun m g _ => Cert.OutProjIdeal.Gen.frame m g, outProj_ref_frame,
   fun m g _ => Cert.NormFfn.Gen.frame m g, fun m g _ => Cert.NormFfnIdeal.Gen.frame m g, normFfn_ref_frame,
   fun m g _ => Cert.NormMix.Gen.frame m g, fun m g _ => Cert.NormMixIdeal.Gen.frame m g, normMix_ref_frame,
   fun m g _ => Cert.Ada.Gen.frame m g, fun m g _ => Cert.AdaIdeal.Gen.frame m g, ada_ref_frame,
   fox_frame, fox_ideal_frame, fun m g _ => fox_ideal_frame m g trivial, fox_ref_frame, fun m g _ => fox_ref_frame m g trivial,
   trivial, swiglu_value, trivial, ffnOut_value, trivial, merge_value, trivial, inQ_value, trivial, inF_value, trivial, inMain_value, trivial, inGates_value, trivial, outProj_value, trivial, normFfn_value, trivial, normMix_value, trivial, ada_value, trivial, fox_value⟩

end Cert.Proof

end
